-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite [hPre_all_finite : Cert.Pre_all_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite [hPre_all_finite : Cert.Pre_all_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_all_finite [hKernel2Ideal : Cert.Kernel2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_all_finite [hReference2Ideal : Cert.Reference2Ideal.Facts] [hPre_all_finite : Cert.Pre_all_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_all_finite [hKernel2Ideal : Cert.Kernel2Ideal.Facts] [hReference2Ideal : Cert.Reference2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_6) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v141) = v0 c
          ∧ r.2.mem ((c.tc : Thread Cert.Reference2Ideal.nD Cert.Reference2Ideal.τ).loc Cert.Reference2Ideal.main_v142) = v1 c
          ∧ r.2.mem ((c.tc : Thread Cert.Reference2Ideal.nD Cert.Reference2Ideal.τ).loc Cert.Reference2Ideal.main_v143) = v2 c
          ∧ r.2.mem ((c.tc : Thread Cert.Reference2Ideal.nD Cert.Reference2Ideal.τ).loc Cert.Reference2Ideal.main_v99) = v3 c
          ∧ r.2.mem ((c.tc : Thread Cert.Reference2Ideal.nD Cert.Reference2Ideal.τ).loc Cert.Reference2Ideal.main_v144) = v4 c
          ∧ r.2.mem ((c.tc : Thread Cert.Reference2Ideal.nD Cert.Reference2Ideal.τ).loc Cert.Reference2Ideal.main_v146) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_all_finite (hKernel2Ideal := hKernel2Ideal) (hPre_all_finite := hPre_all_finite)
    ∧ quiescent_Reference2Ideal (hReference2Ideal := hReference2Ideal)
    ∧ quiescent_Reference2Ideal_pre_all_finite (hReference2Ideal := hReference2Ideal) (hPre_all_finite := hPre_all_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_all_finite (hKernel2Ideal := hKernel2Ideal) (hReference2Ideal := hReference2Ideal) (hPre_all_finite := hPre_all_finite)
    ∧ preserves_Kernel3_Kernel3Ideal
    ∧ algebraic_Kernel3Ideal_Reference3Ideal (hKernel3Ideal := hKernel3Ideal) (hReference3Ideal := hReference3Ideal)
-- ==== Pre_all_finite.lean ====
abbrev S8x2048x1024 : Shape := ⟨3, ![8, 2048, 1024]⟩
abbrev S1x1024 : Shape := ⟨2, ![1, 1024]⟩
abbrev S1x1024x3592 : Shape := ⟨3, ![1, 1024, 3592]⟩
abbrev S1x3x512 : Shape := ⟨3, ![1, 3, 512]⟩
abbrev S1x512 : Shape := ⟨2, ![1, 512]⟩
abbrev S1x4x1536 : Shape := ⟨3, ![1, 4, 1536]⟩
abbrev S1x4 : Shape := ⟨2, ![1, 4]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3592 : S_.BroadcastsInDim S1x1024x3592 (![] : Fin 0 → Fin S1x1024x3592.rank)
  reducesTo_S1x1024x3592_S_d0_1_2 : S1x1024x3592.ReducesTo [0, 1, 2] S_
  bcast_S_S1x3x512 : S_.BroadcastsInDim S1x3x512 (![] : Fin 0 → Fin S1x3x512.rank)
  reducesTo_S1x3x512_S_d0_1_2 : S1x3x512.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg6 : FVec F S1x4 .f32) (main_arg7 : FVec F S1x4 .f32) (main_v13 : IVec S_ 1) (main_v16 : IVec S1x3x512 1) : IVec S_ 1 :=
  let main_c_5 : IVec S_ 1 := constantI S_ 1 1#1
  let main_v17 : IVec S_ 1 := (fun x v => Host.reduce IntOp.andi x v reducesTo_S1x3x512_S_d0_1_2 h_S_) main_v16 main_c_5
  let main_v18 : IVec S_ 1 := andi main_v13 main_v17
  let main_v19 : FVec F S1x4 .f32 := Host.absf main_arg6
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg7
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S8x2048x1024 .f32) (main_arg1 : FVec F S1x1024 .f32) (main_arg2 : FVec F S1x1024x3592 .f32) (main_arg3 : FVec F S1x3x512 .f32) (main_arg4 : FVec F S1x512 .f32) (main_arg5 : FVec F S1x4x1536 .f32) (main_arg6 : FVec F S1x4 .f32) (main_arg7 : FVec F S1x4 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3592 .f32 := Host.absf main_arg2
  let main_cst_2 : FVec F S_ .f32 := constant S_ .f32 0x7F800000#32
  let main_v10 : FVec F S1x1024x3592 .f32 := broadcastInDim S1x1024x3592 ![] bcast_S_S1x1024x3592 main_cst_2
  let main_v11 : IVec S1x1024x3592 1 := cmpf .olt main_v9 main_v10
  let main_c_3 : IVec S_ 1 := constantI S_ 1 1#1
  let main_v12 : IVec S_ 1 := (fun x v => Host.reduce IntOp.andi x v reducesTo_S1x1024x3592_S_d0_1_2 h_S_) main_v11 main_c_3
  let main_v13 : IVec S_ 1 := andi main_v8 main_v12
  let main_v14 : FVec F S1x3x512 .f32 := Host.absf main_arg3
  let main_cst_4 : FVec F S_ .f32 := constant S_ .f32 0x7F800000#32
  let main_v15 : FVec F S1x3x512 .f32 := broadcastInDim S1x3x512 ![] bcast_S_S1x3x512 main_cst_4
  let main_v16 : IVec S1x3x512 1 := cmpf .olt main_v14 main_v15
  fn_part1 (F := F) main_arg6 main_arg7 main_v13 main_v16
-- ==== Kernel.lean ====
abbrev S8x2048x512 : Shape := ⟨3, ![8, 2048, 512]⟩
abbrev S8x2048x256 : Shape := ⟨3, ![8, 2048, 256]⟩
abbrev S8x32x8x64 : Shape := ⟨4, ![8, 32, 8, 64]⟩
abbrev S1x128 : Shape := ⟨2, ![1, 128]⟩
abbrev S8x256x512 : Shape := ⟨3, ![8, 256, 512]⟩
abbrev S8x256x256 : Shape := ⟨3, ![8, 256, 256]⟩
abbrev S8x4x8x64 : Shape := ⟨4, ![8, 4, 8, 64]⟩
abbrev S8x4x128x128 : Shape := ⟨4, ![8, 4, 128, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x1x1 : Shape := ⟨4, ![1, 1, 1, 1]⟩
abbrev S1x1 : Shape := ⟨2, ![1, 1]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x256, .bf16⟩
  | .hbm, ⟨5, _⟩ => ⟨S8x2048x512, .f32⟩
  | .hbm, ⟨6, _⟩ => ⟨S8x32x8x64, .f32⟩
  | .hbm, ⟨7, _⟩ => ⟨S1x128, .f32⟩
  | .hbm, ⟨8, _⟩ => ⟨S8x2048x512, .bf16⟩
  | .local _ .vmem, ⟨0, _⟩ => ⟨S8x256x512, .f32⟩
  | .local _ .vmem, ⟨1, _⟩ => ⟨S8x256x512, .f32⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S8x256x256, .bf16⟩
  | .local _ .vmem, ⟨9, _⟩ => ⟨S8x256x256, .bf16⟩
  | .local _ .vmem, ⟨10, _⟩ => ⟨S8x256x512, .f32⟩
  | .local _ .vmem, ⟨11, _⟩ => ⟨S8x256x512, .f32⟩
  | .local _ .vmem, ⟨12, _⟩ => ⟨S8x4x8x64, .f32⟩
  | .local _ .vmem, ⟨13, _⟩ => ⟨S8x4x8x64, .f32⟩
  | .local _ .vmem, ⟨14, _⟩ => ⟨S1x128, .f32⟩
  | .local _ .vmem, ⟨15, _⟩ => ⟨S8x256x512, .bf16⟩
  | .local _ .vmem, ⟨16, _⟩ => ⟨S8x256x512, .bf16⟩
  | .local _ .vmem, ⟨17, _⟩ => ⟨S8x4x128x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  v4
def k0_off1 (k0_t1 : Fin k0_t1_loop.trips) : Fin 3 → Nat :=
  let c0_123 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v102 : Index := Scalar.indexCast v5
  let c0_124 : Index := 0#32
  ![0, v102.toNat, 0]
def k0_off2 (k0_t1 : Fin k0_t1_loop.trips) : Fin 3 → Nat :=
  let c0_127 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v110 : Index := Scalar.indexCast v5
  let c128 : Index := 128#32
  ![0, v110.toNat, 128]
def k0_off3 (k0_t1 : Fin k0_t1_loop.trips) : Fin 3 → Nat :=
  let c0_131 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v118 : Index := Scalar.indexCast v5
  let c256 : Index := 256#32
  ![0, v118.toNat, 256]
def k0_off4 (k0_t1 : Fin k0_t1_loop.trips) : Fin 3 → Nat :=
  let c0_135 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v126 : Index := Scalar.indexCast v5
  let c384 : Index := 384#32
  ![0, v126.toNat, 384]
def k0_off5 (k0_t1 : Fin k0_t1_loop.trips) : Fin 3 → Nat :=
  let c1_139 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v134 : Index := Scalar.indexCast v5
  let c0_140 : Index := 0#32
  ![1, v134.toNat, 0]
def k0_off6 (k0_t1 : Fin k0_t1_loop.trips) : Fin 3 → Nat :=
  let c1_144 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v142 : Index := Scalar.indexCast v5
  let c128_145 : Index := 128#32
  ![1, v142.toNat, 128]
def k0_off7 (k0_t1 : Fin k0_t1_loop.trips) : Fin 3 → Nat :=
  let c1_149 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v150 : Index := Scalar.indexCast v5
  let c256_150 : Index := 256#32
  ![1, v150.toNat, 256]
def k0_off8 (k0_t1 : Fin k0_t1_loop.trips) : Fin 3 → Nat :=
  let c1_154 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v158 : Index := Scalar.indexCast v5
  let c384_155 : Index := 384#32
  ![1, v158.toNat, 384]
def k0_off9 (k0_t1 : Fin k0_t1_loop.trips) : Fin 3 → Nat :=
  let c2_159 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v166 : Index := Scalar.indexCast v5
  let c0_160 : Index := 0#32
  ![2, v166.toNat, 0]
def k0_off10 (k0_t1 : Fin k0_t1_loop.trips) : Fin 3 → Nat :=
  let c2_164 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v174 : Index := Scalar.indexCast v5
  let c128_165 : Index := 128#32
  ![2, v174.toNat, 128]
def k0_off11 (k0_t1 : Fin k0_t1_loop.trips) : Fin 3 → Nat :=
  let c2_169 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v182 : Index := Scalar.indexCast v5
  let c256_170 : Index := 256#32
  ![2, v182.toNat, 256]
def k0_off12 (k0_t1 : Fin k0_t1_loop.trips) : Fin 3 → Nat :=
  let c2_174 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v190 : Index := Scalar.indexCast v5
  let c384_175 : Index := 384#32
  ![2, v190.toNat, 384]
def k0_off13 (k0_t1 : Fin k0_t1_loop.trips) : Fin 3 → Nat :=
  let c3_179 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v198 : Index := Scalar.indexCast v5
  let c0_180 : Index := 0#32
  ![3, v198.toNat, 0]
def k0_off14 (k0_t1 : Fin k0_t1_loop.trips) : Fin 3 → Nat :=
  let c3_184 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v206 : Index := Scalar.indexCast v5
  let c128_185 : Index := 128#32
  ![3, v206.toNat, 128]
def k0_off15 (k0_t1 : Fin k0_t1_loop.trips) : Fin 3 → Nat :=
  let c3_189 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v214 : Index := Scalar.indexCast v5
  let c256_190 : Index := 256#32
  ![3, v214.toNat, 256]
def k0_off16 (k0_t1 : Fin k0_t1_loop.trips) : Fin 3 → Nat :=
  let c3_194 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v222 : Index := Scalar.indexCast v5
  let c384_195 : Index := 384#32
  ![3, v222.toNat, 384]
def k0_off17 (k0_t1 : Fin k0_t1_loop.trips) : Fin 3 → Nat :=
  let c4_199 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v230 : Index := Scalar.indexCast v5
  let c0_200 : Index := 0#32
  ![4, v230.toNat, 0]
def k0_off18 (k0_t1 : Fin k0_t1_loop.trips) : Fin 3 → Nat :=
  let c4_204 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v238 : Index := Scalar.indexCast v5
  let c128_205 : Index := 128#32
  ![4, v238.toNat, 128]
def k0_off19 (k0_t1 : Fin k0_t1_loop.trips) : Fin 3 → Nat :=
  let c4_209 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v246 : Index := Scalar.indexCast v5
  let c256_210 : Index := 256#32
  ![4, v246.toNat, 256]
def k0_off20 (k0_t1 : Fin k0_t1_loop.trips) : Fin 3 → Nat :=
  let c4_214 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v254 : Index := Scalar.indexCast v5
  let c384_215 : Index := 384#32
  ![4, v254.toNat, 384]
def k0_off21 (k0_t1 : Fin k0_t1_loop.trips) : Fin 3 → Nat :=
  let c5_219 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v262 : Index := Scalar.indexCast v5
  let c0_220 : Index := 0#32
  ![5, v262.toNat, 0]
def k0_off22 (k0_t1 : Fin k0_t1_loop.trips) : Fin 3 → Nat :=
  let c5_224 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v270 : Index := Scalar.indexCast v5
  let c128_225 : Index := 128#32
  ![5, v270.toNat, 128]
def k0_off23 (k0_t1 : Fin k0_t1_loop.trips) : Fin 3 → Nat :=
  let c5_229 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v278 : Index := Scalar.indexCast v5
  let c256_230 : Index := 256#32
  ![5, v278.toNat, 256]
def k0_off24 (k0_t1 : Fin k0_t1_loop.trips) : Fin 3 → Nat :=
  let c5_234 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v286 : Index := Scalar.indexCast v5
  let c384_235 : Index := 384#32
  ![5, v286.toNat, 384]
def k0_off25 (k0_t1 : Fin k0_t1_loop.trips) : Fin 3 → Nat :=
  let c6_239 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v294 : Index := Scalar.indexCast v5
  let c0_240 : Index := 0#32
  ![6, v294.toNat, 0]
def k0_off26 (k0_t1 : Fin k0_t1_loop.trips) : Fin 3 → Nat :=
  let c6_244 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v302 : Index := Scalar.indexCast v5
  let c128_245 : Index := 128#32
  ![6, v302.toNat, 128]
def k0_off27 (k0_t1 : Fin k0_t1_loop.trips) : Fin 3 → Nat :=
  let c6_249 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v310 : Index := Scalar.indexCast v5
  let c256_250 : Index := 256#32
  ![6, v310.toNat, 256]
def k0_off28 (k0_t1 : Fin k0_t1_loop.trips) : Fin 3 → Nat :=
  let c6_254 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v318 : Index := Scalar.indexCast v5
  let c384_255 : Index := 384#32
  ![6, v318.toNat, 384]
def k0_off29 (k0_t1 : Fin k0_t1_loop.trips) : Fin 3 → Nat :=
  let c7_259 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v326 : Index := Scalar.indexCast v5
  let c0_260 : Index := 0#32
  ![7, v326.toNat, 0]
def k0_off30 (k0_t1 : Fin k0_t1_loop.trips) : Fin 3 → Nat :=
  let c7_264 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v334 : Index := Scalar.indexCast v5
  let c128_265 : Index := 128#32
  ![7, v334.toNat, 128]
def k0_off31 (k0_t1 : Fin k0_t1_loop.trips) : Fin 3 → Nat :=
  let c7_269 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v342 : Index := Scalar.indexCast v5
  let c256_270 : Index := 256#32
  ![7, v342.toNat, 256]
def k0_off32 (k0_t1 : Fin k0_t1_loop.trips) : Fin 3 → Nat :=
  let c7_274 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v350 : Index := Scalar.indexCast v5
  let c384_275 : Index := 384#32
  ![7, v350.toNat, 384]
def k0_off33 (k0_t1 : Fin k0_t1_loop.trips) : Fin 3 → Nat :=
  let c0_439 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v678 : Index := Scalar.indexCast v5
  let c0_440 : Index := 0#32
  ![0, v678.toNat, 0]
def k0_off34 (k0_t1 : Fin k0_t1_loop.trips) : Fin 3 → Nat :=
  let c0_442 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v682 : Index := Scalar.indexCast v5
  let c64 : Index := 64#32
  ![0, v682.toNat, 64]
def k0_off35 (k0_t1 : Fin k0_t1_loop.trips) : Fin 3 → Nat :=
  let c0_444 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v686 : Index := Scalar.indexCast v5
  let c128_445 : Index := 128#32
  ![0, v686.toNat, 128]
def k0_off36 (k0_t1 : Fin k0_t1_loop.trips) : Fin 3 → Nat :=
  let c0_447 : Index := 0#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v690 : Index := Scalar.indexCast v5
  let c192 : Index := 192#32
  ![0, v690.toNat, 192]
def k0_off37 (k0_t1 : Fin k0_t1_loop.trips) : Fin 3 → Nat :=
  let c1_449 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v694 : Index := Scalar.indexCast v5
  let c0_450 : Index := 0#32
  ![1, v694.toNat, 0]
def k0_off38 (k0_t1 : Fin k0_t1_loop.trips) : Fin 3 → Nat :=
  let c1_452 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v698 : Index := Scalar.indexCast v5
  let c64_453 : Index := 64#32
  ![1, v698.toNat, 64]
def k0_off39 (k0_t1 : Fin k0_t1_loop.trips) : Fin 3 → Nat :=
  let c1_455 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v702 : Index := Scalar.indexCast v5
  let c128_456 : Index := 128#32
  ![1, v702.toNat, 128]
def k0_off40 (k0_t1 : Fin k0_t1_loop.trips) : Fin 3 → Nat :=
  let c1_458 : Index := 1#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v706 : Index := Scalar.indexCast v5
  let c192_459 : Index := 192#32
  ![1, v706.toNat, 192]
def k0_off41 (k0_t1 : Fin k0_t1_loop.trips) : Fin 3 → Nat :=
  let c2_461 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v710 : Index := Scalar.indexCast v5
  let c0_462 : Index := 0#32
  ![2, v710.toNat, 0]
def k0_off42 (k0_t1 : Fin k0_t1_loop.trips) : Fin 3 → Nat :=
  let c2_464 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v714 : Index := Scalar.indexCast v5
  let c64_465 : Index := 64#32
  ![2, v714.toNat, 64]
def k0_off43 (k0_t1 : Fin k0_t1_loop.trips) : Fin 3 → Nat :=
  let c2_467 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v718 : Index := Scalar.indexCast v5
  let c128_468 : Index := 128#32
  ![2, v718.toNat, 128]
def k0_off44 (k0_t1 : Fin k0_t1_loop.trips) : Fin 3 → Nat :=
  let c2_470 : Index := 2#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v722 : Index := Scalar.indexCast v5
  let c192_471 : Index := 192#32
  ![2, v722.toNat, 192]
def k0_off45 (k0_t1 : Fin k0_t1_loop.trips) : Fin 3 → Nat :=
  let c3_473 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v726 : Index := Scalar.indexCast v5
  let c0_474 : Index := 0#32
  ![3, v726.toNat, 0]
def k0_off46 (k0_t1 : Fin k0_t1_loop.trips) : Fin 3 → Nat :=
  let c3_476 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v730 : Index := Scalar.indexCast v5
  let c64_477 : Index := 64#32
  ![3, v730.toNat, 64]
def k0_off47 (k0_t1 : Fin k0_t1_loop.trips) : Fin 3 → Nat :=
  let c3_479 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v734 : Index := Scalar.indexCast v5
  let c128_480 : Index := 128#32
  ![3, v734.toNat, 128]
def k0_off48 (k0_t1 : Fin k0_t1_loop.trips) : Fin 3 → Nat :=
  let c3_482 : Index := 3#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v738 : Index := Scalar.indexCast v5
  let c192_483 : Index := 192#32
  ![3, v738.toNat, 192]
def k0_off49 (k0_t1 : Fin k0_t1_loop.trips) : Fin 3 → Nat :=
  let c4_485 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v742 : Index := Scalar.indexCast v5
  let c0_486 : Index := 0#32
  ![4, v742.toNat, 0]
def k0_off50 (k0_t1 : Fin k0_t1_loop.trips) : Fin 3 → Nat :=
  let c4_488 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v746 : Index := Scalar.indexCast v5
  let c64_489 : Index := 64#32
  ![4, v746.toNat, 64]
def k0_off51 (k0_t1 : Fin k0_t1_loop.trips) : Fin 3 → Nat :=
  let c4_491 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v750 : Index := Scalar.indexCast v5
  let c128_492 : Index := 128#32
  ![4, v750.toNat, 128]
def k0_off52 (k0_t1 : Fin k0_t1_loop.trips) : Fin 3 → Nat :=
  let c4_494 : Index := 4#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v754 : Index := Scalar.indexCast v5
  let c192_495 : Index := 192#32
  ![4, v754.toNat, 192]
def k0_off53 (k0_t1 : Fin k0_t1_loop.trips) : Fin 3 → Nat :=
  let c5_497 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v758 : Index := Scalar.indexCast v5
  let c0_498 : Index := 0#32
  ![5, v758.toNat, 0]
def k0_off54 (k0_t1 : Fin k0_t1_loop.trips) : Fin 3 → Nat :=
  let c5_500 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v762 : Index := Scalar.indexCast v5
  let c64_501 : Index := 64#32
  ![5, v762.toNat, 64]
def k0_off55 (k0_t1 : Fin k0_t1_loop.trips) : Fin 3 → Nat :=
  let c5_503 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v766 : Index := Scalar.indexCast v5
  let c128_504 : Index := 128#32
  ![5, v766.toNat, 128]
def k0_off56 (k0_t1 : Fin k0_t1_loop.trips) : Fin 3 → Nat :=
  let c5_506 : Index := 5#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v770 : Index := Scalar.indexCast v5
  let c192_507 : Index := 192#32
  ![5, v770.toNat, 192]
def k0_off57 (k0_t1 : Fin k0_t1_loop.trips) : Fin 3 → Nat :=
  let c6_509 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v774 : Index := Scalar.indexCast v5
  let c0_510 : Index := 0#32
  ![6, v774.toNat, 0]
def k0_off58 (k0_t1 : Fin k0_t1_loop.trips) : Fin 3 → Nat :=
  let c6_512 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v778 : Index := Scalar.indexCast v5
  let c64_513 : Index := 64#32
  ![6, v778.toNat, 64]
def k0_off59 (k0_t1 : Fin k0_t1_loop.trips) : Fin 3 → Nat :=
  let c6_515 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v782 : Index := Scalar.indexCast v5
  let c128_516 : Index := 128#32
  ![6, v782.toNat, 128]
def k0_off60 (k0_t1 : Fin k0_t1_loop.trips) : Fin 3 → Nat :=
  let c6_518 : Index := 6#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v786 : Index := Scalar.indexCast v5
  let c192_519 : Index := 192#32
  ![6, v786.toNat, 192]
def k0_off61 (k0_t1 : Fin k0_t1_loop.trips) : Fin 3 → Nat :=
  let c7_521 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v790 : Index := Scalar.indexCast v5
  let c0_522 : Index := 0#32
  ![7, v790.toNat, 0]
def k0_off62 (k0_t1 : Fin k0_t1_loop.trips) : Fin 3 → Nat :=
  let c7_524 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v794 : Index := Scalar.indexCast v5
  let c64_525 : Index := 64#32
  ![7, v794.toNat, 64]
def k0_off63 (k0_t1 : Fin k0_t1_loop.trips) : Fin 3 → Nat :=
  let c7_527 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v798 : Index := Scalar.indexCast v5
  let c128_528 : Index := 128#32
  ![7, v798.toNat, 128]
def k0_off64 (k0_t1 : Fin k0_t1_loop.trips) : Fin 3 → Nat :=
  let c7_530 : Index := 7#32
  let c0_i32_1 : BitVec 32 := 0#32
  let c1_i32 : BitVec 32 := 1#32
  let arg12 : BitVec 32 := Scf.iv c0_i32_1 c1_i32 k0_t1
  let c64_i32 : BitVec 32 := 64#32
  let v4 : BitVec 32 := Scalar.muli arg12 c64_i32
  let v5 : BitVec 32 := v4
  let v802 : Index := Scalar.indexCast v5
  let c192_531 : Index := 192#32
  ![7, v802.toNat, 192]
def k0_off65 (k0_t1 : Fin k0_t1_loop.trips) : Fin 4 → Nat :=
  let c0_533 : Index := 0#32
  let c0_i32_1 : BitVec 32 := 0#32
  let c1_i32 : BitVec 32 := 1#32
  let arg12 : BitVec 32 := Scf.iv c0_i32_1 c1_i32 k0_t1
  let v806 : Index := Scalar.indexCast arg12
  let c4_534 : Index := 4#32
  let c63 : Index := 63#32
  ![0, v806.toNat, 4, 63]
def k0_off66 (k0_t1 : Fin k0_t1_loop.trips) : Fin 4 → Nat :=
  let c0_539 : Index := 0#32
  let c0_i32_1 : BitVec 32 := 0#32
  let c1_i32 : BitVec 32 := 1#32
  let arg12 : BitVec 32 := Scf.iv c0_i32_1 c1_i32 k0_t1
  let v816 : Index := Scalar.indexCast arg12
  let c5_540 : Index := 5#32
  let c63_541 : Index := 63#32
  ![0, v816.toNat, 5, 63]
def k0_off67 (k0_t1 : Fin k0_t1_loop.trips) : Fin 4 → Nat :=
  let c0_546 : Index := 0#32
  let c0_i32_1 : BitVec 32 := 0#32
  let c1_i32 : BitVec 32 := 1#32
  let arg12 : BitVec 32 := Scf.iv c0_i32_1 c1_i32 k0_t1
  let v826 : Index := Scalar.indexCast arg12
  let c6_547 : Index := 6#32
  let c63_548 : Index := 63#32
  ![0, v826.toNat, 6, 63]
def k0_off68 (k0_t1 : Fin k0_t1_loop.trips) : Fin 4 → Nat :=
  let c0_553 : Index := 0#32
  let c0_i32_1 : BitVec 32 := 0#32
  let c1_i32 : BitVec 32 := 1#32
  let arg12 : BitVec 32 := Scf.iv c0_i32_1 c1_i32 k0_t1
  let v836 : Index := Scalar.indexCast arg12
  let c7_554 : Index := 7#32
  let c63_555 : Index := 63#32
  ![0, v836.toNat, 7, 63]
def k0_off69 (k0_t1 : Fin k0_t1_loop.trips) : Fin 4 → Nat :=
  let c1_560 : Index := 1#32
  let c0_i32_1 : BitVec 32 := 0#32
  let c1_i32 : BitVec 32 := 1#32
  let arg12 : BitVec 32 := Scf.iv c0_i32_1 c1_i32 k0_t1
  let v846 : Index := Scalar.indexCast arg12
  let c4_561 : Index := 4#32
  let c63_562 : Index := 63#32
  ![1, v846.toNat, 4, 63]
def k0_off70 (k0_t1 : Fin k0_t1_loop.trips) : Fin 4 → Nat :=
  let c1_567 : Index := 1#32
  let c0_i32_1 : BitVec 32 := 0#32
  let c1_i32 : BitVec 32 := 1#32
  let arg12 : BitVec 32 := Scf.iv c0_i32_1 c1_i32 k0_t1
  let v856 : Index := Scalar.indexCast arg12
  let c5_568 : Index := 5#32
  let c63_569 : Index := 63#32
  ![1, v856.toNat, 5, 63]
def k0_off71 (k0_t1 : Fin k0_t1_loop.trips) : Fin 4 → Nat :=
  let c1_574 : Index := 1#32
  let c0_i32_1 : BitVec 32 := 0#32
  let c1_i32 : BitVec 32 := 1#32
  let arg12 : BitVec 32 := Scf.iv c0_i32_1 c1_i32 k0_t1
  let v866 : Index := Scalar.indexCast arg12
  let c6_575 : Index := 6#32
  let c63_576 : Index := 63#32
  ![1, v866.toNat, 6, 63]
def k0_off72 (k0_t1 : Fin k0_t1_loop.trips) : Fin 4 → Nat :=
  let c1_581 : Index := 1#32
  let c0_i32_1 : BitVec 32 := 0#32
  let c1_i32 : BitVec 32 := 1#32
  let arg12 : BitVec 32 := Scf.iv c0_i32_1 c1_i32 k0_t1
  let v876 : Index := Scalar.indexCast arg12
  let c7_582 : Index := 7#32
  let c63_583 : Index := 63#32
  ![1, v876.toNat, 7, 63]
def k0_off73 (k0_t1 : Fin k0_t1_loop.trips) : Fin 4 → Nat :=
  let c2_588 : Index := 2#32
  let c0_i32_1 : BitVec 32 := 0#32
  let c1_i32 : BitVec 32 := 1#32
  let arg12 : BitVec 32 := Scf.iv c0_i32_1 c1_i32 k0_t1
  let v886 : Index := Scalar.indexCast arg12
  let c4_589 : Index := 4#32
  let c63_590 : Index := 63#32
  ![2, v886.toNat, 4, 63]
def k0_off74 (k0_t1 : Fin k0_t1_loop.trips) : Fin 4 → Nat :=
  let c2_595 : Index := 2#32
  let c0_i32_1 : BitVec 32 := 0#32
  let c1_i32 : BitVec 32 := 1#32
  let arg12 : BitVec 32 := Scf.iv c0_i32_1 c1_i32 k0_t1
  let v896 : Index := Scalar.indexCast arg12
  let c5_596 : Index := 5#32
  let c63_597 : Index := 63#32
  ![2, v896.toNat, 5, 63]
def k0_off75 (k0_t1 : Fin k0_t1_loop.trips) : Fin 4 → Nat :=
  let c2_602 : Index := 2#32
  let c0_i32_1 : BitVec 32 := 0#32
  let c1_i32 : BitVec 32 := 1#32
  let arg12 : BitVec 32 := Scf.iv c0_i32_1 c1_i32 k0_t1
  let v906 : Index := Scalar.indexCast arg12
  let c6_603 : Index := 6#32
  let c63_604 : Index := 63#32
  ![2, v906.toNat, 6, 63]
def k0_off76 (k0_t1 : Fin k0_t1_loop.trips) : Fin 4 → Nat :=
  let c2_609 : Index := 2#32
  let c0_i32_1 : BitVec 32 := 0#32
  let c1_i32 : BitVec 32 := 1#32
  let arg12 : BitVec 32 := Scf.iv c0_i32_1 c1_i32 k0_t1
  let v916 : Index := Scalar.indexCast arg12
  let c7_610 : Index := 7#32
  let c63_611 : Index := 63#32
  ![2, v916.toNat, 7, 63]
def k0_off77 (k0_t1 : Fin k0_t1_loop.trips) : Fin 4 → Nat :=
  let c3_616 : Index := 3#32
  let c0_i32_1 : BitVec 32 := 0#32
  let c1_i32 : BitVec 32 := 1#32
  let arg12 : BitVec 32 := Scf.iv c0_i32_1 c1_i32 k0_t1
  let v926 : Index := Scalar.indexCast arg12
  let c4_617 : Index := 4#32
  let c63_618 : Index := 63#32
  ![3, v926.toNat, 4, 63]
def k0_off78 (k0_t1 : Fin k0_t1_loop.trips) : Fin 4 → Nat :=
  let c3_623 : Index := 3#32
  let c0_i32_1 : BitVec 32 := 0#32
  let c1_i32 : BitVec 32 := 1#32
  let arg12 : BitVec 32 := Scf.iv c0_i32_1 c1_i32 k0_t1
  let v936 : Index := Scalar.indexCast arg12
  let c5_624 : Index := 5#32
  let c63_625 : Index := 63#32
  ![3, v936.toNat, 5, 63]
def k0_off79 (k0_t1 : Fin k0_t1_loop.trips) : Fin 4 → Nat :=
  let c3_630 : Index := 3#32
  let c0_i32_1 : BitVec 32 := 0#32
  let c1_i32 : BitVec 32 := 1#32
  let arg12 : BitVec 32 := Scf.iv c0_i32_1 c1_i32 k0_t1
  let v946 : Index := Scalar.indexCast arg12
  let c6_631 : Index := 6#32
  let c63_632 : Index := 63#32
  ![3, v946.toNat, 6, 63]
def k0_off80 (k0_t1 : Fin k0_t1_loop.trips) : Fin 4 → Nat :=
  let c3_637 : Index := 3#32
  let c0_i32_1 : BitVec 32 := 0#32
  let c1_i32 : BitVec 32 := 1#32
  let arg12 : BitVec 32 := Scf.iv c0_i32_1 c1_i32 k0_t1
  let v956 : Index := Scalar.indexCast arg12
  let c7_638 : Index := 7#32
  let c63_639 : Index := 63#32
  ![3, v956.toNat, 7, 63]
def k0_off81 (k0_t1 : Fin k0_t1_loop.trips) : Fin 4 → Nat :=
  let c4_644 : Index := 4#32
  let c0_i32_1 : BitVec 32 := 0#32
  let c1_i32 : BitVec 32 := 1#32
  let arg12 : BitVec 32 := Scf.iv c0_i32_1 c1_i32 k0_t1
  let v966 : Index := Scalar.indexCast arg12
  let c4_645 : Index := 4#32
  let c63_646 : Index := 63#32
  ![4, v966.toNat, 4, 63]
def k0_off82 (k0_t1 : Fin k0_t1_loop.trips) : Fin 4 → Nat :=
  let c4_651 : Index := 4#32
  let c0_i32_1 : BitVec 32 := 0#32
  let c1_i32 : BitVec 32 := 1#32
  let arg12 : BitVec 32 := Scf.iv c0_i32_1 c1_i32 k0_t1
  let v976 : Index := Scalar.indexCast arg12
  let c5_652 : Index := 5#32
  let c63_653 : Index := 63#32
  ![4, v976.toNat, 5, 63]
def k0_off83 (k0_t1 : Fin k0_t1_loop.trips) : Fin 4 → Nat :=
  let c4_658 : Index := 4#32
  let c0_i32_1 : BitVec 32 := 0#32
  let c1_i32 : BitVec 32 := 1#32
  let arg12 : BitVec 32 := Scf.iv c0_i32_1 c1_i32 k0_t1
  let v986 : Index := Scalar.indexCast arg12
  let c6_659 : Index := 6#32
  let c63_660 : Index := 63#32
  ![4, v986.toNat, 6, 63]
def k0_off84 (k0_t1 : Fin k0_t1_loop.trips) : Fin 4 → Nat :=
  let c4_665 : Index := 4#32
  let c0_i32_1 : BitVec 32 := 0#32
  let c1_i32 : BitVec 32 := 1#32
  let arg12 : BitVec 32 := Scf.iv c0_i32_1 c1_i32 k0_t1
  let v996 : Index := Scalar.indexCast arg12
  let c7_666 : Index := 7#32
  let c63_667 : Index := 63#32
  ![4, v996.toNat, 7, 63]
def k0_off85 (k0_t1 : Fin k0_t1_loop.trips) : Fin 4 → Nat :=
  let c5_672 : Index := 5#32
  let c0_i32_1 : BitVec 32 := 0#32
  let c1_i32 : BitVec 32 := 1#32
  let arg12 : BitVec 32 := Scf.iv c0_i32_1 c1_i32 k0_t1
  let v1006 : Index := Scalar.indexCast arg12
  let c4_673 : Index := 4#32
  let c63_674 : Index := 63#32
  ![5, v1006.toNat, 4, 63]
def k0_off86 (k0_t1 : Fin k0_t1_loop.trips) : Fin 4 → Nat :=
  let c5_679 : Index := 5#32
  let c0_i32_1 : BitVec 32 := 0#32
  let c1_i32 : BitVec 32 := 1#32
  let arg12 : BitVec 32 := Scf.iv c0_i32_1 c1_i32 k0_t1
  let v1016 : Index := Scalar.indexCast arg12
  let c5_680 : Index := 5#32
  let c63_681 : Index := 63#32
  ![5, v1016.toNat, 5, 63]
def k0_off87 (k0_t1 : Fin k0_t1_loop.trips) : Fin 4 → Nat :=
  let c5_686 : Index := 5#32
  let c0_i32_1 : BitVec 32 := 0#32
  let c1_i32 : BitVec 32 := 1#32
  let arg12 : BitVec 32 := Scf.iv c0_i32_1 c1_i32 k0_t1
  let v1026 : Index := Scalar.indexCast arg12
  let c6_687 : Index := 6#32
  let c63_688 : Index := 63#32
  ![5, v1026.toNat, 6, 63]
def k0_off88 (k0_t1 : Fin k0_t1_loop.trips) : Fin 4 → Nat :=
  let c5_693 : Index := 5#32
  let c0_i32_1 : BitVec 32 := 0#32
  let c1_i32 : BitVec 32 := 1#32
  let arg12 : BitVec 32 := Scf.iv c0_i32_1 c1_i32 k0_t1
  let v1036 : Index := Scalar.indexCast arg12
  let c7_694 : Index := 7#32
  let c63_695 : Index := 63#32
  ![5, v1036.toNat, 7, 63]
def k0_off89 (k0_t1 : Fin k0_t1_loop.trips) : Fin 4 → Nat :=
  let c6_700 : Index := 6#32
  let c0_i32_1 : BitVec 32 := 0#32
  let c1_i32 : BitVec 32 := 1#32
  let arg12 : BitVec 32 := Scf.iv c0_i32_1 c1_i32 k0_t1
  let v1046 : Index := Scalar.indexCast arg12
  let c4_701 : Index := 4#32
  let c63_702 : Index := 63#32
  ![6, v1046.toNat, 4, 63]
def k0_off90 (k0_t1 : Fin k0_t1_loop.trips) : Fin 4 → Nat :=
  let c6_707 : Index := 6#32
  let c0_i32_1 : BitVec 32 := 0#32
  let c1_i32 : BitVec 32 := 1#32
  let arg12 : BitVec 32 := Scf.iv c0_i32_1 c1_i32 k0_t1
  let v1056 : Index := Scalar.indexCast arg12
  let c5_708 : Index := 5#32
  let c63_709 : Index := 63#32
  ![6, v1056.toNat, 5, 63]
def k0_off91 (k0_t1 : Fin k0_t1_loop.trips) : Fin 4 → Nat :=
  let c6_714 : Index := 6#32
  let c0_i32_1 : BitVec 32 := 0#32
  let c1_i32 : BitVec 32 := 1#32
  let arg12 : BitVec 32 := Scf.iv c0_i32_1 c1_i32 k0_t1
  let v1066 : Index := Scalar.indexCast arg12
  let c6_715 : Index := 6#32
  let c63_716 : Index := 63#32
  ![6, v1066.toNat, 6, 63]
def k0_off92 (k0_t1 : Fin k0_t1_loop.trips) : Fin 4 → Nat :=
  let c6_721 : Index := 6#32
  let c0_i32_1 : BitVec 32 := 0#32
  let c1_i32 : BitVec 32 := 1#32
  let arg12 : BitVec 32 := Scf.iv c0_i32_1 c1_i32 k0_t1
  let v1076 : Index := Scalar.indexCast arg12
  let c7_722 : Index := 7#32
  let c63_723 : Index := 63#32
  ![6, v1076.toNat, 7, 63]
def k0_off93 (k0_t1 : Fin k0_t1_loop.trips) : Fin 4 → Nat :=
  let c7_728 : Index := 7#32
  let c0_i32_1 : BitVec 32 := 0#32
  let c1_i32 : BitVec 32 := 1#32
  let arg12 : BitVec 32 := Scf.iv c0_i32_1 c1_i32 k0_t1
  let v1086 : Index := Scalar.indexCast arg12
  let c4_729 : Index := 4#32
  let c63_730 : Index := 63#32
  ![7, v1086.toNat, 4, 63]
def k0_off94 (k0_t1 : Fin k0_t1_loop.trips) : Fin 4 → Nat :=
  let c7_735 : Index := 7#32
  let c0_i32_1 : BitVec 32 := 0#32
  let c1_i32 : BitVec 32 := 1#32
  let arg12 : BitVec 32 := Scf.iv c0_i32_1 c1_i32 k0_t1
  let v1096 : Index := Scalar.indexCast arg12
  let c5_736 : Index := 5#32
  let c63_737 : Index := 63#32
  ![7, v1096.toNat, 5, 63]
def k0_off95 (k0_t1 : Fin k0_t1_loop.trips) : Fin 4 → Nat :=
  let c7_742 : Index := 7#32
  let c0_i32_1 : BitVec 32 := 0#32
  let c1_i32 : BitVec 32 := 1#32
  let arg12 : BitVec 32 := Scf.iv c0_i32_1 c1_i32 k0_t1
  let v1106 : Index := Scalar.indexCast arg12
  let c6_743 : Index := 6#32
  let c63_744 : Index := 63#32
  ![7, v1106.toNat, 6, 63]
def k0_off96 (k0_t1 : Fin k0_t1_loop.trips) : Fin 4 → Nat :=
  let c7_749 : Index := 7#32
  let c0_i32_1 : BitVec 32 := 0#32
  let c1_i32 : BitVec 32 := 1#32
  let arg12 : BitVec 32 := Scf.iv c0_i32_1 c1_i32 k0_t1
  let v1116 : Index := Scalar.indexCast arg12
  let c7_750 : Index := 7#32
  let c63_751 : Index := 63#32
  ![7, v1116.toNat, 7, 63]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x512 : Shape := ⟨3, ![8, 2048, 512]⟩
abbrev S8x2048x256 : Shape := ⟨3, ![8, 2048, 256]⟩
abbrev S8x32x8x64 : Shape := ⟨4, ![8, 32, 8, 64]⟩
abbrev S1x128 : Shape := ⟨2, ![1, 128]⟩
abbrev S8x32x4x1 : Shape := ⟨4, ![8, 32, 4, 1]⟩
abbrev S8x32x4 : Shape := ⟨3, ![8, 32, 4]⟩
abbrev S32x8x4 : Shape := ⟨3, ![32, 8, 4]⟩
abbrev S8x32x64x4x128 : Shape := ⟨5, ![8, 32, 64, 4, 128]⟩
abbrev S32x8x4x64x128 : Shape := ⟨5, ![32, 8, 4, 64, 128]⟩
abbrev S8x32x64x4x64 : Shape := ⟨5, ![8, 32, 64, 4, 64]⟩
abbrev S32x8x4x64x64 : Shape := ⟨5, ![32, 8, 4, 64, 64]⟩
abbrev S_ : Shape := ⟨0, ![]⟩
abbrev S8x4x128x128 : Shape := ⟨4, ![8, 4, 128, 128]⟩
abbrev S1x8x4x64x128 : Shape := ⟨5, ![1, 8, 4, 64, 128]⟩
abbrev S8x4x64x128 : Shape := ⟨4, ![8, 4, 64, 128]⟩
abbrev S1x8x4x64x64 : Shape := ⟨5, ![1, 8, 4, 64, 64]⟩
abbrev S8x4x64x64 : Shape := ⟨4, ![8, 4, 64, 64]⟩
abbrev S1x8x4 : Shape := ⟨3, ![1, 8, 4]⟩
abbrev S8x4 : Shape := ⟨2, ![8, 4]⟩
abbrev S8x4x1x1 : Shape := ⟨4, ![8, 4, 1, 1]⟩
abbrev S8x4x32x64x128 : Shape := ⟨5, ![8, 4, 32, 64, 128]⟩
abbrev S8x4x2048x128 : Shape := ⟨4, ![8, 4, 2048, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x256, .bf16⟩
  | .hbm, ⟨5, _⟩ => ⟨S8x2048x512, .f32⟩
  | .hbm, ⟨6, _⟩ => ⟨S8x32x8x64, .f32⟩
  | .hbm, ⟨7, _⟩ => ⟨S1x128, .f32⟩
  | .hbm, ⟨8, _⟩ => ⟨S8x32x4x1, .f32⟩
  | .hbm, ⟨9, _⟩ => ⟨S8x32x4, .f32⟩
  | .hbm, ⟨10, _⟩ => ⟨S32x8x4, .f32⟩
  | .hbm, ⟨11, _⟩ => ⟨S8x32x64x4x128, .f32⟩
  | .hbm, ⟨12, _⟩ => ⟨S32x8x4x64x128, .f32⟩
  | .hbm, ⟨13, _⟩ => ⟨S8x2048x512, .f32⟩
  | .hbm, ⟨14, _⟩ => ⟨S8x32x64x4x128, .f32⟩
  | .hbm, ⟨15, _⟩ => ⟨S32x8x4x64x128, .f32⟩
  | .hbm, ⟨16, _⟩ => ⟨S8x2048x512, .f32⟩
  | .hbm, ⟨17, _⟩ => ⟨S8x32x64x4x128, .f32⟩
  | .hbm, ⟨18, _⟩ => ⟨S32x8x4x64x128, .f32⟩
  | .hbm, ⟨19, _⟩ => ⟨S8x2048x256, .f32⟩
  | .hbm, ⟨20, _⟩ => ⟨S8x32x64x4x64, .f32⟩
  | .hbm, ⟨21, _⟩ => ⟨S32x8x4x64x64, .f32⟩
  | .hbm, ⟨22, _⟩ => ⟨S8x2048x512, .f32⟩
  | .hbm, ⟨23, _⟩ => ⟨S8x32x64x4x128, .f32⟩
  | .hbm, ⟨24, _⟩ => ⟨S32x8x4x64x128, .f32⟩
  | .hbm, ⟨25, _⟩ => ⟨S_, .f32⟩
  | .hbm, ⟨26, _⟩ => ⟨S8x4x128x128, .f32⟩
  | .hbm, ⟨27, _⟩ => ⟨S_, .f32⟩
  | .hbm, ⟨28, _⟩ => ⟨S32x8x4x64x128, .f32⟩
  | .hbm, ⟨29, _⟩ => ⟨S_, .i32⟩
  | .hbm, ⟨30, _⟩ => ⟨S32x8x4x64x128, .f32⟩
  | .hbm, ⟨31, _⟩ => ⟨S32x8x4x64x128, .f32⟩
  | .hbm, ⟨32, _⟩ => ⟨S32x8x4x64x128, .f32⟩
  | .hbm, ⟨33, _⟩ => ⟨S32x8x4x64x64, .f32⟩
  | .hbm, ⟨34, _⟩ => ⟨S32x8x4x64x128, .f32⟩
  | .hbm, ⟨35, _⟩ => ⟨S32x8x4, .f32⟩
  | .hbm, ⟨36, _⟩ => ⟨S_, .i32⟩
  | .hbm, ⟨37, _⟩ => ⟨S8x4x128x128, .f32⟩
  | .hbm, ⟨38, _⟩ => ⟨S32x8x4x64x128, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x4x64x128, .f32⟩
  | .hbm, ⟨46, _⟩ => ⟨S8x4x64x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x4x64x128, .f32⟩
  | .hbm, ⟨52, _⟩ => ⟨S8x4x64x128, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x8x4x64x128, .f32⟩
  | .hbm, ⟨58, _⟩ => ⟨S8x4x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x8x4x64x64, .f32⟩
  | .hbm, ⟨64, _⟩ => ⟨S8x4x64x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x8x4x64x128, .f32⟩
  | .hbm, ⟨70, _⟩ => ⟨S8x4x64x128, .f32⟩
  | .hbm, ⟨71, _⟩ => ⟨S_, .i32⟩
  | .hbm, ⟨72, _⟩ => ⟨S_, .i32⟩
  | .hbm, ⟨73, _⟩ => ⟨S1x8x4, .f32⟩
  | .hbm, ⟨74, _⟩ => ⟨S8x4, .f32⟩
  | .hbm, ⟨75, _⟩ => ⟨S8x4x64x128, .f32⟩
  | .hbm, ⟨76, _⟩ => ⟨S8x4x64x128, .f32⟩
  | .hbm, ⟨77, _⟩ => ⟨S8x4x64x128, .f32⟩
  | .hbm, ⟨78, _⟩ => ⟨S8x4x64x128, .f32⟩
  | .hbm, ⟨79, _⟩ => ⟨S8x4x64x128, .f32⟩
  | .hbm, ⟨80, _⟩ => ⟨S8x4, .f32⟩
  | .hbm, ⟨81, _⟩ => ⟨S8x4x1x1, .f32⟩
  | .hbm, ⟨82, _⟩ => ⟨S8x4x128x128, .f32⟩
  | .hbm, ⟨83, _⟩ => ⟨S8x4x128x128, .f32⟩
  | .hbm, ⟨84, _⟩ => ⟨S8x4x128x128, .f32⟩
  | .hbm, ⟨85, _⟩ => ⟨S8x4x128x128, .f32⟩
  | .hbm, ⟨86, _⟩ => ⟨S1x8x4x64x128, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S32x8x4x64x128, .f32⟩
  | .hbm, ⟨92, _⟩ => ⟨S_, .i32⟩
  | .hbm, ⟨93, _⟩ => ⟨S_, .i32⟩
  | .hbm, ⟨94, _⟩ => ⟨S8x4x32x64x128, .f32⟩
  | .hbm, ⟨95, _⟩ => ⟨S8x4x2048x128, .f32⟩
  | .hbm, ⟨96, _⟩ => ⟨S8x2048x4x128, .f32⟩
  | .hbm, ⟨97, _⟩ => ⟨S8x2048x4x128, .f32⟩
  | .hbm, ⟨98, _⟩ => ⟨S_, .f32⟩
  | .hbm, ⟨99, _⟩ => ⟨S8x2048x4, .f32⟩
  | .hbm, ⟨100, _⟩ => ⟨S8x2048x4x1, .f32⟩
  | .hbm, ⟨101, _⟩ => ⟨S_, .f32⟩
  | .hbm, ⟨102, _⟩ => ⟨S8x2048x4x1, .f32⟩
  | .hbm, ⟨103, _⟩ => ⟨S8x2048x4x1, .f32⟩
  | .hbm, ⟨104, _⟩ => ⟨S_, .f32⟩
  | .hbm, ⟨105, _⟩ => ⟨S8x2048x4x1, .f32⟩
  | .hbm, ⟨106, _⟩ => ⟨S8x2048x4x1, .f32⟩
  | .hbm, ⟨107, _⟩ => ⟨S8x2048x4x1, .f32⟩
  | .hbm, ⟨108, _⟩ => ⟨S8x2048x4x128, .f32⟩
  | .hbm, ⟨109, _⟩ => ⟨S8x2048x4x128, .f32⟩
  | .hbm, ⟨110, _⟩ => ⟨S128, .f32⟩
  | .hbm, ⟨111, _⟩ => ⟨S1x1x1x128, .f32⟩
  | .hbm, ⟨112, _⟩ => ⟨S8x2048x4x128, .f32⟩
  | .hbm, ⟨113, _⟩ => ⟨S8x2048x4x128, .f32⟩
  | .hbm, ⟨114, _⟩ => ⟨S8x2048x4x128, .f32⟩
  | .hbm, ⟨115, _⟩ => ⟨S8x2048x4x128, .f32⟩
  | .hbm, ⟨116, _⟩ => ⟨S8x2048x512, .f32⟩
  | .hbm, ⟨117, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_c : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev main_v19_8 : Ref sig .tc := ⟨.hbm, 38, rfl⟩
abbrev main_while0c_c_12 : Ref sig .tc := ⟨.hbm, 39, rfl⟩
abbrev main_while0c_v41 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v41 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v42 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v43 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_c_2 : Ref sig .tc := ⟨.hbm, 62, rfl⟩
abbrev main_while0b_call3_v0 : Ref sig .tc := ⟨.hbm, 63, rfl⟩
abbrev main_while0b_v44 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_c_2 : Ref sig .tc := ⟨.hbm, 68, rfl⟩
abbrev main_while0b_call4_v0 : Ref sig .tc := ⟨.hbm, 69, rfl⟩
abbrev main_while0b_v45 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_v0 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_v58 : Ref sig .tc := ⟨.hbm, 91, rfl⟩
abbrev main_while0b_c_12 : Ref sig .tc := ⟨.hbm, 92, rfl⟩
abbrev main_while0b_v59 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_cst_1 : Ref sig .tc := ⟨.hbm, 98, rfl⟩
abbrev main_v24 : Ref sig .tc := ⟨.hbm, 99, rfl⟩
abbrev main_v25 : Ref sig .tc := ⟨.hbm, 100, rfl⟩
abbrev main_cst_2 : Ref sig .tc := ⟨.hbm, 101, rfl⟩
abbrev main_v26 : Ref sig .tc := ⟨.hbm, 102, rfl⟩
abbrev main_v27 : Ref sig .tc := ⟨.hbm, 103, rfl⟩
abbrev main_cst_3 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S1x1024 : Shape := ⟨2, ![1, 1024]⟩
abbrev S1x1024x3592 : Shape := ⟨3, ![1, 1024, 3592]⟩
abbrev S1x3x512 : Shape := ⟨3, ![1, 3, 512]⟩
abbrev S1x512 : Shape := ⟨2, ![1, 512]⟩
abbrev S1x4x1536 : Shape := ⟨3, ![1, 4, 1536]⟩
abbrev S1x4 : Shape := ⟨2, ![1, 4]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024 : Shape := ⟨1, ![1024]⟩
abbrev S1024x3592 : Shape := ⟨2, ![1024, 3592]⟩
abbrev S3x512 : Shape := ⟨2, ![3, 512]⟩
abbrev S4x1536 : Shape := ⟨2, ![4, 1536]⟩
abbrev S4 : Shape := ⟨1, ![4]⟩
abbrev S1x128 : Shape := ⟨2, ![1, 128]⟩
abbrev S1 : Shape := ⟨1, ![1]⟩
abbrev S2 : Shape := ⟨1, ![2]⟩
abbrev S8x2048x512 : Shape := ⟨3, ![8, 2048, 512]⟩
abbrev S8x2048x128 : Shape := ⟨3, ![8, 2048, 128]⟩
abbrev S8x32x8x64 : Shape := ⟨4, ![8, 32, 8, 64]⟩
abbrev S1x512x1024 : Shape := ⟨3, ![1, 512, 1024]⟩
abbrev S1x512x512 : Shape := ⟨3, ![1, 512, 512]⟩
abbrev S1x512x128 : Shape := ⟨3, ![1, 512, 128]⟩
abbrev S1x8x8x64 : Shape := ⟨4, ![1, 8, 8, 64]⟩
abbrev S520x512 : Shape := ⟨2, ![520, 512]⟩
abbrev S8x512 : Shape := ⟨2, ![8, 512]⟩
abbrev S512x1024 : Shape := ⟨2, ![512, 1024]⟩
abbrev S1024x512 : Shape := ⟨2, ![1024, 512]⟩
abbrev S520x128 : Shape := ⟨2, ![520, 128]⟩
abbrev S4x128 : Shape := ⟨2, ![4, 128]⟩
abbrev S512x128 : Shape := ⟨2, ![512, 128]⟩
abbrev S3x128 : Shape := ⟨2, ![3, 128]⟩
abbrev S128x128 : Shape := ⟨2, ![128, 128]⟩
abbrev S1024x8 : Shape := ⟨2, ![1024, 8]⟩
abbrev S512x8 : Shape := ⟨2, ![512, 8]⟩
abbrev S512x120 : Shape := ⟨2, ![512, 120]⟩
abbrev S64x64 : Shape := ⟨2, ![64, 64]⟩
abbrev S64x128 : Shape := ⟨2, ![64, 128]⟩
abbrev S128x512 : Shape := ⟨2, ![128, 512]⟩
abbrev S8x64 : Shape := ⟨2, ![8, 64]⟩
abbrev S1x1x8x64 : Shape := ⟨4, ![1, 1, 8, 64]⟩

abbrev nBuf : Space → Nat
  | .hbm => 71
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3592, .f32⟩
  | .hbm, ⟨3, _⟩ => ⟨S1x3x512, .f32⟩
  | .hbm, ⟨4, _⟩ => ⟨S1x512, .f32⟩
  | .hbm, ⟨5, _⟩ => ⟨S1x4x1536, .f32⟩
  | .hbm, ⟨6, _⟩ => ⟨S1x4, .f32⟩
  | .hbm, ⟨7, _⟩ => ⟨S1x4, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S_, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .bf16⟩
  | .hbm, ⟨38, _⟩ => ⟨S1024, .f32⟩
  | .hbm, ⟨39, _⟩ => ⟨S1x1024, .f32⟩
  | .hbm, ⟨40, _⟩ => ⟨S1024x3592, .f32⟩
  | .hbm, ⟨41, _⟩ => ⟨S1024x3592, .bf16⟩
  | .hbm, ⟨42, _⟩ => ⟨S3x512, .f32⟩
  | .hbm, ⟨43, _⟩ => ⟨S512, .f32⟩
  | .hbm, ⟨44, _⟩ => ⟨S1x512, .f32⟩
  | .hbm, ⟨45, _⟩ => ⟨S4x1536, .f32⟩
  | .hbm, ⟨46, _⟩ => ⟨S4, .f32⟩
  | .hbm, ⟨47, _⟩ => ⟨S_, .f32⟩
  | .hbm, ⟨48, _⟩ => ⟨S1x128, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S1x128, .f32⟩
  | .hbm, ⟨55, _⟩ => ⟨S4, .f32⟩
  | .hbm, ⟨56, _⟩ => ⟨S_, .f32⟩
  | .hbm, ⟨57, _⟩ => ⟨S1x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1x128, .f32⟩
  | .hbm, ⟨64, _⟩ => ⟨S8x2048x512, .bf16⟩
  | .hbm, ⟨65, _⟩ => ⟨S8x2048x512, .f32⟩
  | .hbm, ⟨66, _⟩ => ⟨S8x2048x512, .f32⟩
  | .hbm, ⟨67, _⟩ => ⟨S8x2048x512, .f32⟩
  | .hbm, ⟨68, _⟩ => ⟨S8x2048x512, .f32⟩
  | .hbm, ⟨69, _⟩ => ⟨S8x2048x128, .f32⟩
  | .hbm, ⟨70, _⟩ => ⟨S8x32x8x64, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3592, .bf16⟩
  | .local _ .vmem, ⟨4, _⟩ => ⟨S3x512, .f32⟩
  | .local _ .vmem, ⟨5, _⟩ => ⟨S1x512, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x128, .f32⟩
  | .local _ .vmem, ⟨21, _⟩ => ⟨S1x512x128, .f32⟩
  | .local _ .vmem, ⟨22, _⟩ => ⟨S1x8x8x64, .f32⟩
  | .local _ .vmem, ⟨23, _⟩ => ⟨S1x8x8x64, .f32⟩
  | .local _ .vmem, ⟨24, _⟩ => ⟨S520x512, .f32⟩
  | .local _ .vmem, ⟨25, _⟩ => ⟨S520x512, .f32⟩
  | .local _ .vmem, ⟨26, _⟩ => ⟨S520x512, .f32⟩
  | .local _ .vmem, ⟨27, _⟩ => ⟨S520x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_c_2 : Ref sig .tc := ⟨.hbm, 49, rfl⟩
abbrev main_v19 : Ref sig .tc := ⟨.hbm, 50, rfl⟩
abbrev main_c_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_c_5 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29_0 : Ref sig .tc := ⟨.hbm, 64, rfl⟩
abbrev main_v29_1 : Ref sig .tc := ⟨.hbm, 65, rfl⟩
abbrev main_v29_2 : Ref sig .tc := ⟨.hbm, 66, rfl⟩
abbrev main_v29_3 : Ref sig .tc := ⟨.hbm, 67, rfl⟩
abbrev main_v29_4 : Ref sig .tc := ⟨.hbm, 68, rfl⟩
abbrev main_v29_5 : Ref sig .tc := ⟨.hbm, 69, rfl⟩
abbrev main_v29_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3592 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x8x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x2048x1024 : Shape := ⟨3, ![8, 2048, 1024]⟩
abbrev S1x1024 : Shape := ⟨2, ![1, 1024]⟩
abbrev S1x1024x3592 : Shape := ⟨3, ![1, 1024, 3592]⟩
abbrev S1x3x512 : Shape := ⟨3, ![1, 3, 512]⟩
abbrev S1x512 : Shape := ⟨2, ![1, 512]⟩
abbrev S1x4x1536 : Shape := ⟨3, ![1, 4, 1536]⟩
abbrev S1x4 : Shape := ⟨2, ![1, 4]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3592 : Shape := ⟨2, ![1024, 3592]⟩
abbrev S8x2048x3592 : Shape := ⟨3, ![8, 2048, 3592]⟩
abbrev S8x2048x512 : Shape := ⟨3, ![8, 2048, 512]⟩
abbrev S8x2048x4 : Shape := ⟨3, ![8, 2048, 4]⟩
abbrev S3x512 : Shape := ⟨2, ![3, 512]⟩
abbrev S512 : Shape := ⟨1, ![512]⟩
abbrev S8x2050x512 : Shape := ⟨3, ![8, 2050, 512]⟩
abbrev S1x1x512 : Shape := ⟨3, ![1, 1, 512]⟩
abbrev S8x2048x8x64 : Shape := ⟨4, ![8, 2048, 8, 64]⟩
abbrev S8x64 : Shape := ⟨2, ![8, 64]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩
abbrev S8x2048x1536 : Shape := ⟨3, ![8, 2048, 1536]⟩
abbrev S4x1536 : Shape := ⟨2, ![4, 1536]⟩
abbrev S8x2051x1536 : Shape := ⟨3, ![8, 2051, 1536]⟩
abbrev S1x1536 : Shape := ⟨2, ![1, 1536]⟩
abbrev S1536 : Shape := ⟨1, ![1536]⟩
abbrev S1x1x1536 : Shape := ⟨3, ![1, 1, 1536]⟩
abbrev S8x2048x4x128 : Shape := ⟨4, ![8, 2048, 4, 128]⟩
abbrev S8x2048x4x1 : Shape := ⟨4, ![8, 2048, 4, 1]⟩
abbrev S4 : Shape := ⟨1, ![4]⟩
abbrev S1x1x4 : Shape := ⟨3, ![1, 1, 4]⟩
abbrev S8x32x64x4 : Shape := ⟨4, ![8, 32, 64, 4]⟩
abbrev S8x32x64x8 : Shape := ⟨4, ![8, 32, 64, 8]⟩
abbrev S8x32x8x64 : Shape := ⟨4, ![8, 32, 8, 64]⟩

abbrev nBuf : Space → Nat
  | .hbm => 203
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3592, .f32⟩
  | 3 => ⟨S1x3x512, .f32⟩
  | 4 => ⟨S1x512, .f32⟩
  | 5 => ⟨S1x4x1536, .f32⟩
  | 6 => ⟨S1x4, .f32⟩
  | 7 => ⟨S1x4, .f32⟩
  | 8 => ⟨S1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S1024x3592, .f32⟩
  | 26 => ⟨S8x2048x3592, .f32⟩
  | 27 => ⟨S8x2048x512, .f32⟩
  | 28 => ⟨S8x2048x512, .f32⟩
  | 29 => ⟨S8x2048x512, .f32⟩
  | 30 => ⟨S8x2048x512, .f32⟩
  | 31 => ⟨S8x2048x512, .f32⟩
  | 32 => ⟨S8x2048x512, .f32⟩
  | 33 => ⟨S8x2048x512, .f32⟩
  | 34 => ⟨S8x2048x4, .f32⟩
  | 35 => ⟨S8x2048x4, .f32⟩
  | 36 => ⟨S3x512, .f32⟩
  | 37 => ⟨S512, .f32⟩
  | 38 => ⟨S8x2048x512, .f32⟩
  | 39 => ⟨S_, .i32⟩
  | 40 => ⟨S_, .f32⟩
  | 41 => ⟨S8x2050x512, .f32⟩
  | 42 => ⟨S8x2048x512, .f32⟩
  | 43 => ⟨S1x512, .f32⟩
  | 44 => ⟨S512, .f32⟩
  | 45 => ⟨S1x1x512, .f32⟩
  | 46 => ⟨S8x2048x512, .f32⟩
  | 47 => ⟨S8x2048x512, .f32⟩
  | 48 => ⟨S8x2048x512, .f32⟩
  | 49 => ⟨S1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S8x2048x8x64, .f32⟩
  | 64 => ⟨S8x64, .f32⟩
  | 65 => ⟨S8x2048x8x64, .f32⟩
  | 66 => ⟨S_, .f32⟩
  | 67 => ⟨S8x2048x8, .f32⟩
  | 68 => ⟨S8x2048x8x1, .f32⟩
  | 69 => ⟨S_, .f32⟩
  | 70 => ⟨S8x2048x8x1, .f32⟩
  | 71 => ⟨S8x2048x8x1, .f32⟩
  | 72 => ⟨S_, .f32⟩
  | 73 => ⟨S8x2048x8x1, .f32⟩
  | 74 => ⟨S8x2048x8x1, .f32⟩
  | 75 => ⟨S8x2048x8x1, .f32⟩
  | 76 => ⟨S8x2048x8x64, .f32⟩
  | 77 => ⟨S8x2048x8x64, .f32⟩
  | 78 => ⟨S1x1x8x64, .f32⟩
  | 79 => ⟨S8x2048x8x64, .f32⟩
  | 80 => ⟨S8x2048x8x64, .f32⟩
  | 81 => ⟨S8x2048x512, .f32⟩
  | 82 => ⟨S8x2048x1536, .f32⟩
  | 83 => ⟨S4x1536, .f32⟩
  | 84 => ⟨S_, .i32⟩
  | 85 => ⟨S_, .f32⟩
  | 86 => ⟨S8x2051x1536, .f32⟩
  | 87 => ⟨S8x2048x1536, .f32⟩
  | 88 => ⟨S1x1536, .f32⟩
  | 89 => ⟨S1536, .f32⟩
  | 90 => ⟨S1x1x1536, .f32⟩
  | 91 => ⟨S8x2048x1536, .f32⟩
  | 92 => ⟨S8x2048x1536, .f32⟩
  | 93 => ⟨S8x2048x1536, .f32⟩
  | 94 => ⟨S1x1536, .f32⟩
  | 95 => ⟨S1536, .f32⟩
  | 96 => ⟨S1x1x1536, .f32⟩
  | 97 => ⟨S8x2048x1536, .f32⟩
  | 98 => ⟨S8x2048x1536, .f32⟩
  | 99 => ⟨S8x2048x1536, .f32⟩
  | 100 => ⟨S8x2048x1536, .f32⟩
  | 101 => ⟨S1x1536, .f32⟩
  | 102 => ⟨S1536, .f32⟩
  | 103 => ⟨S1x1x1536, .f32⟩
  | 104 => ⟨S8x2048x1536, .f32⟩
  | 105 => ⟨S8x2048x1536, .f32⟩
  | 106 => ⟨S8x2048x1536, .f32⟩
  | 107 => ⟨S8x2048x1536, .f32⟩
  | 108 => ⟨S1x1536, .f32⟩
  | 109 => ⟨S1536, .f32⟩
  | 110 => ⟨S1x1x1536, .f32⟩
  | 111 => ⟨S8x2048x1536, .f32⟩
  | 112 => ⟨S8x2048x1536, .f32⟩
  | 113 => ⟨S8x2048x1536, .f32⟩
  | 114 => ⟨S8x2048x1536, .f32⟩
  | 115 => ⟨S8x2048x1536, .f32⟩
  | 116 => ⟨S_, .f32⟩
  | 117 => ⟨S8x2048x1536, .f32⟩
  | 118 => ⟨S8x2048x1536, .f32⟩
  | 119 => ⟨S_, .f32⟩
  | 120 => ⟨S8x2048x1536, .f32⟩
  | 121 => ⟨S8x2048x1536, .f32⟩
  | 122 => ⟨S8x2048x1536, .f32⟩
  | 123 => ⟨S8x2048x512, .f32⟩
  | 124 => ⟨S8x2048x512, .f32⟩
  | 125 => ⟨S8x2048x512, .f32⟩
  | 126 => ⟨S8x2048x4x128, .f32⟩
  | 127 => ⟨S8x2048x4x128, .f32⟩
  | _ => ⟨S8x2048x1024, .f32⟩

abbrev hbmTy0_1 (i : Nat) : BufTy := match i % 128 with
  | 0 => ⟨S8x2048x4x128, .f32⟩
  | 1 => ⟨S_, .f32⟩
  | 2 => ⟨S8x2048x4, .f32⟩
  | 3 => ⟨S8x2048x4x1, .f32⟩
  | 4 => ⟨S_, .f32⟩
  | 5 => ⟨S8x2048x4x1, .f32⟩
  | 6 => ⟨S8x2048x4x1, .f32⟩
  | 7 => ⟨S8x2048x4x1, .f32⟩
  | 8 => ⟨S8x2048x4x128, .f32⟩
  | 9 => ⟨S8x2048x4x128, .f32⟩
  | 10 => ⟨S_, .f32⟩
  | 11 => ⟨S8x2048x4x128, .f32⟩
  | 12 => ⟨S8x2048x4x128, .f32⟩
  | 13 => ⟨S8x2048x4x128, .f32⟩
  | 14 => ⟨S_, .f32⟩
  | 15 => ⟨S8x2048x4, .f32⟩
  | 16 => ⟨S8x2048x4x1, .f32⟩
  | 17 => ⟨S_, .f32⟩
  | 18 => ⟨S8x2048x4x1, .f32⟩
  | 19 => ⟨S8x2048x4x1, .f32⟩
  | 20 => ⟨S8x2048x4x1, .f32⟩
  | 21 => ⟨S8x2048x4x128, .f32⟩
  | 22 => ⟨S8x2048x4x128, .f32⟩
  | 23 => ⟨S8x2048x4, .f32⟩
  | 24 => ⟨S8x2048x4, .f32⟩
  | 25 => ⟨S_, .f32⟩
  | 26 => ⟨S8x2048x4, .f32⟩
  | 27 => ⟨S8x2048x4, .f32⟩
  | 28 => ⟨S_, .f32⟩
  | 29 => ⟨S8x2048x4, .f32⟩
  | 30 => ⟨S8x2048x4, .f32⟩
  | 31 => ⟨S4, .f32⟩
  | 32 => ⟨S4, .f32⟩
  | 33 => ⟨S4, .f32⟩
  | 34 => ⟨S4, .f32⟩
  | 35 => ⟨S1x1x4, .f32⟩
  | 36 => ⟨S8x2048x4, .f32⟩
  | 37 => ⟨S8x2048x4, .f32⟩
  | 38 => ⟨S_, .f32⟩
  | 39 => ⟨S8x2048x4, .f32⟩
  | 40 => ⟨S8x2048x4, .f32⟩
  | 41 => ⟨S8x2048x4, .f32⟩
  | 42 => ⟨S8x2048x4, .f32⟩
  | 43 => ⟨S8x2048x4, .i1⟩
  | 44 => ⟨S8x2048x4, .f32⟩
  | 45 => ⟨S8x2048x4, .f32⟩
  | 46 => ⟨S8x2048x4, .f32⟩
  | 47 => ⟨S8x2048x4, .f32⟩
  | 48 => ⟨S8x2048x4, .f32⟩
  | 49 => ⟨S8x2048x4, .f32⟩
  | 50 => ⟨S8x2048x4, .f32⟩
  | 51 => ⟨S8x2048x4, .f32⟩
  | 52 => ⟨S1x1x4, .f32⟩
  | 53 => ⟨S8x2048x4, .f32⟩
  | 54 => ⟨S8x2048x4, .f32⟩
  | 55 => ⟨S8x32x64x4, .f32⟩
  | 56 => ⟨S_, .f32⟩
  | 57 => ⟨S_, .f32⟩
  | 58 => ⟨S8x32x64x4, .f32⟩
  | 59 => ⟨S8x2048x4, .f32⟩
  | 60 => ⟨S8x2048x8, .f32⟩
  | 61 => ⟨S8x2048x512, .bf16⟩
  | 62 => ⟨S8x2048x512, .f32⟩
  | 63 => ⟨S8x2048x512, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S_, .f32⟩
  | 70 => ⟨S8x2048x512, .f32⟩
  | 71 => ⟨S8x2048x512, .f32⟩
  | 72 => ⟨S8x2048x512, .f32⟩
  | 73 => ⟨S8x32x64x8, .f32⟩
  | 74 => ⟨S8x32x8x64, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_5 : Ref sig .tc := ⟨.hbm, 84, rfl⟩
abbrev main_call1_v0 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_6 : Ref sig .tc := ⟨.hbm, 129, rfl⟩
abbrev main_v103 : Ref sig .tc := ⟨.hbm, 130, rfl⟩
abbrev main_v104 : Ref sig .tc := ⟨.hbm, 131, rfl⟩
abbrev main_cst_7 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_8 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_9 : Ref sig .tc := ⟨.hbm, 142, rfl⟩
abbrev main_v113 : Ref sig .tc := ⟨.hbm, 143, rfl⟩
abbrev main_v114 : Ref sig .tc := ⟨.hbm, 144, rfl⟩
abbrev main_cst_10 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_11 : Ref sig .tc := ⟨.hbm, 153, rfl⟩
abbrev main_v122 : Ref sig .tc := ⟨.hbm, 154, rfl⟩
abbrev main_v123 : Ref sig .tc := ⟨.hbm, 155, rfl⟩
abbrev main_cst_12 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_v6 : Ref sig .tc := ⟨.hbm, 173, rfl⟩
abbrev main_call3_v7 : Ref sig .tc := ⟨.hbm, 174, rfl⟩
abbrev main_call3_v8 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_call4_call0_cst : Ref sig .tc := ⟨.hbm, 184, rfl⟩
abbrev main_call4_call0_v0 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_call5_v0 : Ref sig .tc := ⟨.hbm, 192, rfl⟩
abbrev main_call5_v1 : Ref sig .tc := ⟨.hbm, 193, rfl⟩
abbrev main_call5_cst : Ref sig .tc := ⟨.hbm, 194, rfl⟩
abbrev main_call5_v2 : Ref sig .tc := ⟨.hbm, 195, rfl⟩
abbrev main_call5_v3 : Ref sig .tc := ⟨.hbm, 196, rfl⟩
abbrev main_call5_cst_0 : Ref sig .tc := ⟨.hbm, 197, rfl⟩
abbrev main_call5_v4 : Ref sig .tc := ⟨.hbm, 198, rfl⟩
abbrev main_call5_v5 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩

abbrev nD : Nat := 1
abbrev τ : Topo := Topo.v7x

variable {F : FTy → Type} [FloatOps F]
-- ==== Kernel3.lean ====
abbrev S8x2048x512 : Shape := ⟨3, ![8, 2048, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1024x256 : Shape := ⟨2, ![1024, 256]⟩
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S131072x128 : Shape := ⟨2, ![131072, 128]⟩
abbrev S16384x128 : Shape := ⟨2, ![16384, 128]⟩
abbrev S1x128 : Shape := ⟨2, ![1, 128]⟩
abbrev S1024x512 : Shape := ⟨2, ![1024, 512]⟩
abbrev S8192x128 : Shape := ⟨2, ![8192, 128]⟩
abbrev S128x128 : Shape := ⟨2, ![128, 128]⟩
abbrev S128x512 : Shape := ⟨2, ![128, 512]⟩
abbrev S128x1024 : Shape := ⟨2, ![128, 1024]⟩
abbrev S128 : Shape := ⟨1, ![128]⟩
abbrev S128x1 : Shape := ⟨2, ![128, 1]⟩
abbrev S128x256 : Shape := ⟨2, ![128, 256]⟩

abbrev nBuf : Space → Nat
  | .hbm => 30
  | .vmem => 19
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S1024x4, .f32⟩
  | .hbm, ⟨8, _⟩ => ⟨S1024x32, .f32⟩
  | .hbm, ⟨9, _⟩ => ⟨S1024x36, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1024x256, .bf16⟩
  | .hbm, ⟨18, _⟩ => ⟨S16384x512, .bf16⟩
  | .hbm, ⟨19, _⟩ => ⟨S16384x512, .bf16⟩
  | .hbm, ⟨20, _⟩ => ⟨S16384x1024, .f32⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S131072x128, .f32⟩
  | .hbm, ⟨27, _⟩ => ⟨S16384x128, .i32⟩
  | .hbm, ⟨28, _⟩ => ⟨S16384x128, .f32⟩
  | .hbm, ⟨29, _⟩ => ⟨S1x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1024x1024, .f32⟩
  | .local _ .vmem, ⟨10, _⟩ => ⟨S1024x1024, .f32⟩
  | .local _ .vmem, ⟨11, _⟩ => ⟨S8192x128, .f32⟩
  | .local _ .vmem, ⟨12, _⟩ => ⟨S8192x128, .f32⟩
  | .local _ .vmem, ⟨13, _⟩ => ⟨S1024x128, .i32⟩
  | .local _ .vmem, ⟨14, _⟩ => ⟨S1024x128, .i32⟩
  | .local _ .vmem, ⟨15, _⟩ => ⟨S1024x128, .f32⟩
  | .local _ .vmem, ⟨16, _⟩ => ⟨S1024x128, .f32⟩
  | .local _ .vmem, ⟨17, _⟩ => ⟨S1x128, .f32⟩
  | .local _ .vmem, ⟨18, _⟩ => ⟨S1x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S8x2048x512 : Shape := ⟨3, ![8, 2048, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S131072x128 : Shape := ⟨2, ![131072, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x2048x512, .f32⟩
  | .hbm, ⟨8, _⟩ => ⟨S8x2048x512, .f32⟩
  | .hbm, ⟨9, _⟩ => ⟨S8x2048x1024, .f32⟩
  | .hbm, ⟨10, _⟩ => ⟨S1024x1024, .f32⟩
  | .hbm, ⟨11, _⟩ => ⟨S8x2048x1024, .f32⟩
  | .hbm, ⟨12, _⟩ => ⟨S8x2048x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S16384x1024, .f32⟩
  | .hbm, ⟨31, _⟩ => ⟨S16384x1024, .f32⟩
  | .hbm, ⟨32, _⟩ => ⟨S131072x128, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Scan.Trip.lean ====
/- One trip of the kernel's loop over chunks, read as values: for every batch row `b` and head `h` the state it
   stores and the output tile it stores, as functions of the blocks it reads and of the state it finds. -/
module

public import proofs.«01_k».proof.Proof.Gen.KernelIdeal.Loops
public import Idealize.ShloMosaic.Lib.Pipeline.Value

@[expose] public section

set_option maxRecDepth 16384

noncomputable section

namespace Cert.KernelIdeal.Scan

open Cert.KernelIdeal Cert.KernelIdeal.Gen Idealize.ShloMosaic Idealize.ShloMosaic.TcCoe Idealize.SL.Sem

variable {F : FTy → Type} [FloatOps F]

/-! ## Where a trip reads -/

/-- The trip's number, as the kernel computes it. -/
def num (k : Fin k0_t1_loop.trips) : ℕ := (Scalar.indexCast (Scf.iv (0#32 : BitVec 32) 1#32 k) : Index).toNat

/-- The first row of the trip's chunk, as the kernel computes it. -/
def row (k : Fin k0_t1_loop.trips) : ℕ := (Scalar.indexCast (Scalar.muli (Scf.iv (0#32 : BitVec 32) 1#32 k) 64#32) : Index).toNat

theorem num_eq : ∀ k : Fin k0_t1_loop.trips, num k = k.val := by decide +kernel
theorem row_eq : ∀ k : Fin k0_t1_loop.trips, row k = 64 * k.val := by decide +kernel

theorem trips_eq : k0_t1_loop.trips = 4 := by decide +kernel

theorem inb512 (k : Fin k0_t1_loop.trips) (b : Fin 8) (h : Fin 4) :
    ∀ a, (![b.val, row k, 128 * h.val] : Fin 3 → ℕ) a + S1x64x128.size a ≤ S8x256x512.size a := by
  have hk : k.val < 4 := trips_eq ▸ k.isLt
  have hb := b.isLt
  have hh := h.isLt
  intro a
  rw [row_eq]
  fin_cases a
  · show b.val + 1 ≤ 8; omega
  · show 64 * k.val + 64 ≤ 256; omega
  · show 128 * h.val + 128 ≤ 512; omega

theorem inb256 (k : Fin k0_t1_loop.trips) (b : Fin 8) (h : Fin 4) :
    ∀ a, (![b.val, row k, 64 * h.val] : Fin 3 → ℕ) a + S1x64x64.size a ≤ S8x256x256.size a := by
  have hk : k.val < 4 := trips_eq ▸ k.isLt
  have hb := b.isLt
  have hh := h.isLt
  intro a
  rw [row_eq]
  fin_cases a
  · show b.val + 1 ≤ 8; omega
  · show 64 * k.val + 64 ≤ 256; omega
  · show 64 * h.val + 64 ≤ 256; omega

theorem inbGate (k : Fin k0_t1_loop.trips) (b : Fin 8) (h : Fin 4) :
    ∀ a, (![b.val, num k, 4 + h.val, 63] : Fin 4 → ℕ) a + S1x1x1x1.size a ≤ S8x4x8x64.size a := by
  have hk : k.val < 4 := trips_eq ▸ k.isLt
  have hb := b.isLt
  have hh := h.isLt
  intro a
  rw [num_eq]
  fin_cases a
  · show b.val + 1 ≤ 8; omega
  · show k.val + 1 ≤ 4; omega
  · show 4 + h.val + 1 ≤ 8; omega
  · show 63 + 1 ≤ 64; omega

theorem inbState (b : Fin 8) (h : Fin 4) :
    ∀ a, (![b.val, h.val, 0, 0] : Fin 4 → ℕ) a + S1x1x128x128.size a ≤ S8x4x128x128.size a := by
  have hb := b.isLt
  have hh := h.isLt
  intro a
  fin_cases a
  · show b.val + 1 ≤ 8; omega
  · show h.val + 1 ≤ 4; omega
  · show 0 + 128 ≤ 128; omega
  · show 0 + 128 ≤ 128; omega

/-- The rectangle of chunk `k`, batch row `b`, head `h` in a `[8, 256, 512]` block. -/
abbrev rect512 (k : Fin k0_t1_loop.trips) (b : Fin 8) (h : Fin 4) : Rect S8x256x512 :=
  Rect.unit (s := S8x256x512) ![b.val, row k, 128 * h.val] S1x64x128.size (inb512 k b h)

/-- The rectangle of batch row `b`, head `h` in the state. -/
abbrev rectState (b : Fin 8) (h : Fin 4) : Rect S8x4x128x128 :=
  Rect.unit (s := S8x4x128x128) ![b.val, h.val, 0, 0] S1x1x128x128.size (inbState b h)

/-- Chunk `k`, batch row `b`, head `h` of a `[8, 256, 512]` block. -/
def tile {e : EltTy} (x : Vec F S8x256x512 e) (k : Fin k0_t1_loop.trips) (b : Fin 8) (h : Fin 4) : Vec F S1x64x128 e :=
  View.ld x (rect512 k b h)

/-- The same of a `[8, 256, 256]` block. -/
def tileA {e : EltTy} (x : Vec F S8x256x256 e) (k : Fin k0_t1_loop.trips) (b : Fin 8) (h : Fin 4) : Vec F S1x64x64 e :=
  View.ld x (Rect.unit (s := S8x256x256) ![b.val, row k, 64 * h.val] S1x64x64.size (inb256 k b h))

/-- The log decay at the end of the chunk. -/
def gate (x : Vec F S8x4x8x64 .f32) (k : Fin k0_t1_loop.trips) (b : Fin 8) (h : Fin 4) : Vec F S1x1x1x1 .f32 :=
  View.ld x (Rect.unit (s := S8x4x8x64) ![b.val, num k, 4 + h.val, 63] S1x1x1x1.size (inbGate k b h))

/-- The state of one batch row and head. -/
def stateAt (s : Vec F S8x4x128x128 .f32) (b : Fin 8) (h : Fin 4) : Vec F S128x128 .f32 :=
  shapeCast S128x128 (View.ld s (rectState b h)) shapeCasts_S1x1x128x128_S128x128

/-! ## What a trip computes, one batch row and head -/

/-- The two products with the state, one above the other. -/
def stacked (s : Vec F S128x128 .f32) (w qd : Vec F S1x64x128 .bf16) : Vec F S128x128 .f32 :=
  matmul dot_S128x128_S128x128_S128x128_1_0_0_1_n_n none
    (concatenate S128x128 0 [⟨S64x128, shapeCast S64x128 w shapeCasts_S1x64x128_S64x128⟩, ⟨S64x128, shapeCast S64x128 qd shapeCasts_S1x64x128_S64x128⟩]
      concatenates_S64x128_S64x128_S128x128_d0)
    (truncf .bf16 s bitsLt_bf16_f32) (constant S128x128 .f32 0x00000000#32)

/-- The chunk's corrected values. -/
def fresh (s : Vec F S128x128 .f32) (w qd : Vec F S1x64x128 .bf16) (u : Vec F S1x64x128 .f32) : Vec F S64x128 .bf16 :=
  truncf .bf16 (subf (shapeCast S64x128 u shapeCasts_S1x64x128_S64x128)
    (extractStridedSlice S64x128 ![0, 0] (stacked s w qd) slices_S128x128_o0_0_S64x128)) bitsLt_bf16_f32

/-- The state after the chunk. -/
def newState (s : Vec F S128x128 .f32) (w qd kd : Vec F S1x64x128 .bf16) (u : Vec F S1x64x128 .f32) (g : Vec F S1x1x1x1 .f32) :
    Vec F S128x128 .f32 :=
  addf (mulf s (broadcastTo S128x128 (exp (shapeCast S1x1 g shapeCasts_S1x1x1x1_S1x1)) broadcasts_S1x1_S128x128))
    (matmul dot_S64x128_S64x128_S128x128_0_0_1_1_n_n none (shapeCast S64x128 kd shapeCasts_S1x64x128_S64x128) (fresh s w qd u)
      (constant S128x128 .f32 0x00000000#32))

/-- The chunk's attention output before its normalization. -/
def mix (s : Vec F S128x128 .f32) (w qd : Vec F S1x64x128 .bf16) (at_ : Vec F S1x64x64 .bf16) (u : Vec F S1x64x128 .f32) : Vec F S64x128 .f32 :=
  addf (extractStridedSlice S64x128 ![64, 0] (stacked s w qd) slices_S128x128_o64_0_S64x128)
    (matmul dot_S64x64_S64x128_S64x128_1_0_0_1_n_n none (shapeCast S64x64 at_ shapeCasts_S1x64x64_S64x64) (fresh s w qd u)
      (constant S64x128 .f32 0x00000000#32))

/-- The normalization of the rows, with its weight and its gate. -/
def normed (o : Vec F S64x128 .f32) (ng : Vec F S1x128 .f32) (zg : Vec F S1x64x128 .f32) : Vec F S64x128 .bf16 :=
  truncf .bf16 (mulf (mulf
    (mulf o (broadcastTo S64x128 (rsqrt (addf (divf (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 ng broadcasts_S1x128_S64x128)) (shapeCast S64x128 zg shapeCasts_S1x64x128_S64x128)) bitsLt_bf16_f32

/-- The whole weight row, as the kernel loads it. -/
def weight (x : Vec F S1x128 .f32) : Vec F S1x128 .f32 :=
  View.ld x (Rect.unit (s := S1x128) ![0, 0] S1x128.size inb_S1x128_S1x128_0_0)

/-! ## The trip's stores -/

variable (u : Vec F S8x256x512 .f32) (w qd kd : Vec F S8x256x512 .bf16) (at_ : Vec F S8x256x256 .bf16) (zg : Vec F S8x256x512 .f32)
  (gr : Vec F S8x4x8x64 .f32) (ng : Vec F S1x128 .f32)

/-- The store of batch row `b` and head `h` into the state. -/
def pieceS (s : Vec F S8x4x128x128 .f32) (k : Fin k0_t1_loop.trips) (p : Fin 8 × Fin 4) : View.Piece (Elt F) S8x4x128x128 .f32 :=
  ⟨rectState p.1 p.2, shapeCast S1x1x128x128 (newState (stateAt s p.1 p.2) (tile w k p.1 p.2) (tile qd k p.1 p.2) (tile kd k p.1 p.2)
    (tile u k p.1 p.2) (gate gr k p.1 p.2)) shapeCasts_S128x128_S1x1x128x128⟩

/-- The store of batch row `b` and head `h` into the output block. -/
def pieceO (s : Vec F S8x4x128x128 .f32) (k : Fin k0_t1_loop.trips) (p : Fin 8 × Fin 4) : View.Piece (Elt F) S8x256x512 .bf16 :=
  ⟨rect512 k p.1 p.2, shapeCast S1x64x128 (normed (mix (stateAt s p.1 p.2) (tile w k p.1 p.2) (tile qd k p.1 p.2) (tileA at_ k p.1 p.2)
    (tile u k p.1 p.2)) (weight ng) (tile zg k p.1 p.2)) shapeCasts_S64x128_S1x64x128⟩

/-- The batch rows and heads, last first. -/
def chains : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

theorem mem_chains : ∀ p : Fin 8 × Fin 4, p ∈ chains := by decide

section Trip

variable (𝒱 : Variants) (c : Dev nD) (bd : Option 𝒱.V) (i : grid0.Coords)
  (arg2 : Memref sig .tc .vmem S8x256x512 .f32) (harg2 : arg2.IsWhole) (arg3 : Memref sig .tc .vmem S8x256x512 .bf16) (harg3 : arg3.IsWhole)
  (arg4 : Memref sig .tc .vmem S8x256x512 .bf16) (harg4 : arg4.IsWhole) (arg5 : Memref sig .tc .vmem S8x256x512 .bf16) (harg5 : arg5.IsWhole)
  (arg6 : Memref sig .tc .vmem S8x256x256 .bf16) (harg6 : arg6.IsWhole) (arg7 : Memref sig .tc .vmem S8x256x512 .f32) (harg7 : arg7.IsWhole)
  (arg8 : Memref sig .tc .vmem S8x4x8x64 .f32) (harg8 : arg8.IsWhole) (arg9 : Memref sig .tc .vmem S1x128 .f32) (harg9 : arg9.IsWhole)
  (arg10 : Memref sig .tc .vmem S8x256x512 .bf16) (harg10 : arg10.IsWhole) (arg11 : Memref sig .tc .vmem S8x4x128x128 .f32) (harg11 : arg11.IsWhole)
  (X_arg2 : BufTy.Contents (Elt F) arg2.view.ty) (X_arg3 : BufTy.Contents (Elt F) arg3.view.ty) (X_arg4 : BufTy.Contents (Elt F) arg4.view.ty)
  (X_arg5 : BufTy.Contents (Elt F) arg5.view.ty) (X_arg6 : BufTy.Contents (Elt F) arg6.view.ty) (X_arg7 : BufTy.Contents (Elt F) arg7.view.ty)
  (X_arg8 : BufTy.Contents (Elt F) arg8.view.ty) (X_arg9 : BufTy.Contents (Elt F) arg9.view.ty) (k : Fin k0_t1_loop.trips)
  (f10 : BufTy.Contents (Elt F) arg10.view.ty) (f11 : BufTy.Contents (Elt F) arg11.view.ty)

theorem tripL_state : (tripL_k0_t1 (F := F) 𝒱 c bd i arg2 harg2 arg3 harg3 arg4 harg4 arg5 harg5 arg6 harg6 arg7 harg7 arg8 harg8 arg9 harg9 arg10 harg10
      arg11 harg11 X_arg2 X_arg3 X_arg4 X_arg5 X_arg6 X_arg7 X_arg8 X_arg9 k f10 f11).2
    = chains.map (pieceS (arg2.view.read (Elt F) X_arg2) (arg3.view.read (Elt F) X_arg3) (arg4.view.read (Elt F) X_arg4) (arg5.view.read (Elt F) X_arg5)
        (arg8.view.read (Elt F) X_arg8) (arg11.view.read (Elt F) f11) k) := by
  unfold tripL_k0_t1 trip_k0_t1
  rfl

theorem tripL_out : (tripL_k0_t1 (F := F) 𝒱 c bd i arg2 harg2 arg3 harg3 arg4 harg4 arg5 harg5 arg6 harg6 arg7 harg7 arg8 harg8 arg9 harg9 arg10 harg10
      arg11 harg11 X_arg2 X_arg3 X_arg4 X_arg5 X_arg6 X_arg7 X_arg8 X_arg9 k f10 f11).1
    = chains.map (pieceO (arg2.view.read (Elt F) X_arg2) (arg3.view.read (Elt F) X_arg3) (arg4.view.read (Elt F) X_arg4) (arg6.view.read (Elt F) X_arg6)
        (arg7.view.read (Elt F) X_arg7) (arg9.view.read (Elt F) X_arg9) (arg11.view.read (Elt F) f11) k) := by
  unfold tripL_k0_t1 trip_k0_t1
  rfl

end Trip

end Cert.KernelIdeal.Scan
-- ==== Proof.Scan.Loop.lean ====
/- The kernel's loop over the four chunks of a block, read as values: the state after each chunk by recursion, and
   the output block as one function of the index. -/
module

public import proofs.«01_k».proof.Proof.Scan.Trip
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe Idealize.SL.Sem

variable {F : FTy → Type} [FloatOps F]

section Values

variable (u : Vec F S8x256x512 .f32) (w qd kd : Vec F S8x256x512 .bf16) (at_ : Vec F S8x256x256 .bf16) (zg : Vec F S8x256x512 .f32)
  (gr : Vec F S8x4x8x64 .f32) (ng : Vec F S1x128 .f32)

/-- The state after one chunk, of the state before it. -/
def next (k : Fin k0_t1_loop.trips) (s : Vec F S8x4x128x128 .f32) : Vec F S8x4x128x128 .f32 := fun y =>
  newState (stateAt s (y 0) (y 1)) (tile w k (y 0) (y 1)) (tile qd k (y 0) (y 1)) (tile kd k (y 0) (y 1)) (tile u k (y 0) (y 1))
    (gate gr k (y 0) (y 1)) (ix2 (y 2) (y 3))

/-- The state before chunk `k` of the block, of the state before the block. -/
def states (s : Vec F S8x4x128x128 .f32) : ℕ → Vec F S8x4x128x128 .f32
  | 0 => s
  | k + 1 => if h : k < k0_t1_loop.trips then next u w qd kd gr ⟨k, h⟩ (states s k) else states s k

/-- The head a column of the block belongs to. -/
def head (y : S8x256x512.Idx) : Fin 4 := ⟨(y 2).val / 128, by have : (y 2).val < 512 := (y 2).isLt; omega⟩

/-- The chunk a row of the block belongs to. -/
def chunk (y : S8x256x512.Idx) : Fin k0_t1_loop.trips :=
  ⟨(y 1).val / 64, by have : (y 1).val < 256 := (y 1).isLt; rw [trips_eq]; omega⟩

/-- The place of an entry of the block within its chunk and head. -/
def place (y : S8x256x512.Idx) : S64x128.Idx :=
  ix2 ⟨(y 1).val % 64, Nat.mod_lt _ (by decide)⟩ ⟨(y 2).val % 128, Nat.mod_lt _ (by decide)⟩

/-- What the block's loop stores at an entry of the output block, of the state before its chunk. -/
def outAt (s : Vec F S8x4x128x128 .f32) (k : Fin k0_t1_loop.trips) (b : Fin 8) (h : Fin 4) : Vec F S64x128 .bf16 :=
  normed (mix (stateAt s b h) (tile w k b h) (tile qd k b h) (tileA at_ k b h) (tile u k b h)) (weight ng) (tile zg k b h)

/-- The output block, of the state before the block. -/
def outBlock (s : Vec F S8x4x128x128 .f32) : Vec F S8x256x512 .bf16 := fun y =>
  outAt u w qd at_ zg ng (states u w qd kd gr s (chunk y).val) (chunk y) (y 0) (head y) (place y)

theorem emb_rectState (b : Fin 8) (h : Fin 4) (x : S1x1x128x128.Idx) : (rectState b h).emb x = (ix4 b h (x 2) (x 3) : S8x4x128x128.Idx) := by
  have h0 : (x 0).val < 1 := (x 0).isLt
  have h1 : (x 1).val < 1 := (x 1).isLt
  funext a
  fin_cases a
  · exact Fin.ext (show b.val + 1 * (x 0).val = b.val by omega)
  · exact Fin.ext (show h.val + 1 * (x 1).val = h.val by omega)
  · exact Fin.ext (show 0 + 1 * (x 2).val = (x 2).val by omega)
  · exact Fin.ext (show 0 + 1 * (x 3).val = (x 3).val by omega)

theorem pieceS_apply (s : Vec F S8x4x128x128 .f32) (k : Fin k0_t1_loop.trips) (p : Fin 8 × Fin 4) (x : S1x1x128x128.Idx) :
    (pieceS u w qd kd gr s k p).2 x = next u w qd kd gr k s ((rectState p.1 p.2).emb x) := by
  rw [emb_rectState]
  show shapeCast S1x1x128x128 (newState _ _ _ _ _ _) _ x = newState _ _ _ _ _ _ (ix2 (x 2) (x 3))
  pointwise

theorem cover_state (s : Vec F S8x4x128x128 .f32) (k : Fin k0_t1_loop.trips) (y : S8x4x128x128.Idx) :
    ∃ p ∈ chains.map (pieceS u w qd kd gr s k), y ∈ p.1.set := by
  refine ⟨_, List.mem_map.2 ⟨(y 0, y 1), mem_chains _, rfl⟩, ?_⟩
  show y ∈ (rectState (y 0) (y 1)).set
  rw [Rect.mem_set_unit]
  intro a
  fin_cases a
  · exact ⟨Nat.le_refl _, Nat.lt_succ_self _⟩
  · exact ⟨Nat.le_refl _, Nat.lt_succ_self _⟩
  · exact ⟨Nat.zero_le _, Nat.lt_of_lt_of_eq (y 2).isLt (Nat.zero_add _).symm⟩
  · exact ⟨Nat.zero_le _, Nat.lt_of_lt_of_eq (y 3).isLt (Nat.zero_add _).symm⟩

/-- What one chunk's stores leave in the state. -/
theorem canon_state (s : Vec F S8x4x128x128 .f32) (k : Fin k0_t1_loop.trips) :
    View.canon (chains.map (pieceS u w qd kd gr s k)) = next u w qd kd gr k s := by
  funext y
  refine View.canon_apply_of_pieces _ _ (fun p hp => ?_) y (cover_state u w qd kd gr s k y)
  obtain ⟨q, -, rfl⟩ := List.mem_map.1 hp
  exact pieceS_apply u w qd kd gr s k q

theorem pieceO_apply (s : Vec F S8x4x128x128 .f32) (k : Fin k0_t1_loop.trips) (p : Fin 8 × Fin 4) (x : S1x64x128.Idx) :
    (pieceO u w qd at_ zg ng (states u w qd kd gr s k.val) k p).2 x = outBlock u w qd kd at_ zg gr ng s ((rect512 k p.1 p.2).emb x) := by
  obtain ⟨b, h⟩ := p
  have h0 : (x 0).val < 1 := (x 0).isLt
  have h1 : (x 1).val < 64 := (x 1).isLt
  have h2 : (x 2).val < 128 := (x 2).isLt
  have hr := row_eq k
  have e0 : ((rect512 k b h).emb x : S8x256x512.Idx) 0 = b := Fin.ext (show b.val + 1 * (x 0).val = b.val by omega)
  have ec : chunk ((rect512 k b h).emb x) = k := Fin.ext (show (row k + 1 * (x 1).val) / 64 = k.val by omega)
  have eh : head ((rect512 k b h).emb x) = h := Fin.ext (show (128 * h.val + 1 * (x 2).val) / 128 = h.val by omega)
  have ep : place ((rect512 k b h).emb x) = ix2 (x 1) (x 2) := by
    funext a
    fin_cases a
    · exact Fin.ext (show (row k + 1 * (x 1).val) % 64 = (x 1).val by omega)
    · exact Fin.ext (show (128 * h.val + 1 * (x 2).val) % 128 = (x 2).val by omega)
  unfold outBlock
  rw [ec, eh, ep]
  show shapeCast S1x64x128 (outAt u w qd at_ zg ng (states u w qd kd gr s k.val) k b h) _ x
    = outAt u w qd at_ zg ng (states u w qd kd gr s k.val) k (((rect512 k b h).emb x : S8x256x512.Idx) 0) h (ix2 (x 1) (x 2))
  rw [e0]
  pointwise

/-- The stores of the loop's trips before each chunk, into the output block and into the state, last first: each trip
    adds its own, made from the state it finds. -/
structure Trips (v : View sig .tc .vmem S8x4x128x128 .f32) (g : BufTy.Contents (Elt F) v.ty)
    (P : ℕ → List (View.Piece (Elt F) S8x256x512 .bf16) × List (View.Piece (Elt F) S8x4x128x128 .f32)) : Prop where
  out_zero : (P 0).1 = []
  state_zero : (P 0).2 = []
  out_succ : ∀ k : Fin k0_t1_loop.trips, (P (k.val + 1)).1
    = chains.map (pieceO u w qd at_ zg ng (v.read (Elt F) (v.writes (Elt F) g (P k.val).2)) k) ++ (P k.val).1
  state_succ : ∀ k : Fin k0_t1_loop.trips, (P (k.val + 1)).2
    = chains.map (pieceS u w qd kd gr (v.read (Elt F) (v.writes (Elt F) g (P k.val).2)) k) ++ (P k.val).2

theorem states_succ (s : Vec F S8x4x128x128 .f32) (k : Fin k0_t1_loop.trips) :
    states u w qd kd gr s (k.val + 1) = next u w qd kd gr k (states u w qd kd gr s k.val) := dif_pos k.isLt

variable {u w qd kd at_ zg gr ng}
variable {v : View sig .tc .vmem S8x4x128x128 .f32} {g : BufTy.Contents (Elt F) v.ty}
  {P : ℕ → List (View.Piece (Elt F) S8x256x512 .bf16) × List (View.Piece (Elt F) S8x4x128x128 .f32)}

/-- The state before chunk `k`, read off the stores so far. -/
theorem Trips.state (hP : Trips u w qd kd at_ zg gr ng v g P) : ∀ k : ℕ, k ≤ k0_t1_loop.trips →
    v.read (Elt F) (v.writes (Elt F) g (P k).2) = states u w qd kd gr (v.read (Elt F) g) k
  | 0, _ => by rw [hP.state_zero]; rfl
  | k + 1, hk => by
    rw [hP.state_succ ⟨k, hk⟩, View.writes_append, hP.state k (Nat.le_of_succ_le hk),
      View.read_writes_eq_canon _ _ _ (cover_state _ _ _ _ _ _ _), canon_state]
    exact (states_succ _ _ _ _ _ _ ⟨k, hk⟩).symm

/-- Every store into the output block puts the block's own values. -/
theorem Trips.pieces (hP : Trips u w qd kd at_ zg gr ng v g P) : ∀ k : ℕ, k ≤ k0_t1_loop.trips → ∀ p ∈ (P k).1, ∀ x : p.1.shape.Idx,
    p.2 x = outBlock u w qd kd at_ zg gr ng (v.read (Elt F) g) (p.1.emb x)
  | 0, _ => fun p hp => absurd (hP.out_zero ▸ hp) List.not_mem_nil
  | k + 1, hk => by
    rw [hP.out_succ ⟨k, hk⟩, hP.state k (Nat.le_of_succ_le hk)]
    intro p hp
    rcases List.mem_append.1 hp with hp | hp
    · obtain ⟨q, -, rfl⟩ := List.mem_map.1 hp
      exact pieceO_apply _ _ _ _ _ _ _ _ _ ⟨k, hk⟩ q
    · exact hP.pieces k (Nat.le_of_succ_le hk) p hp

/-- An entry of the block is in the store of its own chunk, batch and head. -/
theorem mem_rect512 (y : S8x256x512.Idx) : y ∈ (rect512 (chunk y) (y 0) (head y)).set := by
  have h1 : (y 1).val < 256 := (y 1).isLt
  have h2 : (y 2).val < 512 := (y 2).isLt
  have hr : row (chunk y) = 64 * ((y 1).val / 64) := row_eq (chunk y)
  show y ∈ (Rect.unit (s := S8x256x512) _ _ _).set
  rw [Rect.mem_set_unit]
  intro a
  fin_cases a
  · exact ⟨Nat.le_refl _, Nat.lt_succ_self _⟩
  · show row (chunk y) ≤ (y 1).val ∧ (y 1).val < row (chunk y) + 64
    omega
  · show 128 * ((y 2).val / 128) ≤ (y 2).val ∧ (y 2).val < 128 * ((y 2).val / 128) + 128
    omega

/-- The stores of the first trips cover the rows of their chunks. -/
theorem Trips.cover (hP : Trips u w qd kd at_ zg gr ng v g P) : ∀ k : ℕ, k ≤ k0_t1_loop.trips → ∀ y : S8x256x512.Idx, (chunk y).val < k →
    ∃ p ∈ (P k).1, y ∈ p.1.set
  | 0, _ => fun y hy => absurd hy (Nat.not_lt_zero _)
  | k + 1, hk => by
    intro y hy
    rw [hP.out_succ ⟨k, hk⟩]
    by_cases h : (chunk y).val < k
    · obtain ⟨p, hp, hm⟩ := hP.cover k (Nat.le_of_succ_le hk) y h
      exact ⟨p, List.mem_append_right _ hp, hm⟩
    · have e : (⟨k, hk⟩ : Fin k0_t1_loop.trips) = chunk y := Fin.ext (show k = (chunk y).val by omega)
      rw [e]
      exact ⟨_, List.mem_append_left _ (List.mem_map.2 ⟨(y 0, head y), mem_chains _, rfl⟩), mem_rect512 y⟩

/-- The state after the block. -/
theorem Trips.state_last (hP : Trips u w qd kd at_ zg gr ng v g P) :
    v.read (Elt F) (v.writes (Elt F) g (P k0_t1_loop.trips).2) = states u w qd kd gr (v.read (Elt F) g) 4 :=
  (hP.state _ (Nat.le_refl _)).trans (by rw [trips_eq])

/-- The output block after the loop, whatever it held before. -/
theorem Trips.out_last (hP : Trips u w qd kd at_ zg gr ng v g P) (o : View sig .tc .vmem S8x256x512 .bf16) (f : BufTy.Contents (Elt F) o.ty) :
    o.read (Elt F) (o.writes (Elt F) f (P k0_t1_loop.trips).1) = outBlock u w qd kd at_ zg gr ng (v.read (Elt F) g) := by
  have hc : ∀ y : S8x256x512.Idx, ∃ p ∈ (P k0_t1_loop.trips).1, y ∈ p.1.set := fun y => hP.cover _ (Nat.le_refl _) y (chunk y).isLt
  rw [View.read_writes_eq_canon _ _ _ hc]
  funext y
  exact View.canon_apply_of_pieces _ _ (fun p hp => hP.pieces _ (Nat.le_refl _) p hp) y (hc y)

end Values

/-- The stores the kernel's loop makes are such a list. -/
theorem trips_loop (𝒱 : Variants) (c : Dev nD) (bd : Option 𝒱.V) (i : grid0.Coords)
    (arg2 : Memref sig .tc .vmem S8x256x512 .f32) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x256x512 .bf16) (harg5 : arg5.IsWhole)
    (arg6 : Memref sig .tc .vmem S8x256x256 .bf16) (harg6 : arg6.IsWhole) (arg7 : Memref sig .tc .vmem S8x256x512 .f32) (harg7 : arg7.IsWhole)
    (arg8 : Memref sig .tc .vmem S8x4x8x64 .f32) (harg8 : arg8.IsWhole) (arg9 : Memref sig .tc .vmem S1x128 .f32) (harg9 : arg9.IsWhole)
    (arg10 : Memref sig .tc .vmem S8x256x512 .bf16) (harg10 : arg10.IsWhole) (arg11 : Memref sig .tc .vmem S8x4x128x128 .f32) (harg11 : arg11.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty)
    (G10 : BufTy.Contents (Elt F) arg10.view.ty) (G11 : BufTy.Contents (Elt F) arg11.view.ty) :
    Trips (arg2.view.read (Elt F) X2) (arg3.view.read (Elt F) X3) (arg4.view.read (Elt F) X4) (arg5.view.read (Elt F) X5)
      (arg6.view.read (Elt F) X6) (arg7.view.read (Elt F) X7) (arg8.view.read (Elt F) X8) (arg9.view.read (Elt F) X9) arg11.view G11
      (pb_k0_t1 (F := F) 𝒱 c bd i arg2 harg2 arg3 harg3 arg4 harg4 arg5 harg5 arg6 harg6 arg7 harg7 arg8 harg8 arg9 harg9 arg10 harg10 arg11 harg11
        X2 X3 X4 X5 X6 X7 X8 X9 G10 G11) where
  out_zero := rfl
  state_zero := rfl
  out_succ k := (congrArg Prod.fst (pb_k0_t1_succ (F := F) 𝒱 c bd i arg2 harg2 arg3 harg3 arg4 harg4 arg5 harg5 arg6 harg6 arg7 harg7 arg8 harg8
    arg9 harg9 arg10 harg10 arg11 harg11 X2 X3 X4 X5 X6 X7 X8 X9 G10 G11 k)).trans (congrArg (· ++ _) (tripL_out ..))
  state_succ k := (congrArg Prod.snd (pb_k0_t1_succ (F := F) 𝒱 c bd i arg2 harg2 arg3 harg3 arg4 harg4 arg5 harg5 arg6 harg6 arg7 harg7 arg8 harg8
    arg9 harg9 arg10 harg10 arg11 harg11 X2 X3 X4 X5 X6 X7 X8 X9 G10 G11 k)).trans (congrArg (· ++ _) (tripL_state ..))

end Cert.KernelIdeal.Scan
-- ==== Proof.Scan.Run.lean ====
/- One grid point of the kernel, run: what it leaves in the output block and in the state, as values of its argument
   blocks and of the state it starts from. -/
module

public import proofs.«01_k».proof.Proof.Scan.Loop
public import proofs.«01_k».proof.Proof.Gen.KernelIdeal.Frame.Runs

@[expose] public section

set_option maxRecDepth 16384

noncomputable section

namespace Cert.KernelIdeal.Scan

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state the first point starts from. -/
def zero : Vec F S8x4x128x128 .f32 := k0_pay1

/-- What the state reads as after the store of the zero block over all of it. -/
theorem read_zero (v : View sig .tc .vmem S8x4x128x128 .f32) (f : BufTy.Contents (Elt F) v.ty) :
    v.read (Elt F) (v.writes (Elt F) f [⟨Rect.unit (s := S8x4x128x128) ![0, 0, 0, 0] S8x4x128x128.size inb_S8x4x128x128_S8x4x128x128_0_0_0_0, k0_pay1 (F := F)⟩])
      = zero := by
  have hz : (![0, 0, 0, 0] : Fin 4 → ℕ) = fun _ => 0 := by funext a; fin_cases a <;> rfl
  refine (View.read_writes_eq_canon _ _ _ fun y => ⟨_, List.mem_singleton.2 rfl, ?_⟩).trans
    (View.canon_unit_zero hz inb_S8x4x128x128_S8x4x128x128_0_0_0_0 _)
  show y ∈ (Rect.unit (s := S8x4x128x128) ![0, 0, 0, 0] S8x4x128x128.size inb_S8x4x128x128_S8x4x128x128_0_0_0_0).set
  rw [Rect.mem_set_unit]
  intro a
  rw [hz]
  exact ⟨Nat.zero_le _, by rw [Nat.zero_add]; exact (y a).isLt⟩

variable (c : Dev nD) (i : grid0.Coords)
  (arg2 : Memref sig .tc .vmem S8x256x512 .f32) (harg2 : arg2.IsWhole) (arg3 : Memref sig .tc .vmem S8x256x512 .bf16) (harg3 : arg3.IsWhole)
  (arg4 : Memref sig .tc .vmem S8x256x512 .bf16) (harg4 : arg4.IsWhole) (arg5 : Memref sig .tc .vmem S8x256x512 .bf16) (harg5 : arg5.IsWhole)
  (arg6 : Memref sig .tc .vmem S8x256x256 .bf16) (harg6 : arg6.IsWhole) (arg7 : Memref sig .tc .vmem S8x256x512 .f32) (harg7 : arg7.IsWhole)
  (arg8 : Memref sig .tc .vmem S8x4x8x64 .f32) (harg8 : arg8.IsWhole) (arg9 : Memref sig .tc .vmem S1x128 .f32) (harg9 : arg9.IsWhole)
  (arg10 : Memref sig .tc .vmem S8x256x512 .bf16) (harg10 : arg10.IsWhole) (arg11 : Memref sig .tc .vmem S8x4x128x128 .f32) (harg11 : arg11.IsWhole)
  (x0 : Vec F S8x256x512 .f32) (x1 x2 x3 : Vec F S8x256x512 .bf16) (x4 : Vec F S8x256x256 .bf16) (x5 : Vec F S8x256x512 .f32)
  (x6 : Vec F S8x4x8x64 .f32) (x7 : Vec F S1x128 .f32)

/-- The argument blocks, owned at their contents. -/
def args : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7)

set_option maxHeartbeats 2000000 in
/-- The body at one point: it starts from zero where its condition holds and from what the state holds elsewhere. -/
theorem body_run (d0 s : Vec F S8x4x128x128 .f32) (hz : cond0_0 i → s = zero) (hk : ¬cond0_0 i → s = d0) (E : Set ℕ) (K : PUnit → sProp 𝕄) :
    iprop(args c arg2 arg3 arg4 arg5 arg6 arg7 arg8 arg9 x0 x1 x2 x3 x4 x5 x6 x7
        ∗ (∃ d, owns (c : Thread nD τ) arg10 fullShare d) ∗ owns (c : Thread nD τ) arg11 fullShare d0
        ∗ (iprop(args c arg2 arg3 arg4 arg5 arg6 arg7 arg8 arg9 x0 x1 x2 x3 x4 x5 x6 x7
            ∗ owns (c : Thread nD τ) arg10 fullShare (outBlock x0 x1 x2 x3 x4 x5 x6 x7 s)
            ∗ owns (c : Thread nD τ) arg11 fullShare (states x0 x1 x2 x3 x6 s 4)) -∗ K ⟨⟩))
      ⊢ wp frame (wpE (defs₀ (F := F)) Variants.none c none) E
        (cc0_delta_scan i arg2 harg2 arg3 harg3 arg4 harg4 arg5 harg5 arg6 harg6 arg7 harg7 arg8 harg8 arg9 harg9 arg10 harg10 arg11 harg11) K := by
  simp only [cc0_delta_scan_eq_skeleton]; unfold cc0_delta_scan_skel
  unfold args
  by_cases hc : cond0_0 i
  all_goals
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%fs, %hfs, HS⟩, Hk⟩
    sl_exec (disch := first | sl_exact hc)
    sl_step
    iapply Hk
    subst hf0 hf1 hf2 hf3 hf4 hf5 hf6 hf7
    isplitl [H0 H1 H2 H3 H4 H5 H6 H7]
    · isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      · iexists _; isplitr; swap; · iexact H7
        ipureintro; rfl
  · obtain rfl := hz hc
    isplitl [H8]
    · iexists _; isplitr; swap; · iexact H8
      ipureintro
      exact ((trips_loop ..).out_last arg10.view _).trans (congrArg _ (read_zero ..))
    · iexists _; isplitr; swap; · iexact HS
      ipureintro
      rw [View.writes_append]
      exact (trips_loop ..).state_last.trans (congrArg (fun s => states _ _ _ _ _ s 4) (read_zero ..))
  · obtain rfl := hk hc
    subst hfs
    isplitl [H8]
    · iexists _; isplitr; swap; · iexact H8
      ipureintro
      exact (trips_loop ..).out_last arg10.view _
    · iexists _; isplitr; swap; · iexact HS
      ipureintro
      exact (trips_loop ..).state_last

end Cert.KernelIdeal.Scan
-- ==== Proof.Scan.Launch.lean ====
/- The whole kernel run: the state carried from grid point to grid point, the block each point writes back, the frame
   and the array the run leaves. -/
module

public import proofs.«01_k».proof.Proof.Scan.Run
public import Idealize.ShloMosaic.Lib.Claim

@[expose] public section

set_option maxRecDepth 16384

noncomputable section

namespace Cert.KernelIdeal.Scan

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state before grid point `n`. -/
def carried (c : Dev nD) : ℕ → Vec F S8x4x128x128 .f32
  | 0 => zero
  | n + 1 => if h : n < cfg0.N then
      states (iblk m c 0 ⟨n, h⟩) (iblk m c 1 ⟨n, h⟩) (iblk m c 2 ⟨n, h⟩) (iblk m c 3 ⟨n, h⟩) (iblk m c 6 ⟨n, h⟩) (carried c n) 4
    else carried c n

/-- The block grid point `t` writes back. -/
def written (c : Dev nD) (t : Fin cfg0.N) : Vec F S8x256x512 .bf16 :=
  outBlock (iblk m c 0 t) (iblk m c 1 t) (iblk m c 2 t) (iblk m c 3 t) (iblk m c 4 t) (iblk m c 5 t) (iblk m c 6 t) (iblk m c 7 t) (carried m c t.val)

theorem carried_succ (c : Dev nD) (t : Fin cfg0.N) : carried m c (t.val + 1)
    = states (iblk m c 0 t) (iblk m c 1 t) (iblk m c 2 t) (iblk m c 3 t) (iblk m c 6 t) (carried m c t.val) 4 := dif_pos t.isLt

/-- What holds between points: before the first, what the launch gives; after it, the state's buffer at the carried state. -/
def between (c : Dev nD) : (n : ℕ) → n ≤ cfg0.N → sProp 𝕄
  | 0, _ => Pipeline.ΦA spec0 c
  | n + 1, _ => iprop(iprop(owns (c : Thread nD τ) scM0_0 fullShare (carried m c (n + 1))) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns (c : Thread nD τ) scM0_0 fullShare (carried m c n)) ∗ (∃ r, prngReg c r)) := by
  cases n with
  | zero => exact absurd rfl hz
  | succ n => rfl

/-- The proof data of the launch: each argument's buffer stays at its block, the output's ends at the written block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => written m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) : (dats m 0 c).Φ t.castSucc = between m c t.val (Nat.le_of_lt t.isLt) := by
  dsimp only [dats]; exact Pipeline.Dat.Φ_castSucc (between m c) t

theorem between_succ (c : Dev nD) (t : Fin cfg0.N) : (dats m 0 c).Φ t.succ
    = iprop(iprop(owns (c : Thread nD τ) scM0_0 fullShare (carried m c (t.val + 1))) ∗ (∃ r, prngReg c r)) := rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

/-- The argument blocks of a point, owned. -/
def held (c : Dev nD) (t : Fin cfg0.N) : sProp 𝕄 :=
  args c (ms0_0 t) (ms0_1 t) (ms0_2 t) (ms0_3 t) (ms0_4 t) (ms0_5 t) (ms0_6 t) (ms0_7 t)
    (iblk m c 0 t) (iblk m c 1 t) (iblk m c 2 t) (iblk m c 3 t) (iblk m c 4 t) (iblk m c 5 t) (iblk m c 6 t) (iblk m c 7 t)

/-- The body at a point, from the state's buffer at `d0`. -/
theorem body_point (c : Dev nD) (t : Fin cfg0.N) (d0 : Vec F S8x4x128x128 .f32) (h0 : t.val ≠ 0 → d0 = carried m c t.val) (K : PUnit → sProp 𝕄) :
    iprop(held m c t ∗ (∃ d, owns (c : Thread nD τ) (ms0_8 t) fullShare d) ∗ owns (c : Thread nD τ) scM0_0 fullShare d0
        ∗ (iprop(held m c t ∗ owns (c : Thread nD τ) (ms0_8 t) fullShare (written m c t)
            ∗ owns (c : Thread nD τ) scM0_0 fullShare (carried m c (t.val + 1))) -∗ K ⟨⟩))
      ⊢ wp frame (wpE (defs₀ (F := F)) Variants.none c none) Set.univ (bodyAt0 t) K := by
  have hN : t.val < 8 := lt_of_lt_of_eq t.isLt N_0
  have hz : t.val % 8 = 0 ↔ t.val = 0 := by omega
  rw [carried_succ]
  exact body_run c (grid0.coords t) _ _ _ _ _ _ _ _ _ _ _ _ _ _ _ _ _ _ _ _ _ _ _ _ _ _ _ _ d0 (carried m c t.val)
    (fun h => by rw [hz.1 ((hcond0_0 t).1 h)]; rfl)
    (fun h => (h0 fun e => h ((hcond0_0 t).2 (hz.2 e))).symm) Set.univ K

/-- The obligation's content, from the state's buffer at `ds`. -/
theorem body_from (c : Dev nD) (t : Fin cfg0.N) (ds : Vec F S8x4x128x128 .f32) (h0 : t.val ≠ 0 → ds = carried m c t.val) :
    iprop(iprop(iprop(owns (c : Thread nD τ) scM0_0 fullShare ds) ∗ (∃ r, prngReg c r)) ∗ (dats m 0 c).owesAt () t.castSucc
        ∗ (∃ _d : (cfg0.win 0).block.Idx → Elt F (cfg0.win 0).elt, owns (c : Thread nD τ) (ms0_0 t) fullShare (iblk m c 0 t))
        ∗ (∃ _d : (cfg0.win 1).block.Idx → Elt F (cfg0.win 1).elt, owns (c : Thread nD τ) (ms0_1 t) fullShare (iblk m c 1 t))
        ∗ (∃ _d : (cfg0.win 2).block.Idx → Elt F (cfg0.win 2).elt, owns (c : Thread nD τ) (ms0_2 t) fullShare (iblk m c 2 t))
        ∗ (∃ _d : (cfg0.win 3).block.Idx → Elt F (cfg0.win 3).elt, owns (c : Thread nD τ) (ms0_3 t) fullShare (iblk m c 3 t))
        ∗ (∃ _d : (cfg0.win 4).block.Idx → Elt F (cfg0.win 4).elt, owns (c : Thread nD τ) (ms0_4 t) fullShare (iblk m c 4 t))
        ∗ (∃ _d : (cfg0.win 5).block.Idx → Elt F (cfg0.win 5).elt, owns (c : Thread nD τ) (ms0_5 t) fullShare (iblk m c 5 t))
        ∗ (∃ _d : (cfg0.win 6).block.Idx → Elt F (cfg0.win 6).elt, owns (c : Thread nD τ) (ms0_6 t) fullShare (iblk m c 6 t))
        ∗ (∃ _d : (cfg0.win 7).block.Idx → Elt F (cfg0.win 7).elt, owns (c : Thread nD τ) (ms0_7 t) fullShare (iblk m c 7 t))
        ∗ (∃ d, owns (c : Thread nD τ) (ms0_8 t) fullShare ((dats m 0 c).before 8 t d)))
      ⊢ wp frame (wpE (defs₀ (F := F)) Variants.none c none) Set.univ (bodyAt0 t) fun _ =>
        iprop(iprop(iprop(owns (c : Thread nD τ) scM0_0 fullShare (carried m c (t.val + 1))) ∗ (∃ r, prngReg c r)) ∗ (dats m 0 c).owesAt () t.castSucc
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ owns (c : Thread nD τ) (ms0_3 t) fullShare ((dats m 0 c).after 3 t)
          ∗ owns (c : Thread nD τ) (ms0_4 t) fullShare ((dats m 0 c).after 4 t)
          ∗ owns (c : Thread nD τ) (ms0_5 t) fullShare ((dats m 0 c).after 5 t)
          ∗ owns (c : Thread nD τ) (ms0_6 t) fullShare ((dats m 0 c).after 6 t)
          ∗ owns (c : Thread nD τ) (ms0_7 t) fullShare ((dats m 0 c).after 7 t)
          ∗ owns (c : Thread nD τ) (ms0_8 t) fullShare ((dats m 0 c).after 8 t)) := by
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_point m c t ds h0 _)
  unfold held args
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [HS]; · iexact HS
  iintro ⟨⟨H0, H1, H2, H3, H4, H5, H6, H7⟩, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at a point, window by window. -/
theorem body_windows (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d)))
      ⊢ wp frame (wpE (defs₀ (F := F)) Variants.none c none) Set.univ (bodyAt0 t) fun _ =>
        iprop((dats m 0 c).Φ t.succ ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ owns (c : Thread nD τ) (ms0_3 t) fullShare ((dats m 0 c).after 3 t)
          ∗ owns (c : Thread nD τ) (ms0_4 t) fullShare ((dats m 0 c).after 4 t)
          ∗ owns (c : Thread nD τ) (ms0_5 t) fullShare ((dats m 0 c).after 5 t)
          ∗ owns (c : Thread nD τ) (ms0_6 t) fullShare ((dats m 0 c).after 6 t)
          ∗ owns (c : Thread nD τ) (ms0_7 t) fullShare ((dats m 0 c).after 7 t)
          ∗ owns (c : Thread nD τ) (ms0_8 t) fullShare ((dats m 0 c).after 8 t)) := by
  simp only [before_0, before_1, before_2, before_3, before_4, before_5, before_6, before_7]
  rw [show (dats m 0 c).owesAt () t.succ = (dats m 0 c).owesAt () t.castSucc from rfl, between_succ, between_castSucc]
  by_cases hz : t.val = 0
  · rw [between_zero m c _ _ hz, PhiA0_eq]
    iintro ⟨⟨⟨%ds, HS⟩, Hg⟩, R⟩
    iapply (body_from m c t ds (fun h => absurd hz h))
    isplitl [HS Hg]
    · isplitl [HS]
      · iexact HS
      · iexact Hg
    · iexact R
  · rw [between_pos m c _ _ hz]
    exact body_from m c t _ (fun _ => rfl)

/-- The body table's row at a point is the body at that point's buffers. -/
theorem table_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, table_row]
  exact triple_restated (body_windows m c t) rfl .rfl fun _ => .rfl

theorem first_point (c : Dev nD) : Pipeline.ΦA spec0 c ⊢ (dats m 0 c).Φ 0 := by
  rw [show (dats m 0 c).Φ 0 = between m c 0 (Nat.zero_le _) from rfl, between_zero m c 0 _ rfl]

theorem last_point (c : Dev nD) : (dats m 0 c).Φ (Fin.last cfg0.N) ⊢ Pipeline.ΦA spec0 c := by
  have h : (Fin.last cfg0.N).val ≠ 0 := by rw [Fin.val_last]; have : cfg0.N = 8 := N_0; omega
  rw [show (dats m 0 c).Φ (Fin.last cfg0.N) = between m c (Fin.last cfg0.N).val (Nat.le_of_lt_succ (Fin.last cfg0.N).isLt) from rfl,
    between_pos m c _ _ h, PhiA0_eq]
  iintro ⟨HS, Hg⟩
  isplitl [HS]
  · iexists _; iexact HS
  iexact Hg

set_option backward.isDefEq.respectTransparency.types false in
/-- The launch: every run ends with each array at what the proof data says, and with every counter at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := first_point m) (hout := last_point m)

/-- Every run leaves the argument arrays as they were and every counter at zero. -/
theorem kept : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.KernelIdeal.Scan
-- ==== Proof.Scan.Same.lean ====
/- The kernel as printed for machine words has the text of the one read over the extended reals: its frame is that one's. -/
module

public import proofs.«01_k».proof.Proof.Scan.Launch
public import proofs.«01_k».proof.Proof.Gen.Kernel.Skeleton

public section

set_option maxRecDepth 16384

noncomputable section

namespace Cert.Kernel.Scan

open Idealize.ShloMosaic Idealize.ShloMosaic.TcCoe Idealize.SL.Sem

variable {F : FTy → Type} [FloatOps F]

set_option smartUnfolding false in
/-- Every run leaves the argument arrays as they were and every counter at zero. -/
theorem kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Cert.KernelIdeal.Scan.kept (F := F) m ρ

end Cert.Kernel.Scan
-- ==== Proof.Scan.Recurrence.lean ====
/- The gated recurrence over the chunks of the sequence, and its result, as plain functions of the arguments over the
   extended reals: what both programs are shown to compute. -/
module

public import proofs.«01_k».proof.Proof.Gen.KernelIdeal
public import Idealize.ShloMosaic.Lib.Pointwise

@[expose] public section

noncomputable section

namespace Cert.Recurrence

open Cert.KernelIdeal Idealize.ShloMosaic Idealize.ShloMosaic.TcCoe

/-- Row `x` of chunk `n` in the sequence. -/
def row (n : Fin 32) (x : Fin 64) : Fin 2048 := ⟨64 * n.val + x.val, by omega⟩

/-- Column `y` of head `h`. -/
def col (h : Fin 4) (y : Fin 128) : Fin 512 := ⟨128 * h.val + y.val, by omega⟩

/-- Column `y` of head `h` in the chunk-by-chunk array. -/
def colA (h : Fin 4) (y : Fin 64) : Fin 256 := ⟨64 * h.val + y.val, by omega⟩

/-- The row of the gates that holds head `h`'s. -/
def gateRow (h : Fin 4) : Fin 8 := ⟨4 + h.val, by omega⟩

variable (u : Vec Ideal S8x2048x512 .f32) (w qd kd : Vec Ideal S8x2048x512 .bf16) (at_ : Vec Ideal S8x2048x256 .bf16)
  (zg : Vec Ideal S8x2048x512 .f32) (gr : Vec Ideal S8x32x8x64 .f32) (ng : Vec Ideal S1x128 .f32)

/-- The corrected values of chunk `n`, of the state before it. -/
def value (s : Vec Ideal S8x4x128x128 .f32) (n : Fin 32) (b : Fin 8) (h : Fin 4) (x : Fin 64) (y : Fin 128) : Ideal .f32 :=
  u (ix3 b (row n x) (col h y)) - ∑ k : Fin 128, w (ix3 b (row n x) (col h k)) * s (ix4 b h k y)

/-- The state after chunk `n`, of the state before it. -/
def after (s : Vec Ideal S8x4x128x128 .f32) (n : Fin 32) : Vec Ideal S8x4x128x128 .f32 := fun i =>
  s (ix4 (i 0) (i 1) (i 2) (i 3)) * Ideal.exp (gr (ix4 (i 0) n (gateRow (i 1)) (63 : Fin 64)))
    + ∑ x : Fin 64, kd (ix3 (i 0) (row n x) (col (i 1) (i 2))) * value u w s n (i 0) (i 1) x (i 3)

/-- The state before chunk `n`. -/
def before : ℕ → Vec Ideal S8x4x128x128 .f32
  | 0 => fun _ => 0
  | n + 1 => if h : n < 32 then after u w kd gr (before n) ⟨n, h⟩ else before n

theorem before_succ (n : Fin 32) : before u w kd gr (n.val + 1) = after u w kd gr (before u w kd gr n.val) n := dif_pos n.isLt

/-- The attention output of chunk `n` before its normalization. -/
def out (n : Fin 32) (b : Fin 8) (h : Fin 4) (x : Fin 64) (y : Fin 128) : Ideal .f32 :=
  ∑ k : Fin 128, qd (ix3 b (row n x) (col h k)) * before u w kd gr n.val (ix4 b h k y)
    + ∑ j : Fin 64, at_ (ix3 b (row n x) (colA h j)) * value u w (before u w kd gr n.val) n b h j y

/-- The normalized output of chunk `n`, with its weight and its gate. -/
def normed (n : Fin 32) (b : Fin 8) (h : Fin 4) (x : Fin 64) (y : Fin 128) : Ideal .f32 :=
  out u w qd kd at_ gr n b h x y
    * Ideal.rsqrt (Ideal.div (∑ z : Fin 128, out u w qd kd at_ gr n b h x z * out u w qd kd at_ gr n b h x z) (Ideal.ofBits .f32 0x43000000#32)
      + Ideal.ofBits .f32 0x358637BD#32)
    * ng (ix2 (0 : Fin 1) y) * zg (ix3 b (row n x) (col h y))

/-- The result. -/
def result : Vec Ideal S8x2048x512 .bf16 := fun i =>
  normed u w qd kd at_ zg gr ng
    ⟨(i 1).val / 64, by have : (i 1).val < 2048 := (i 1).isLt; omega⟩ (i 0)
    ⟨(i 2).val / 128, by have : (i 2).val < 512 := (i 2).isLt; omega⟩
    ⟨(i 1).val % 64, Nat.mod_lt _ (by decide)⟩ ⟨(i 2).val % 128, Nat.mod_lt _ (by decide)⟩

end Cert.Recurrence
-- ==== Proof.Scan.Value.lean ====
/- The kernel's result over the extended reals: the recurrence of `Recurrence.lean` at its argument arrays. -/
module

public import proofs.«01_k».proof.Proof.Scan.Launch
public import proofs.«01_k».proof.Proof.Scan.Recurrence

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Rounds Idealize.ShloMosaic.Pipeline
open Cert.Recurrence (col colA gateRow)

variable (m : (ℓ : Loc nD τ sig) → Buf (Elt Ideal) ℓ) (ρ : Dev nD → PrngReg)

/-! ## The argument arrays -/

abbrev arr0 (c : Dev nD) : Vec Ideal S8x2048x512 .f32 := m ((c : Thread nD τ).loc main_arg0)
abbrev arr1 (c : Dev nD) : Vec Ideal S8x2048x512 .bf16 := m ((c : Thread nD τ).loc main_arg1)
abbrev arr2 (c : Dev nD) : Vec Ideal S8x2048x512 .bf16 := m ((c : Thread nD τ).loc main_arg2)
abbrev arr3 (c : Dev nD) : Vec Ideal S8x2048x512 .bf16 := m ((c : Thread nD τ).loc main_arg3)
abbrev arr4 (c : Dev nD) : Vec Ideal S8x2048x256 .bf16 := m ((c : Thread nD τ).loc main_arg4)
abbrev arr5 (c : Dev nD) : Vec Ideal S8x2048x512 .f32 := m ((c : Thread nD τ).loc main_arg5)
abbrev arr6 (c : Dev nD) : Vec Ideal S8x32x8x64 .f32 := m ((c : Thread nD τ).loc main_arg6)
abbrev arr7 (c : Dev nD) : Vec Ideal S1x128 .f32 := m ((c : Thread nD τ).loc main_arg7)

/-- The number of a block's chunk in the whole sequence. -/
def num32 (t : Fin cfg0.N) (k : Fin k0_t1_loop.trips) : Fin 32 :=
  ⟨4 * t.val + k.val, by have ht : t.val < 8 := lt_of_lt_of_eq t.isLt N_0; have hk : k.val < 4 := trips_eq ▸ k.isLt; omega⟩

/-! ## The blocks, read in the arrays -/

/-- Every window with a block per point takes block `t` of the rows (or chunks) at point `t`. -/
theorem index_facts : ∀ t : Fin cfg0.N,
    win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0, 0] ∧ win0_7.index t = ![0, 0]
    ∧ win0_8.index t = ![0, t.val, 0] :=
  (by decide +kernel : ∀ t : Fin grid0.N, _)

section Blocks

variable (c : Dev nD) (t : Fin cfg0.N)

theorem bound (t : Fin cfg0.N) : t.val < 8 := lt_of_lt_of_eq t.isLt N_0

/-- An index of the array from a block's, its second axis moved by the block's first row. -/
abbrev inArr (t : Fin cfg0.N) (y : S8x256x512.Idx) : S8x2048x512.Idx :=
  ix3 (y 0) ⟨256 * t.val + (y 1).val, by have := bound t; have : (y 1).val < 256 := (y 1).isLt; omega⟩ (y 2)

/-- The same of a block of the chunk-by-chunk array. -/
abbrev inArrA (t : Fin cfg0.N) (y : S8x256x256.Idx) : S8x2048x256.Idx :=
  ix3 (y 0) ⟨256 * t.val + (y 1).val, by have := bound t; have : (y 1).val < 256 := (y 1).isLt; omega⟩ (y 2)

/-- The same of a block of the gates. -/
abbrev inArrG (t : Fin cfg0.N) (y : S8x4x8x64.Idx) : S8x32x8x64.Idx :=
  ix4 (y 0) ⟨4 * t.val + (y 1).val, by have := bound t; have : (y 1).val < 4 := (y 1).isLt; omega⟩ (y 2) (y 3)

theorem shift (t : Fin cfg0.N) {f : Fin 3 → ℕ} (e : f = ![0, t.val, 0]) (y : S8x256x512.Idx) (a : Fin 3) :
    f a * S8x256x512.size a + 1 * (y a).val = (inArr t y a).val := by
  subst e
  fin_cases a
  · show 0 * 8 + 1 * (y 0).val = (y 0).val; omega
  · show t.val * 256 + 1 * (y 1).val = 256 * t.val + (y 1).val; omega
  · show 0 * 512 + 1 * (y 2).val = (y 2).val; omega

theorem blk0 (y : S8x256x512.Idx) : iblk m c 0 t y = arr0 m c (inArr t y) :=
  congrArg (arr0 m c) (funext fun a => Fin.ext (shift t (index_facts t).1 y a))

theorem blk1 (y : S8x256x512.Idx) : iblk m c 1 t y = arr1 m c (inArr t y) :=
  congrArg (arr1 m c) (funext fun a => Fin.ext (shift t (index_facts t).2.1 y a))

theorem blk2 (y : S8x256x512.Idx) : iblk m c 2 t y = arr2 m c (inArr t y) :=
  congrArg (arr2 m c) (funext fun a => Fin.ext (shift t (index_facts t).2.2.1 y a))

theorem blk3 (y : S8x256x512.Idx) : iblk m c 3 t y = arr3 m c (inArr t y) :=
  congrArg (arr3 m c) (funext fun a => Fin.ext (shift t (index_facts t).2.2.2.1 y a))

theorem blk4 (y : S8x256x256.Idx) : iblk m c 4 t y = arr4 m c (inArrA t y) := by
  have e := (index_facts t).2.2.2.2.1
  refine congrArg (arr4 m c) (funext fun a => Fin.ext ?_)
  show win0_4.index t a * S8x256x256.size a + 1 * (y a).val = (inArrA t y a).val
  rw [e]
  fin_cases a
  · show 0 * 8 + 1 * (y 0).val = (y 0).val; omega
  · show t.val * 256 + 1 * (y 1).val = 256 * t.val + (y 1).val; omega
  · show 0 * 256 + 1 * (y 2).val = (y 2).val; omega

theorem blk5 (y : S8x256x512.Idx) : iblk m c 5 t y = arr5 m c (inArr t y) :=
  congrArg (arr5 m c) (funext fun a => Fin.ext (shift t (index_facts t).2.2.2.2.2.1 y a))

theorem blk6 (y : S8x4x8x64.Idx) : iblk m c 6 t y = arr6 m c (inArrG t y) := by
  have e := (index_facts t).2.2.2.2.2.2.1
  refine congrArg (arr6 m c) (funext fun a => Fin.ext ?_)
  show win0_6.index t a * S8x4x8x64.size a + 1 * (y a).val = (inArrG t y a).val
  rw [e]
  fin_cases a
  · show 0 * 8 + 1 * (y 0).val = (y 0).val; omega
  · show t.val * 4 + 1 * (y 1).val = 4 * t.val + (y 1).val; omega
  · show 0 * 8 + 1 * (y 2).val = (y 2).val; omega
  · show 0 * 64 + 1 * (y 3).val = (y 3).val; omega

theorem blk7 (y : S1x128.Idx) : iblk m c 7 t y = arr7 m c y := by
  have e := (index_facts t).2.2.2.2.2.2.2.1
  refine congrArg (arr7 m c) (funext fun a => Fin.ext ?_)
  show win0_7.index t a * S1x128.size a + 1 * (y a).val = (y a).val
  rw [e]
  fin_cases a
  · show 0 * 1 + 1 * (y 0).val = (y 0).val; omega
  · show 0 * 128 + 1 * (y 1).val = (y 1).val; omega

/-! ## The chunks of a block, read in the arrays -/

variable (k : Fin k0_t1_loop.trips) (b : Fin 8) (h : Fin 4)

/-- A chunk's entry in the array's coordinates. -/
theorem inArr_tile (x : Fin 64) (y : Fin 128) : inArr t ((rect512 k b h).emb (ix3 (0 : Fin 1) x y)) = ix3 b (Cert.Recurrence.row (num32 t k) x) (col h y) := by
  have hr := row_eq k
  funext a
  fin_cases a
  · exact Fin.ext (show b.val + 1 * 0 = b.val by omega)
  · exact Fin.ext (show 256 * t.val + (row k + 1 * x.val) = 64 * (4 * t.val + k.val) + x.val by omega)
  · exact Fin.ext (show 128 * h.val + 1 * y.val = 128 * h.val + y.val by omega)

theorem tile0 (x : Fin 64) (y : Fin 128) : tile (F := Ideal) (iblk m c 0 t) k b h (ix3 (0 : Fin 1) x y) = arr0 m c (ix3 b (Cert.Recurrence.row (num32 t k) x) (col h y)) :=
  (blk0 m c t _).trans (congrArg _ (inArr_tile t k b h x y))

theorem tile1 (x : Fin 64) (y : Fin 128) : tile (F := Ideal) (iblk m c 1 t) k b h (ix3 (0 : Fin 1) x y) = arr1 m c (ix3 b (Cert.Recurrence.row (num32 t k) x) (col h y)) :=
  (blk1 m c t _).trans (congrArg _ (inArr_tile t k b h x y))

theorem tile2 (x : Fin 64) (y : Fin 128) : tile (F := Ideal) (iblk m c 2 t) k b h (ix3 (0 : Fin 1) x y) = arr2 m c (ix3 b (Cert.Recurrence.row (num32 t k) x) (col h y)) :=
  (blk2 m c t _).trans (congrArg _ (inArr_tile t k b h x y))

theorem tile3 (x : Fin 64) (y : Fin 128) : tile (F := Ideal) (iblk m c 3 t) k b h (ix3 (0 : Fin 1) x y) = arr3 m c (ix3 b (Cert.Recurrence.row (num32 t k) x) (col h y)) :=
  (blk3 m c t _).trans (congrArg _ (inArr_tile t k b h x y))

theorem tile5 (x : Fin 64) (y : Fin 128) : tile (F := Ideal) (iblk m c 5 t) k b h (ix3 (0 : Fin 1) x y) = arr5 m c (ix3 b (Cert.Recurrence.row (num32 t k) x) (col h y)) :=
  (blk5 m c t _).trans (congrArg _ (inArr_tile t k b h x y))

theorem tile4 (x : Fin 64) (y : Fin 64) : tileA (F := Ideal) (iblk m c 4 t) k b h (ix3 (0 : Fin 1) x y) = arr4 m c (ix3 b (Cert.Recurrence.row (num32 t k) x) (colA h y)) := by
  have hr := row_eq k
  refine (blk4 m c t _).trans (congrArg _ (funext fun a => ?_))
  fin_cases a
  · exact Fin.ext (show b.val + 1 * 0 = b.val by omega)
  · exact Fin.ext (show 256 * t.val + (row k + 1 * x.val) = 64 * (4 * t.val + k.val) + x.val by omega)
  · exact Fin.ext (show 64 * h.val + 1 * y.val = 64 * h.val + y.val by omega)

theorem gate6 : gate (F := Ideal) (iblk m c 6 t) k b h (ix4 (0 : Fin 1) (0 : Fin 1) (0 : Fin 1) (0 : Fin 1)) = arr6 m c (ix4 b (num32 t k) (gateRow h) (63 : Fin 64)) := by
  have hr := num_eq k
  refine (blk6 m c t _).trans (congrArg _ (funext fun a => ?_))
  fin_cases a
  · exact Fin.ext (show b.val + 1 * 0 = b.val by omega)
  · exact Fin.ext (show 4 * t.val + (num k + 1 * 0) = 4 * t.val + k.val by omega)
  · exact Fin.ext (show 4 + h.val + 1 * 0 = 4 + h.val by omega)
  · exact Fin.ext (show 63 + 1 * 0 = 63 by omega)

theorem stateAt_apply (s : Vec Ideal S8x4x128x128 .f32) (x y : Fin 128) : stateAt s b h (ix2 x y) = s (ix4 b h x y) := by
  have e : ∀ X : Vec Ideal S1x1x128x128 .f32, shapeCast S128x128 X shapeCasts_S1x1x128x128_S128x128 (ix2 x y) = X (ix4 (0 : Fin 1) (0 : Fin 1) x y) := by
    intro X
    pointwise
  exact (e _).trans (congrArg s (emb_rectState b h _))

/-! ## The recurrence -/

/-- One chunk's step is the recurrence's. -/
theorem next_eq (s : Vec Ideal S8x4x128x128 .f32) :
    next (iblk m c 0 t) (iblk m c 1 t) (iblk m c 2 t) (iblk m c 3 t) (iblk m c 6 t) k s
      = Cert.Recurrence.after (arr0 m c) (arr1 m c) (arr3 m c) (arr6 m c) s (num32 t k) := by
  funext i
  idx_vars i
  unfold next newState fresh stacked Cert.Recurrence.after Cert.Recurrence.value
  dsimp only [ix4]
  pointwise
  simp only [tile0, tile1, tile3, gate6, stateAt_apply]

/-- The state before each chunk of a block, from the recurrence's state before the block. -/
theorem states_eq (s : Vec Ideal S8x4x128x128 .f32)
    (hs : s = Cert.Recurrence.before (arr0 m c) (arr1 m c) (arr3 m c) (arr6 m c) (4 * t.val)) : ∀ k : ℕ, k ≤ k0_t1_loop.trips →
    states (iblk m c 0 t) (iblk m c 1 t) (iblk m c 2 t) (iblk m c 3 t) (iblk m c 6 t) s k
      = Cert.Recurrence.before (arr0 m c) (arr1 m c) (arr3 m c) (arr6 m c) (4 * t.val + k)
  | 0, _ => hs
  | k + 1, hk => (states_succ _ _ _ _ _ _ ⟨k, hk⟩).trans
      ((congrArg _ (states_eq s hs k (Nat.le_of_succ_le hk))).trans ((next_eq m c t ⟨k, hk⟩ _).trans
        (Cert.Recurrence.before_succ _ _ _ _ (num32 t ⟨k, hk⟩)).symm))

end Blocks

/-- The state a grid point starts from is the recurrence's before the point's first chunk. -/
theorem carried_eq (c : Dev nD) : ∀ n : ℕ, n ≤ cfg0.N →
    carried m c n = Cert.Recurrence.before (arr0 m c) (arr1 m c) (arr3 m c) (arr6 m c) (4 * n)
  | 0, _ => by
    show k0_pay1 (F := Ideal) = fun _ => 0
    unfold k0_pay1
    funext i
    idx_vars i
    pointwise
  | n + 1, hn => (carried_succ m c ⟨n, hn⟩).trans
      (states_eq m c ⟨n, hn⟩ _ (carried_eq c n (Nat.le_of_succ_le hn)) 4 (by rw [trips_eq]))

/-- A block's chunk, stored. -/
theorem outAt_eq (c : Dev nD) (t : Fin cfg0.N) (k : Fin k0_t1_loop.trips) (b : Fin 8) (h : Fin 4) (x : Fin 64) (y : Fin 128) :
    outAt (iblk m c 0 t) (iblk m c 1 t) (iblk m c 2 t) (iblk m c 4 t) (iblk m c 5 t) (iblk m c 7 t)
        (Cert.Recurrence.before (arr0 m c) (arr1 m c) (arr3 m c) (arr6 m c) (num32 t k).val) k b h (ix2 x y)
      = Cert.Recurrence.normed (arr0 m c) (arr1 m c) (arr2 m c) (arr3 m c) (arr4 m c) (arr5 m c) (arr6 m c) (arr7 m c) (num32 t k) b h x y := by
  unfold outAt normed mix fresh stacked weight Cert.Recurrence.normed Cert.Recurrence.out Cert.Recurrence.value
  pointwise
  simp only [tile0, tile1, tile2, tile4, tile5, stateAt_apply, blk7]

/-- The block a grid point writes back, entry by entry. -/
theorem written_eq (c : Dev nD) (t : Fin cfg0.N) (y : S8x256x512.Idx) : written m c t y
    = Cert.Recurrence.result (arr0 m c) (arr1 m c) (arr2 m c) (arr3 m c) (arr4 m c) (arr5 m c) (arr6 m c) (arr7 m c) (inArr t y) := by
  have hy : (y 1).val < 256 := (y 1).isLt
  unfold written outBlock
  rw [states_eq m c t _ (carried_eq m c t.val (Nat.le_of_lt t.isLt)) _ (Nat.le_of_lt (chunk y).isLt)]
  refine (outAt_eq m c t (chunk y) (y 0) (head y) _ _).trans ?_
  unfold Cert.Recurrence.result
  have e1 : num32 t (chunk y) = ⟨(inArr t y 1).val / 64, by have := bound t; show (256 * t.val + (y 1).val) / 64 < 32; omega⟩ :=
    Fin.ext (show 4 * t.val + (y 1).val / 64 = (256 * t.val + (y 1).val) / 64 by omega)
  have e2 : (⟨(y 1).val % 64, Nat.mod_lt _ (by decide)⟩ : Fin 64) = ⟨(inArr t y 1).val % 64, Nat.mod_lt _ (by decide)⟩ :=
    Fin.ext (show (y 1).val % 64 = (256 * t.val + (y 1).val) % 64 by omega)
  rw [e1, e2]
  rfl

/-! ## The array after the run -/

/-- Every entry of the array is in some point's block. -/
theorem covered (i : S8x2048x512.Idx) : ∃ t : Fin cfg0.N, (cfg0.win 8).flush t = true ∧ i ∈ ((cfg0.win 8).blk t).view.set := by
  have h1 : (i 1).val < 2048 := (i 1).isLt
  let t : Fin cfg0.N := ⟨(i 1).val / 256, lt_of_lt_of_eq (show (i 1).val / 256 < 8 by omega) N_0.symm⟩
  refine ⟨t, flush0_8 t, ?_⟩
  have e := (index_facts t).2.2.2.2.2.2.2.2
  show i ∈ ((View.whole main_v0).slice (win0_8.rect t)).set
  rw [View.set_slice_whole, Rect.mem_set_unit]
  intro a
  show win0_8.index t a * S8x256x512.size a ≤ (i a).val ∧ (i a).val < win0_8.index t a * S8x256x512.size a + S8x256x512.size a
  rw [e]
  fin_cases a
  · exact ⟨Nat.zero_le _, Nat.lt_of_lt_of_eq (i 0).isLt (Nat.zero_add _).symm⟩
  · show (i 1).val / 256 * 256 ≤ (i 1).val ∧ (i 1).val < (i 1).val / 256 * 256 + 256
    omega
  · exact ⟨Nat.zero_le _, Nat.lt_of_lt_of_eq (i 2).isLt (Nat.zero_add _).symm⟩

/-- The array the run leaves is the recurrence's result. -/
theorem final (c : Dev nD) : (dats m 0 c).arrAt 8 cfg0.N
    = Cert.Recurrence.result (arr0 m c) (arr1 m c) (arr2 m c) (arr3 m c) (arr4 m c) (arr5 m c) (arr6 m c) (arr7 m c) :=
  (dats m 0 c).arrAt_eq_of_cover 8 _ (fun t _ => funext fun y => (written_eq m c t y).trans
    (congrArg _ (funext fun a => Fin.ext (shift t (index_facts t).2.2.2.2.2.2.2.2 y a).symm))) covered

/-- The run: the result array at the recurrence's result, the arguments as they were. -/
theorem run : θ_run defs (onTc (τ := τ) (main (F := Ideal))) ⟨m, fun _ => 0, ρ⟩ fun r => ∀ c : Dev nD,
      r.2.mem ((c : Thread nD τ).loc main_v0)
        = Cert.Recurrence.result (arr0 m c) (arr1 m c) (arr2 m c) (arr3 m c) (arr4 m c) (arr5 m c) (arr6 m c) (arr7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.2 c).1 8).trans (final m c), h.1.1 c⟩)
    (θ_run_and (kept m ρ) ((θ_run defs _ _).mono (fun _ h => h.1) (launched m ρ)))

end Cert.KernelIdeal.Scan
-- ==== Proof.Scan.Reference.lean ====
/- The reference's result over the extended reals: the recurrence of `Recurrence.lean` at its argument arrays. -/
module

public import proofs.«01_k».proof.Proof.Gen.ReferenceIdeal.Run
public import proofs.«01_k».proof.Proof.Scan.Recurrence

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Idealize.SL.Sem
open Idealize.ShloMosaic.StableHlo
open Cert.Recurrence (row col colA gateRow)

variable (m : (ℓ : Loc nD τ sig) → Buf (Elt Ideal) ℓ) (ρ : Dev nD → PrngReg)

/-! ## The argument arrays, and what the loop starts from -/

abbrev arr0 (c : Dev nD) : Vec Ideal S8x2048x512 .f32 := m ((c.tc : Thread nD τ).loc main_arg0)
abbrev arr1 (c : Dev nD) : Vec Ideal S8x2048x512 .bf16 := m ((c.tc : Thread nD τ).loc main_arg1)
abbrev arr2 (c : Dev nD) : Vec Ideal S8x2048x512 .bf16 := m ((c.tc : Thread nD τ).loc main_arg2)
abbrev arr3 (c : Dev nD) : Vec Ideal S8x2048x512 .bf16 := m ((c.tc : Thread nD τ).loc main_arg3)
abbrev arr4 (c : Dev nD) : Vec Ideal S8x2048x256 .bf16 := m ((c.tc : Thread nD τ).loc main_arg4)
abbrev arr5 (c : Dev nD) : Vec Ideal S8x2048x512 .f32 := m ((c.tc : Thread nD τ).loc main_arg5)
abbrev arr6 (c : Dev nD) : Vec Ideal S8x32x8x64 .f32 := m ((c.tc : Thread nD τ).loc main_arg6)
abbrev arr7 (c : Dev nD) : Vec Ideal S1x128 .f32 := m ((c.tc : Thread nD τ).loc main_arg7)

/-- The heads' columns chunk by chunk. -/
def chunked (x : Vec Ideal S8x2048x512 .f32) : Vec Ideal S32x8x4x64x128 .f32 :=
  transpose S32x8x4x64x128 [1, 0, 3, 2, 4] (shapeCast S8x32x64x4x128 x shapeCasts_S8x2048x512_S8x32x64x4x128)
    transposes_S8x32x64x4x128_S32x8x4x64x128_1_0_3_2_4

def chunkedA (x : Vec Ideal S8x2048x256 .f32) : Vec Ideal S32x8x4x64x64 .f32 :=
  transpose S32x8x4x64x64 [1, 0, 3, 2, 4] (shapeCast S8x32x64x4x64 x shapeCasts_S8x2048x256_S8x32x64x4x64)
    transposes_S8x32x64x4x64_S32x8x4x64x64_1_0_3_2_4

theorem chunked_apply (x : Vec Ideal S8x2048x512 .f32) (n : Fin 32) (b : Fin 8) (h : Fin 4) (i : Fin 64) (j : Fin 128) :
    chunked x (ix5 n b h i j) = x (ix3 b (row n i) (col h j)) := by
  unfold chunked
  pointwise
  exact congrArg x (congrArg₂ (ix3 b) (Fin.ext (by show n.val * 64 + i.val = 64 * n.val + i.val; omega))
    (Fin.ext (by show h.val * 128 + j.val = 128 * h.val + j.val; omega)))

theorem chunkedA_apply (x : Vec Ideal S8x2048x256 .f32) (n : Fin 32) (b : Fin 8) (h : Fin 4) (i j : Fin 64) :
    chunkedA x (ix5 n b h i j) = x (ix3 b (row n i) (colA h j)) := by
  unfold chunkedA
  pointwise
  exact congrArg x (congrArg₂ (ix3 b) (Fin.ext (by show n.val * 64 + i.val = 64 * n.val + i.val; omega))
    (Fin.ext (by show h.val * 64 + j.val = 64 * h.val + j.val; omega)))

/-- The decay of every chunk: the gates' rows of the four heads at each chunk's last position. -/
def gates (g : Vec Ideal S8x32x8x64 .f32) : Vec Ideal S32x8x4 .f32 :=
  transpose S32x8x4 [1, 0, 2] (shapeCast S8x32x4 (extractStridedSlice S8x32x4x1 ![0, 0, 4, 63] g slices_S8x32x8x64_S8x32x4x1_0_0_4_63)
    shapeCasts_S8x32x4x1_S8x32x4) transposes_S8x32x4_S32x8x4_1_0_2

theorem gates_apply (g : Vec Ideal S8x32x8x64 .f32) (n : Fin 32) (b : Fin 8) (h : Fin 4) :
    gates g (ix3 n b h) = g (ix4 b n (gateRow h) (63 : Fin 64)) := by
  unfold gates
  pointwise
  rfl

theorem entry0 (c : Dev nD) : entryContents preI m c (Proc.devRef .tc main_v19_0) = chunked (arr0 m c) := by
  simp only [entryContents, afterL_cons, afterL_nil]
  after_reads_simp
  rfl

theorem entry1 (c : Dev nD) : entryContents preI m c (Proc.devRef .tc main_v19_1) = chunked (extf (F := Ideal) (s := S8x2048x512) (φ := .bf16) .f32 (arr1 m c) bitsLt_bf16_f32) := by
  simp only [entryContents, afterL_cons, afterL_nil]
  after_reads_simp
  rfl

theorem entry2 (c : Dev nD) : entryContents preI m c (Proc.devRef .tc main_v19_2) = chunked (extf (F := Ideal) (s := S8x2048x512) (φ := .bf16) .f32 (arr2 m c) bitsLt_bf16_f32) := by
  simp only [entryContents, afterL_cons, afterL_nil]
  after_reads_simp
  rfl

theorem entry3 (c : Dev nD) : entryContents preI m c (Proc.devRef .tc main_v19_3) = chunkedA (extf (F := Ideal) (s := S8x2048x256) (φ := .bf16) .f32 (arr4 m c) bitsLt_bf16_f32) := by
  simp only [entryContents, afterL_cons, afterL_nil]
  after_reads_simp
  rfl

theorem entry4 (c : Dev nD) : entryContents preI m c (Proc.devRef .tc main_v19_4) = chunked (extf (F := Ideal) (s := S8x2048x512) (φ := .bf16) .f32 (arr3 m c) bitsLt_bf16_f32) := by
  simp only [entryContents, afterL_cons, afterL_nil]
  after_reads_simp
  rfl

theorem entry5 (c : Dev nD) : entryContents preI m c (Proc.devRef .tc main_v19_5) = gates (arr6 m c) := by
  simp only [entryContents, afterL_cons, afterL_nil]
  after_reads_simp
  rfl

theorem entry6 (c : Dev nD) : entryContents preI m c (Proc.devRef .tc main_v19_6) = fun _ => 0#32 := by
  simp only [entryContents, afterL_cons, afterL_nil]
  after_reads_simp
  rfl

theorem zeros : (broadcastInDim S8x4x128x128 ![] bcast_S_S8x4x128x128 (constant (F := Ideal) S_ .f32 0x00000000#32) : Vec Ideal S8x4x128x128 .f32) = fun _ => 0 := by
  funext i
  idx_vars i
  pointwise

theorem entry7 (c : Dev nD) : entryContents preI m c (Proc.devRef .tc main_v19_7) = fun _ => (0 : EReal) := by
  simp only [entryContents, afterL_cons, afterL_nil]
  after_reads_simp
  exact zeros

/-! ## One trip -/

/-- The five starts of a trip's slices: the trip's number, then zeros. -/
def starts (k : Vec Ideal S_ .i32) : Fin 5 → Int := fun q =>
  ((![k, constantI S_ 32 0#32, constantI S_ 32 0#32, constantI S_ 32 0#32, constantI S_ 32 0#32] : Fin 5 → (⟨S_, .i32⟩ : BufTy).Contents (Elt Ideal)) q
    (Shape.Idx.first h_S_)).toInt

def starts3 (k : Vec Ideal S_ .i32) : Fin 3 → Int := fun q =>
  ((![k, constantI S_ 32 0#32, constantI S_ 32 0#32] : Fin 3 → (⟨S_, .i32⟩ : BufTy).Contents (Elt Ideal)) q (Shape.Idx.first h_S_)).toInt

/-- A small number as a 32-bit word, read back. -/
theorem word_toInt (n : Fin 32) : (BitVec.ofNat 32 n.val).toInt = (n.val : Int) := by
  revert n
  decide

def cut (Y : Vec Ideal S32x8x4x64x128 .f32) (k : Vec Ideal S_ .i32) : Vec Ideal S8x4x64x128 .f32 :=
  shapeCast S8x4x64x128 (Host.dynamicSlice S1x8x4x64x128 Y (starts k) sliceFits_S32x8x4x64x128_S1x8x4x64x128) shapeCasts_S1x8x4x64x128_S8x4x64x128

def cutA (Y : Vec Ideal S32x8x4x64x64 .f32) (k : Vec Ideal S_ .i32) : Vec Ideal S8x4x64x64 .f32 :=
  shapeCast S8x4x64x64 (Host.dynamicSlice S1x8x4x64x64 Y (starts k) sliceFits_S32x8x4x64x64_S1x8x4x64x64) shapeCasts_S1x8x4x64x64_S8x4x64x64

def cutG (Y : Vec Ideal S32x8x4 .f32) (k : Vec Ideal S_ .i32) : Vec Ideal S8x4 .f32 :=
  shapeCast S8x4 (Host.dynamicSlice S1x8x4 Y (starts3 k) sliceFits_S32x8x4_S1x8x4) shapeCasts_S1x8x4_S8x4

section Cut

variable (n : Fin 32)

theorem clamped (a : Fin 5) : Host.clampedStart S32x8x4x64x128 S1x8x4x64x128 rfl (starts fun _ => BitVec.ofNat 32 n.val) a = if a = 0 then n.val else 0 := by
  fin_cases a
  · exact Host.clampedStart_of_le (s := S32x8x4x64x128) (t := S1x8x4x64x128) rfl _ 0 n.val (word_toInt n) (show n.val + 1 ≤ 32 from n.isLt)
  all_goals exact Host.clampedStart_of_le (s := S32x8x4x64x128) (t := S1x8x4x64x128) rfl _ _ 0 rfl (by decide)

theorem clampedA (a : Fin 5) : Host.clampedStart S32x8x4x64x64 S1x8x4x64x64 rfl (starts fun _ => BitVec.ofNat 32 n.val) a = if a = 0 then n.val else 0 := by
  fin_cases a
  · exact Host.clampedStart_of_le (s := S32x8x4x64x64) (t := S1x8x4x64x64) rfl _ 0 n.val (word_toInt n) (show n.val + 1 ≤ 32 from n.isLt)
  all_goals exact Host.clampedStart_of_le (s := S32x8x4x64x64) (t := S1x8x4x64x64) rfl _ _ 0 rfl (by decide)

theorem clampedG (a : Fin 3) : Host.clampedStart S32x8x4 S1x8x4 rfl (starts3 fun _ => BitVec.ofNat 32 n.val) a = if a = 0 then n.val else 0 := by
  fin_cases a
  · exact Host.clampedStart_of_le (s := S32x8x4) (t := S1x8x4) rfl _ 0 n.val (word_toInt n) (show n.val + 1 ≤ 32 from n.isLt)
  all_goals exact Host.clampedStart_of_le (s := S32x8x4) (t := S1x8x4) rfl _ _ 0 rfl (by decide)

theorem cut_apply (Y : Vec Ideal S32x8x4x64x128 .f32) (b : Fin 8) (h : Fin 4) (i : Fin 64) (j : Fin 128) :
    cut Y (fun _ => BitVec.ofNat 32 n.val) (ix4 b h i j) = Y (ix5 n b h i j) := by
  unfold cut
  pointwise
  have e0 := clamped n 0
  have e1 := clamped n 1
  have e2 := clamped n 2
  have e3 := clamped n 3
  have e4 := clamped n 4
  simp only [reduceIte, Fin.reduceEq] at e0 e1 e2 e3 e4
  simp only [e0, e1, e2, e3, e4, Nat.zero_add]

theorem cutA_apply (Y : Vec Ideal S32x8x4x64x64 .f32) (b : Fin 8) (h : Fin 4) (i j : Fin 64) :
    cutA Y (fun _ => BitVec.ofNat 32 n.val) (ix4 b h i j) = Y (ix5 n b h i j) := by
  unfold cutA
  pointwise
  have e0 := clampedA n 0
  have e1 := clampedA n 1
  have e2 := clampedA n 2
  have e3 := clampedA n 3
  have e4 := clampedA n 4
  simp only [reduceIte, Fin.reduceEq] at e0 e1 e2 e3 e4
  simp only [e0, e1, e2, e3, e4, Nat.zero_add]

theorem cutG_apply (Y : Vec Ideal S32x8x4 .f32) (b : Fin 8) (h : Fin 4) :
    cutG Y (fun _ => BitVec.ofNat 32 n.val) (ix2 b h) = Y (ix3 n b h) := by
  unfold cutG
  pointwise
  have e0 := clampedG n 0
  have e1 := clampedG n 1
  have e2 := clampedG n 2
  simp only [reduceIte, Fin.reduceEq] at e0 e1 e2
  simp only [e0, e1, e2, Nat.zero_add]

end Cut

section Step

variable (X : Valuation τ sig (Elt Ideal)) (n : Fin 32) (hn : X (Proc.devRef .tc main_v19_6) = fun _ => BitVec.ofNat 32 n.val)

def slot0 : Vec Ideal S32x8x4x64x128 .f32 := X (Proc.devRef .tc main_v19_0)
def slot1 : Vec Ideal S32x8x4x64x128 .f32 := X (Proc.devRef .tc main_v19_1)
def slot2 : Vec Ideal S32x8x4x64x128 .f32 := X (Proc.devRef .tc main_v19_2)
def slot3 : Vec Ideal S32x8x4x64x64 .f32 := X (Proc.devRef .tc main_v19_3)
def slot4 : Vec Ideal S32x8x4x64x128 .f32 := X (Proc.devRef .tc main_v19_4)
def slot5 : Vec Ideal S32x8x4 .f32 := X (Proc.devRef .tc main_v19_5)
def slot6 : Vec Ideal S_ .i32 := X (Proc.devRef .tc main_v19_6)
def slot7 : Vec Ideal S8x4x128x128 .f32 := X (Proc.devRef .tc main_v19_7)
def slot8 : Vec Ideal S32x8x4x64x128 .f32 := X (Proc.devRef .tc main_v19_8)

/-- A trip's corrected values. -/
def fresh : Vec Ideal S8x4x64x128 .f32 := res_main_while0b_v48 X

theorem fresh_eq : fresh X = subf (φ := .f32) (cut (slot0 X) (slot6 X))
    (Host.dotGeneral (F := Ideal) (φ₁ := .f32) (φ₂ := .f32) dot_S8x4x64x128_S8x4x128x128_S8x4x64x128_3_2_2_3_01_01 none (cut (slot1 X) (slot6 X)) (slot7 X)) := rfl

include hn

theorem fresh_apply (b : Fin 8) (h : Fin 4) (i : Fin 64) (j : Fin 128) : fresh X (ix4 b h i j)
    = slot0 X (ix5 n b h i j) - ∑ k : Fin 128, slot1 X (ix5 n b h i k) * slot7 X (ix4 b h k j) := by
  have h6 : slot6 X = fun _ => BitVec.ofNat 32 n.val := hn
  rw [fresh_eq, h6]
  pointwise
  simp only [cut_apply]

theorem state_apply (b : Fin 8) (h : Fin 4) (i j : Fin 128) : (step_main_v19_7 X : Vec Ideal S8x4x128x128 .f32) (ix4 b h i j)
    = slot7 X (ix4 b h i j) * Ideal.exp (slot5 X (ix3 n b h)) + ∑ x : Fin 64, slot4 X (ix5 n b h x i) * fresh X (ix4 b h x j) := by
  have h6 : slot6 X = fun _ => BitVec.ofNat 32 n.val := hn
  show addf (F := Ideal) (φ := .f32) (mulf (slot7 X) (broadcastInDim S8x4x128x128 ![0, 1, 2, 3] bcast_S8x4x1x1_S8x4x128x128_0_1_2_3
    (broadcastInDim S8x4x1x1 ![0, 1] bcast_S8x4_S8x4x1x1_0_1 (Host.exp (F := Ideal) (φ := .f32) (cutG (slot5 X) (slot6 X))))))
    (Host.dotGeneral (F := Ideal) (φ₁ := .f32) (φ₂ := .f32) dot_S8x4x64x128_S8x4x64x128_S8x4x128x128_2_2_3_3_01_01 none (cut (slot4 X) (slot6 X)) (fresh X)) (ix4 b h i j) = _
  rw [h6]
  pointwise
  simp only [cut_apply, cutG_apply]

/-- The trip's output before it is stored. -/
def made : Vec Ideal S8x4x64x128 .f32 :=
  addf (F := Ideal) (φ := .f32)
    (Host.dotGeneral (F := Ideal) (φ₁ := .f32) (φ₂ := .f32) dot_S8x4x64x128_S8x4x128x128_S8x4x64x128_3_2_2_3_01_01 none (cut (slot2 X) (slot6 X)) (slot7 X))
    (Host.dotGeneral (F := Ideal) (φ₁ := .f32) (φ₂ := .f32) dot_S8x4x64x64_S8x4x64x128_S8x4x64x128_3_2_2_3_01_01 none (cutA (slot3 X) (slot6 X)) (fresh X))

theorem made_apply (b : Fin 8) (h : Fin 4) (i : Fin 64) (j : Fin 128) : made X (ix4 b h i j)
    = ∑ k : Fin 128, slot2 X (ix5 n b h i k) * slot7 X (ix4 b h k j) + ∑ x : Fin 64, slot3 X (ix5 n b h i x) * fresh X (ix4 b h x j) := by
  have h6 : slot6 X = fun _ => BitVec.ofNat 32 n.val := hn
  unfold made
  rw [h6]
  pointwise
  simp only [cut_apply, cutA_apply]

theorem stored_apply (k : Fin 32) (b : Fin 8) (h : Fin 4) (i : Fin 64) (j : Fin 128) :
    (step_main_v19_8 X : Vec Ideal S32x8x4x64x128 .f32) (ix5 k b h i j) = if k = n then made X (ix4 b h i j) else slot8 X (ix5 k b h i j) := by
  have h6 : slot6 X = fun _ => BitVec.ofNat 32 n.val := hn
  show Host.dynamicUpdateSlice (slot8 X) (broadcastInDim S1x8x4x64x128 ![1, 2, 3, 4] bcast_S8x4x64x128_S1x8x4x64x128_1_2_3_4 (made X)) (starts (slot6 X))
    updateFits_S32x8x4x64x128_S1x8x4x64x128 (ix5 k b h i j) = _
  rw [h6]
  pointwise
  have e0 := clamped n 0
  have e1 := clamped n 1
  have e2 := clamped n 2
  have e3 := clamped n 3
  have e4 := clamped n 4
  simp only [reduceIte, Fin.reduceEq] at e0 e1 e2 e3 e4
  simp only [e0, e1, e2, e3, e4, Nat.zero_le, Nat.sub_zero, and_true]
  by_cases hk : k = n
  · rw [dif_pos (by rw [hk]; omega), if_pos hk]
  · rw [dif_neg (fun hh => hk (Fin.ext (by omega))), if_neg hk]

end Step

/-! ## All the trips -/

section Trips

variable (c : Dev nD)

/-- The buffers after `n` trips. -/
def trip (n : ℕ) : Valuation τ sig (Elt Ideal) := STEP^[n] (entryContents preI m c)

theorem trip_succ (n : ℕ) : trip m c (n + 1) = STEP (trip m c n) := Function.iterate_succ_apply' _ _ _

theorem trip0 : ∀ n, slot0 (trip m c n) = chunked (arr0 m c)
  | 0 => entry0 m c
  | n + 1 => by rw [trip_succ]; exact (STEP_main_v19_0 _).trans (trip0 n)

theorem trip1 : ∀ n, slot1 (trip m c n) = chunked (extf (F := Ideal) (s := S8x2048x512) (φ := .bf16) .f32 (arr1 m c) bitsLt_bf16_f32)
  | 0 => entry1 m c
  | n + 1 => by rw [trip_succ]; exact (STEP_main_v19_1 _).trans (trip1 n)

theorem trip2 : ∀ n, slot2 (trip m c n) = chunked (extf (F := Ideal) (s := S8x2048x512) (φ := .bf16) .f32 (arr2 m c) bitsLt_bf16_f32)
  | 0 => entry2 m c
  | n + 1 => by rw [trip_succ]; exact (STEP_main_v19_2 _).trans (trip2 n)

theorem trip3 : ∀ n, slot3 (trip m c n) = chunkedA (extf (F := Ideal) (s := S8x2048x256) (φ := .bf16) .f32 (arr4 m c) bitsLt_bf16_f32)
  | 0 => entry3 m c
  | n + 1 => by rw [trip_succ]; exact (STEP_main_v19_3 _).trans (trip3 n)

theorem trip4 : ∀ n, slot4 (trip m c n) = chunked (extf (F := Ideal) (s := S8x2048x512) (φ := .bf16) .f32 (arr3 m c) bitsLt_bf16_f32)
  | 0 => entry4 m c
  | n + 1 => by rw [trip_succ]; exact (STEP_main_v19_4 _).trans (trip4 n)

theorem trip5 : ∀ n, slot5 (trip m c n) = gates (arr6 m c)
  | 0 => entry5 m c
  | n + 1 => by rw [trip_succ]; exact (STEP_main_v19_5 _).trans (trip5 n)

theorem trip6 : ∀ n, slot6 (trip m c n) = fun _ => BitVec.ofNat 32 n
  | 0 => entry6 m c
  | n + 1 => by
    rw [trip_succ]
    refine (STEP_main_v19_6 _).trans ?_
    show addi (slot6 (trip m c n)) (constantI S_ 32 1#32) = _
    rw [trip6 n]
    funext i
    exact (BitVec.ofNat_add n 1).symm

/-- A widened array has the same elements. -/
theorem widened (x : Vec Ideal S8x2048x512 .bf16) (i : Fin 8) (j : Fin 2048) (k : Fin 512) :
    extf (F := Ideal) (s := S8x2048x512) (φ := .bf16) .f32 x bitsLt_bf16_f32 (ix3 i j k) = x (ix3 i j k) := rfl

theorem widenedA (x : Vec Ideal S8x2048x256 .bf16) (i : Fin 8) (j : Fin 2048) (k : Fin 256) :
    extf (F := Ideal) (s := S8x2048x256) (φ := .bf16) .f32 x bitsLt_bf16_f32 (ix3 i j k) = x (ix3 i j k) := rfl

abbrev states (n : ℕ) : Vec Ideal S8x4x128x128 .f32 := Cert.Recurrence.before (arr0 m c) (arr1 m c) (arr3 m c) (arr6 m c) n

theorem trip_fresh (n : Fin 32) (b : Fin 8) (h : Fin 4) (i : Fin 64) (j : Fin 128) : fresh (trip m c n.val) (ix4 b h i j)
    = Cert.Recurrence.value (arr0 m c) (arr1 m c) (slot7 (trip m c n.val)) n b h i j := by
  rw [fresh_apply _ n (trip6 m c n.val), trip0, trip1]
  simp only [chunked_apply, widened]
  rfl

theorem trip7 : ∀ n, n ≤ 32 → slot7 (trip m c n) = states m c n
  | 0, _ => entry7 m c
  | n + 1, hn => by
    have h := trip7 n (by omega)
    rw [trip_succ]
    refine (STEP_main_v19_7 _).trans ?_
    refine Eq.trans ?_ (Cert.Recurrence.before_succ (arr0 m c) (arr1 m c) (arr3 m c) (arr6 m c) ⟨n, by omega⟩).symm
    funext i
    idx_vars i
    rw [state_apply _ ⟨n, by omega⟩ (trip6 m c n), trip4, trip5]
    simp only [chunked_apply, widened, gates_apply, trip_fresh m c ⟨n, by omega⟩, h]
    rfl

theorem trip_made (n : Fin 32) (b : Fin 8) (h : Fin 4) (i : Fin 64) (j : Fin 128) : made (trip m c n.val) (ix4 b h i j)
    = Cert.Recurrence.out (arr0 m c) (arr1 m c) (arr2 m c) (arr3 m c) (arr4 m c) (arr6 m c) n b h i j := by
  rw [made_apply _ n (trip6 m c n.val), trip2, trip3]
  simp only [chunked_apply, chunkedA_apply, widened, widenedA, trip_fresh m c n, trip7 m c n.val n.isLt.le]
  rfl

theorem trip8 (k : Fin 32) (b : Fin 8) (h : Fin 4) (i : Fin 64) (j : Fin 128) : ∀ n, n ≤ 32 → k.val < n →
    slot8 (trip m c n) (ix5 k b h i j) = Cert.Recurrence.out (arr0 m c) (arr1 m c) (arr2 m c) (arr3 m c) (arr4 m c) (arr6 m c) k b h i j
  | 0, _, hk => absurd hk (Nat.not_lt_zero _)
  | n + 1, hn, hk => by
    rw [trip_succ]
    refine (congrFun (STEP_main_v19_8 (trip m c n)) (ix5 k b h i j)).trans ?_
    refine (stored_apply (trip m c n) ⟨n, by omega⟩ (trip6 m c n) k b h i j).trans ?_
    by_cases e : k = ⟨n, by omega⟩
    · rw [if_pos e, e]
      exact trip_made m c ⟨n, by omega⟩ b h i j
    · rw [if_neg e]
      exact trip8 k b h i j n (by omega) (by have : k.val ≠ n := fun q => e (Fin.ext q); omega)

end Trips

/-! ## What the program makes of the outputs -/

def joined (o : Vec Ideal S32x8x4x64x128 .f32) : Vec Ideal S8x2048x4x128 .f32 :=
  transpose S8x2048x4x128 [0, 2, 1, 3] (shapeCast S8x4x2048x128 (transpose S8x4x32x64x128 [1, 2, 0, 3, 4] o transposes_S32x8x4x64x128_S8x4x32x64x128_1_2_0_3_4) shapeCasts_S8x4x32x64x128_S8x4x2048x128) transposes_S8x4x2048x128_S8x2048x4x128_0_2_1_3

theorem joined_apply (o : Vec Ideal S32x8x4x64x128 .f32) (b : Fin 8) (n : Fin 2048) (h : Fin 4) (j : Fin 128) :
    joined o (ix4 b n h j) = o (ix5 (⟨n.val / 64, by omega⟩ : Fin 32) b h (⟨n.val % 64, by omega⟩ : Fin 64) j) := by
  unfold joined
  pointwise

def finish (o : Vec Ideal S32x8x4x64x128 .f32) (z : Vec Ideal S8x2048x512 .f32) (g : Vec Ideal S1x128 .f32) : Vec Ideal S8x2048x512 .bf16 :=
  truncf (F := Ideal) (φ := .f32) .bf16 (shapeCast S8x2048x512
    (mulf (mulf (mulf (joined o)
      (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (joined o) (joined o)) (constant S_ .f32 0x00000000#32) reducesTo_S8x2048x4x128_S8x2048x4_d3 h_S_))
        (broadcastInDim S8x2048x4x1 ![] bcast_S_S8x2048x4x1 (constant S_ .f32 0x43000000#32)))
        (broadcastInDim S8x2048x4x1 ![] bcast_S_S8x2048x4x1 (constant S_ .f32 0x358637BD#32))))))
      (broadcastInDim S8x2048x4x128 ![0, 1, 2, 3] bcast_S1x1x1x128_S8x2048x4x128_0_1_2_3 (broadcastInDim S1x1x1x128 ![3] bcast_S128_S1x1x1x128_3 (shapeCast S128 g shapeCasts_S1x128_S128))))
      (shapeCast S8x2048x4x128 z shapeCasts_S8x2048x512_S8x2048x4x128)) shapeCasts_S8x2048x4x128_S8x2048x512) bitsLt_bf16_f32

theorem finish_eq (X : Valuation τ sig (Elt Ideal)) :
    out_main_v40 X = finish (slot8 X) (X (Proc.devRef .tc main_arg5)) (X (Proc.devRef .tc main_arg7)) := rfl

theorem finish_apply (o : Vec Ideal S32x8x4x64x128 .f32) (z : Vec Ideal S8x2048x512 .f32) (g : Vec Ideal S1x128 .f32)
    (b : Fin 8) (n : Fin 2048) (k : Fin 512) : finish o z g (ix3 b n k)
    = joined o (ix4 b n (⟨k.val / 128, by omega⟩ : Fin 4) (⟨k.val % 128, by omega⟩ : Fin 128))
      * Ideal.rsqrt (Ideal.div (∑ y : Fin 128, joined o (ix4 b n (⟨k.val / 128, by omega⟩ : Fin 4) y)
          * joined o (ix4 b n (⟨k.val / 128, by omega⟩ : Fin 4) y)) (Ideal.ofBits .f32 0x43000000#32) + Ideal.ofBits .f32 0x358637BD#32)
      * g (ix2 (0 : Fin 1) (⟨k.val % 128, by omega⟩ : Fin 128)) * z (ix3 b n k) := by
  unfold finish
  pointwise

theorem row_at (n : Fin 2048) : row ⟨n.val / 64, by omega⟩ ⟨n.val % 64, by omega⟩ = n := Fin.ext (Nat.div_add_mod n.val 64)

theorem col_at (k : Fin 512) : col ⟨k.val / 128, by omega⟩ ⟨k.val % 128, by omega⟩ = k := Fin.ext (Nat.div_add_mod k.val 128)

theorem final (c : Dev nD) : out_main_v40 (trip m c 32)
    = Cert.Recurrence.result (arr0 m c) (arr1 m c) (arr2 m c) (arr3 m c) (arr4 m c) (arr5 m c) (arr6 m c) (arr7 m c) := by
  have e5 : trip m c 32 (Proc.devRef .tc main_arg5) = arr5 m c := iter_main_arg5 m c 32
  have e7 : trip m c 32 (Proc.devRef .tc main_arg7) = arr7 m c := iter_main_arg7 m c 32
  rw [finish_eq, e5, e7]
  funext i
  idx_vars i
  rw [finish_apply]
  simp only [joined_apply, trip8 m c _ _ _ _ _ 32 le_rfl (Fin.isLt _)]
  show _ = Cert.Recurrence.normed _ _ _ _ _ _ _ _ (⟨i1.val / 64, by omega⟩ : Fin 32) i0 (⟨i2.val / 128, by omega⟩ : Fin 4)
    (⟨i1.val % 64, by omega⟩ : Fin 64) (⟨i2.val % 128, by omega⟩ : Fin 128)
  unfold Cert.Recurrence.normed
  rw [row_at, col_at]

/-- Every run ends with the recurrence's result and the arguments as they were. -/
theorem run : θ_run (defs (F := Ideal)) (onTc (τ := τ) (main (F := Ideal))) ⟨m, fun _ => 0, ρ⟩ fun r => ∀ c : Dev nD,
      r.2.mem ((c.tc : Thread nD τ).loc main_v40)
        = Cert.Recurrence.result (arr0 m c) (arr1 m c) (arr2 m c) (arr3 m c) (arr4 m c) (arr5 m c) (arr6 m c) (arr7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final m c), (h c).2⟩) (Value.run (F := Ideal) m ρ)

end Cert.ReferenceIdeal.Scan
-- ==== Proof.Inproj.Math.lean ====
/- The fused projection as plain functions of the arguments over the extended reals: the normalised row, its projections, the
   causal convolutions, the gates, and the facts about finite values that the split sums of the kernel rest on. -/
module

public import Idealize.ShloMosaic.PureOps.Ideal
public import Idealize.ShloMosaic.Lib.Pointwise

@[expose] public section

noncomputable section

namespace Cert.Inproj

open Idealize.ShloMosaic

/-- The constant added before every reciprocal root. -/
def eps : EReal := Ideal.ofBits FTy.f32 0x358637BD#32

/-- The width of a row, as the programs divide by it. -/
def width : EReal := Ideal.ofBits FTy.f32 0x44800000#32

/-- The width of a group of the short convolution, as the reference divides by it. -/
def groupWidth : EReal := Ideal.ofBits FTy.f32 0x42800000#32

/-- The scale of the queries. -/
def qScale : EReal := Ideal.ofBits FTy.f32 0x3DB504F3#32

/-- A row normalised by its root mean square and scaled. -/
def norm (x g : Fin 1024 → EReal) (j : Fin 1024) : EReal :=
  x j * Ideal.rsqrt (Ideal.div (∑ i : Fin 1024, x i * x i) width + eps) * g j

/-- A normalised row against one column of the weights. -/
def proj (x g w : Fin 1024 → EReal) : EReal := ∑ j : Fin 1024, norm x g j * w j

/-- The value `k` rows before row `s`, zero before the first. -/
def back (f : Fin 2048 → EReal) (s : Fin 2048) (k : Nat) : EReal :=
  if h : k ≤ s.val then f ⟨s.val - k, by omega⟩ else 0

/-- The causal convolution of width three. -/
def conv3 (w : Fin 3 → EReal) (f : Fin 2048 → EReal) (s : Fin 2048) : EReal :=
  w 0 * back f s 2 + w 1 * back f s 1 + w 2 * back f s 0

/-- The causal convolution of width four. -/
def conv4 (w : Fin 4 → EReal) (f : Fin 2048 → EReal) (s : Fin 2048) : EReal :=
  w 3 * back f s 0 + w 2 * back f s 1 + (w 1 * back f s 2 + w 0 * back f s 3)

/-- A value times its sigmoid. -/
def silu (x : EReal) : EReal := x * Ideal.logistic x

/-- A value over the root of a sum of squares. -/
def unit (y : Fin 128 → EReal) (d : Fin 128) : EReal :=
  y d * Ideal.rsqrt ((∑ i : Fin 128, y i * y i) + eps)

/-- A value over the root mean square of its group, scaled. -/
def group (y : Fin 64 → EReal) (g : EReal) (d : Fin 64) : EReal :=
  y d * Ideal.rsqrt (Ideal.div (∑ i : Fin 64, y i * y i) groupWidth + eps) * g

/-- The logarithm of one plus the exponential. -/
def softplus (x : EReal) : EReal := max x 0 + Ideal.log1p (Ideal.exp (-(max x (-x))))

/-- The decay of one row. -/
def decay (alog x : EReal) : EReal := -(Ideal.exp alog) * softplus x

/-- The sum of the first rows of a chunk, up to and including row `i`. -/
def upTo (f : Fin 64 → EReal) (i : Fin 64) : EReal := ∑ j : Fin 64, if j ≤ i then f j else 0

/-! ## The call's results -/

/-- The arguments: the rows, the scale of their normalisation, the weights, the two convolutions' weights, the scale of the
    groups, and the two gate vectors. -/
structure Args where
  x : Fin 8 → Fin 2048 → Fin 1024 → EReal
  g : Fin 1024 → EReal
  w : Fin 1024 → Fin 3592 → EReal
  cw : Fin 3 → Fin 512 → EReal
  cn : Fin 512 → EReal
  dw : Fin 4 → Fin 1536 → EReal
  al : Fin 4 → EReal
  db : Fin 4 → EReal

namespace Args

variable (A : Args)

/-- Column `c` of the projection of row `s`. -/
def pr (b : Fin 8) (c : Fin 3592) (s : Fin 2048) : EReal := proj (A.x b s) A.g fun j => A.w j c

/-- Column `c` of the convolved queries, keys and values. -/
def qkv (b : Fin 8) (s : Fin 2048) (c : Fin 1536) : EReal :=
  silu (conv4 (fun i => A.dw i c) (A.pr b ⟨1536 + c.val, by omega⟩) s)

def q (b : Fin 8) (s : Fin 2048) (c : Fin 512) : EReal :=
  unit (fun d => A.qkv b s ⟨c.val / 128 * 128 + d.val, by omega⟩) ⟨c.val % 128, by omega⟩ * qScale

def k (b : Fin 8) (s : Fin 2048) (c : Fin 512) : EReal :=
  unit (fun d => A.qkv b s ⟨512 + (c.val / 128 * 128 + d.val), by omega⟩) ⟨c.val % 128, by omega⟩

def v (b : Fin 8) (s : Fin 2048) (c : Fin 512) : EReal := A.qkv b s ⟨1024 + c.val, by omega⟩

def zg (b : Fin 8) (s : Fin 2048) (c : Fin 512) : EReal := silu (A.pr b ⟨3072 + c.val, by omega⟩ s)

/-- The short convolution before its groups are normalised. -/
def short (b : Fin 8) (s : Fin 2048) (c : Fin 512) : EReal :=
  A.pr b ⟨512 + c.val, by omega⟩ s
    * conv3 (fun i => A.cw i c) (fun r => A.pr b ⟨1024 + c.val, by omega⟩ r * A.pr b ⟨c.val, by omega⟩ r) s

def ya (b : Fin 8) (s : Fin 2048) (c : Fin 512) : EReal :=
  group (fun d => A.short b s ⟨c.val / 64 * 64 + d.val, by omega⟩) (A.cn c) ⟨c.val % 64, by omega⟩

/-- The decay of head `h` at row `s`. -/
def dec (b : Fin 8) (h : Fin 4) (s : Fin 2048) : EReal := decay (A.al h) (A.pr b ⟨3588 + h.val, by omega⟩ s + A.db h)

/-- The gates of a chunk: the four heads' sigmoids, then their running decays. -/
def gates (b : Fin 8) (n : Fin 32) (r : Fin 8) (i : Fin 64) : EReal :=
  if h : r.val < 4 then Ideal.logistic (A.pr b ⟨3584 + r.val, by omega⟩ ⟨n.val * 64 + i.val, by omega⟩)
  else upTo (fun j => A.dec b ⟨r.val - 4, by omega⟩ ⟨n.val * 64 + j.val, by omega⟩) i

end Args

/-! ## Finite values -/

/-- A value that is a real number. -/
def IsReal (x : EReal) : Prop := ∃ r : ℝ, x = (r : EReal)

theorem IsReal.of_ne {x : EReal} (h1 : x ≠ ⊤) (h2 : x ≠ ⊥) : IsReal x := ⟨x.toReal, (EReal.coe_toReal h1 h2).symm⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.sub_self {x : EReal} (hx : IsReal x) : x - x = 0 := by
  obtain ⟨a, rfl⟩ := hx
  rw [← EReal.coe_sub, _root_.sub_self, EReal.coe_zero]

theorem IsReal.sum {n : Nat} {f : Fin n → EReal} (h : ∀ i, IsReal (f i)) : IsReal (∑ i, f i) := by
  choose r hr using h
  refine ⟨∑ i, r i, ?_⟩
  rw [Finset.sum_congr rfl fun i _ => hr i]
  exact (map_sum (⟨⟨Real.toEReal, EReal.coe_zero⟩, EReal.coe_add⟩ : ℝ →+ EReal) r Finset.univ).symm

theorem coe_sum {n : Nat} (r : Fin n → ℝ) : (∑ i, (r i : EReal)) = ((∑ i, r i : ℝ) : EReal) :=
  (map_sum (⟨⟨Real.toEReal, EReal.coe_zero⟩, EReal.coe_add⟩ : ℝ →+ EReal) r Finset.univ).symm

theorem IsReal.exp {x : EReal} (hx : IsReal x) : ∃ r : ℝ, 0 < r ∧ Ideal.exp x = (r : EReal) := by
  obtain ⟨a, rfl⟩ := hx
  exact ⟨Real.exp a, Real.exp_pos a, rfl⟩

theorem IsReal.softplus {x : EReal} (hx : IsReal x) : IsReal (softplus x) := by
  refine (hx.max .zero).add ?_
  obtain ⟨r, hr, h⟩ := IsReal.exp (hx.max hx.neg).neg
  rw [h]
  unfold Ideal.log1p
  rw [← EReal.coe_one, ← EReal.coe_add, Ideal.log_coe, if_neg (by linarith)]
  exact ⟨_, rfl⟩

theorem IsReal.decay {a x : EReal} (ha : IsReal a) (hx : IsReal x) : IsReal (decay a x) := by
  obtain ⟨r, -, h⟩ := IsReal.exp ha
  exact (IsReal.neg ⟨r, h⟩).mul hx.softplus

theorem eps_pos : ∃ r : ℝ, 0 < r ∧ eps = (r : EReal) := by
  refine ⟨(8796093 / 8796093022208 : ℝ), by norm_num, ?_⟩
  unfold eps
  simp [Ideal.ofBits, Ideal.ieee, -EReal.coe_mul]
  norm_num

theorem width_eq : width = ((1024 : ℝ) : EReal) := by
  unfold width
  simp [Ideal.ofBits, Ideal.ieee, -EReal.coe_mul]
  norm_num

theorem groupWidth_eq : groupWidth = ((64 : ℝ) : EReal) := by
  unfold groupWidth
  simp [Ideal.ofBits, Ideal.ieee, -EReal.coe_mul]
  norm_num

theorem part_eq : Ideal.ofBits FTy.f32 0x3C800000#32 = ((1 / 64 : ℝ) : EReal) := by
  simp [Ideal.ofBits, Ideal.ieee, -EReal.coe_mul]
  norm_num

theorem IsReal.norm {x g : Fin 1024 → EReal} (hx : ∀ j, IsReal (x j)) (hg : ∀ j, IsReal (g j)) (j : Fin 1024) :
    IsReal (norm x g j) := by
  refine ((hx j).mul ?_).mul (hg j)
  choose r hr using hx
  obtain ⟨e, he, hE⟩ := eps_pos
  have hs : (∑ i : Fin 1024, x i * x i) = ((∑ i, r i * r i : ℝ) : EReal) := by
    rw [← coe_sum]
    exact Finset.sum_congr rfl fun i _ => by rw [hr i, EReal.coe_mul]
  have hpos : 0 < (∑ i, r i * r i) * (1 / 1024 : ℝ) + e := by
    have : 0 ≤ ∑ i, r i * r i := Finset.sum_nonneg fun i _ => mul_self_nonneg (r i)
    positivity
  rw [hs, width_eq, Ideal.div_coe (by norm_num), hE, ← EReal.coe_mul, ← EReal.coe_add, Ideal.rsqrt_coe, if_neg (by linarith),
    if_neg (by linarith)]
  exact ⟨_, rfl⟩

theorem IsReal.proj {x g w : Fin 1024 → EReal} (hx : ∀ j, IsReal (x j)) (hg : ∀ j, IsReal (g j)) (hw : ∀ j, IsReal (w j)) :
    IsReal (proj x g w) := IsReal.sum fun j => (IsReal.norm hx hg j).mul (hw j)

theorem IsReal.back {f : Fin 2048 → EReal} (hf : ∀ s, IsReal (f s)) (s : Fin 2048) (k : Nat) : IsReal (back f s k) := by
  unfold Cert.Inproj.back
  split
  · exact hf _
  · exact .zero

theorem IsReal.conv3 {w : Fin 3 → EReal} {f : Fin 2048 → EReal} (hw : ∀ i, IsReal (w i)) (hf : ∀ s, IsReal (f s)) (s : Fin 2048) :
    IsReal (conv3 w f s) :=
  (((hw 0).mul (.back hf s 2)).add ((hw 1).mul (.back hf s 1))).add ((hw 2).mul (.back hf s 0))

/-- The mean of a group, taken as a sum of products with its reciprocal width over twice as many columns, of which those of
    the other group count nothing. -/
theorem group_mean {y : Fin 128 → EReal} (hy : ∀ i, IsReal (y i)) (z : Fin 64 → EReal) (e : Fin 64 → Fin 128) (he : Function.Injective e)
    (hz : ∀ i, y (e i) = z i) (k : Fin 128 → EReal) (hk : ∀ i, k i = if i ∈ Set.range e then ((1 / 64 : ℝ) : EReal) else 0) :
    (∑ i : Fin 128, (y i * y i) * k i) + (∑ i : Fin 128, (y i * y i - y i * y i) * k i)
      = Ideal.div (∑ i : Fin 64, z i * z i) groupWidth := by
  have h0 : (∑ i : Fin 128, (y i * y i - y i * y i) * k i) = 0 :=
    Finset.sum_eq_zero fun i _ => by rw [((hy i).mul (hy i)).sub_self, zero_mul]
  rw [h0, add_zero, groupWidth_eq, Ideal.div_coe (by norm_num)]
  have h1 : (∑ i : Fin 128, (y i * y i) * k i) = ∑ i : Fin 64, (z i * z i) * ((1 / 64 : ℝ) : EReal) := by
    classical
    rw [← Finset.sum_subset (Finset.subset_univ (Finset.univ.image e)) (fun i _ hi => by
      rw [hk, if_neg (by simpa using hi), mul_zero]), Finset.sum_image (fun a _ b _ h => he h)]
    exact Finset.sum_congr rfl fun i _ => by rw [hk, if_pos ⟨i, rfl⟩, hz]
  have hr : ∀ i, IsReal (z i) := fun i => hz i ▸ hy (e i)
  choose r hr using hr
  rw [h1]
  have h2 : (∑ i : Fin 64, z i * z i) = ((∑ i, r i * r i : ℝ) : EReal) := by
    rw [← coe_sum]
    exact Finset.sum_congr rfl fun i _ => by rw [hr i, EReal.coe_mul]
  rw [h2, ← EReal.coe_mul, Finset.sum_mul, ← coe_sum]
  exact Finset.sum_congr rfl fun i _ => by rw [hr i, EReal.coe_mul, EReal.coe_mul]

/-- A running sum taken as three sums, of a value and of what is left of it after taking it off once and twice. -/
theorem upTo_split {f : Fin 64 → EReal} (hf : ∀ j, IsReal (f j)) (i : Fin 64) (t : Fin 64 → EReal) (ht : ∀ j, t j = if j ≤ i then 1 else 0) :
    0 + (∑ j, t j * f j) + (∑ j, t j * (f j - f j)) + (∑ j, t j * (f j - f j - (f j - f j))) = upTo f i := by
  have h1 : (∑ j, t j * (f j - f j)) = 0 := Finset.sum_eq_zero fun j _ => by rw [(hf j).sub_self, mul_zero]
  have h2 : (∑ j, t j * (f j - f j - (f j - f j))) = 0 :=
    Finset.sum_eq_zero fun j _ => by rw [(hf j).sub_self, sub_zero, mul_zero]
  rw [h1, h2, add_zero, add_zero, zero_add]
  refine Finset.sum_congr rfl fun j _ => ?_
  rw [ht]
  split
  · rw [one_mul]
  · rw [zero_mul]

end Cert.Inproj

end
-- ==== Proof.Inproj.Entry.lean ====
/- The blocks one grid point reads, as parts of the argument arrays. -/
module

public import proofs.«01_k».proof.Proof.Gen.Kernel2Ideal.Frame
public import proofs.«01_k».proof.Proof.Inproj.Math
import Idealize.ShloMosaic.Lib.Pipeline.ValueKit
import Idealize.ShloMosaic.Lib.Pointwise
import Idealize.ShloMosaic.Lib.Claim
import Idealize.ShloMosaic.Lib.StableHlo.RunRead
import Idealize.ShloMosaic.Lib.Routing.OpsSet

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem

variable (m : (ℓ : Loc nD τ sig) → Buf (Elt Ideal) ℓ) (c : Dev nD)

abbrev a0 : Vec Ideal S8x2048x1024 .f32 := m ((c : Thread nD τ).loc main_arg0)
abbrev a1 : Vec Ideal S1x1024 .f32 := m ((c : Thread nD τ).loc main_arg1)
abbrev a2 : Vec Ideal S1x1024x3592 .f32 := m ((c : Thread nD τ).loc main_arg2)
abbrev a3 : Vec Ideal S1x3x512 .f32 := m ((c : Thread nD τ).loc main_arg3)
abbrev a4 : Vec Ideal S1x512 .f32 := m ((c : Thread nD τ).loc main_arg4)
abbrev a5 : Vec Ideal S1x4x1536 .f32 := m ((c : Thread nD τ).loc main_arg5)
abbrev a6 : Vec Ideal S1x4 .f32 := m ((c : Thread nD τ).loc main_arg6)
abbrev a7 : Vec Ideal S1x4 .f32 := m ((c : Thread nD τ).loc main_arg7)

/-- The call's arguments. -/
def argsOf : Cert.Inproj.Args where
  x := fun b s j => a0 m c (ix3 b s j)
  g := fun j => a1 m c (ix2 (0 : Fin 1) j)
  w := fun j k => a2 m c (ix3 (0 : Fin 1) j k)
  cw := fun i k => a3 m c (ix3 (0 : Fin 1) i k)
  cn := fun k => a4 m c (ix2 (0 : Fin 1) k)
  dw := fun i k => a5 m c (ix3 (0 : Fin 1) i k)
  al := fun h => a6 m c (ix2 (0 : Fin 1) h)
  db := fun h => a7 m c (ix2 (0 : Fin 1) h)

/-! ## The arrays the launch's host operations make -/

theorem entry1 (j : Fin 1024) : (V m c main_v10 : Vec Ideal S1x1024 .f32) (ix2 (0 : Fin 1) j) = (argsOf m c).g j := by
  simp only [V, hostOps0, hostOps0_1, hostOps0_2, hostOps0_3, hostOps0_4, List.flatten_cons, List.flatten_nil, List.append_nil, List.cons_append, List.nil_append]
  after_reads_simp
  pointwise [argsOf]

theorem entry2 (j : Fin 1024) (k : Fin 3592) : (V m c main_v12 : Vec Ideal S1024x3592 .bf16) (ix2 j k) = (argsOf m c).w j k := by
  simp only [V, hostOps0, hostOps0_1, hostOps0_2, hostOps0_3, hostOps0_4, List.flatten_cons, List.flatten_nil, List.append_nil, List.cons_append, List.nil_append]
  after_reads_simp
  pointwise [argsOf]

theorem entry3 (i : Fin 3) (k : Fin 512) : (V m c main_v13 : Vec Ideal S3x512 .f32) (ix2 i k) = (argsOf m c).cw i k := by
  simp only [V, hostOps0, hostOps0_1, hostOps0_2, hostOps0_3, hostOps0_4, List.flatten_cons, List.flatten_nil, List.append_nil, List.cons_append, List.nil_append]
  after_reads_simp
  pointwise [argsOf]

theorem entry4 (k : Fin 512) : (V m c main_v15 : Vec Ideal S1x512 .f32) (ix2 (0 : Fin 1) k) = (argsOf m c).cn k := by
  simp only [V, hostOps0, hostOps0_1, hostOps0_2, hostOps0_3, hostOps0_4, List.flatten_cons, List.flatten_nil, List.append_nil, List.cons_append, List.nil_append]
  after_reads_simp
  pointwise [argsOf]

theorem entry5 (i : Fin 4) (k : Fin 1536) : (V m c main_v16 : Vec Ideal S4x1536 .f32) (ix2 i k) = (argsOf m c).dw i k := by
  simp only [V, hostOps0, hostOps0_1, hostOps0_2, hostOps0_3, hostOps0_4, List.flatten_cons, List.flatten_nil, List.append_nil, List.cons_append, List.nil_append]
  after_reads_simp
  pointwise [argsOf]

/-- The scatter's start: row 0, lane 4. -/
def startAt : IVec S2 32 :=
  concatenate S2 0 [⟨S1, broadcastInDim S1 ![] bcast_S_S1 (constantI S_ 32 0#32)⟩, ⟨S1, broadcastInDim S1 ![] bcast_S_S1 (constantI S_ 32 4#32)⟩] concatenates_S1_S1_S2_d0

/-- Four values in lanes 4 to 7 of a row of zeros. -/
def lanes (a : Vec Ideal S1x4 .f32) : Vec Ideal S1x128 .f32 :=
  Host.scatter scatter_S1x128_S2_S4_0_0_01_0 (fun _ b => b) (broadcastInDim S1x128 ![] bcast_S_S1x128 (constant (F := Ideal) S_ .f32 0#32)) startAt
    (shapeCast S4 a shapeCasts_S1x4_S4)

theorem lands : ∀ k h : Fin 4, (scatter_S1x128_S2_S4_0_0_01_0.resultIdx? (ix1 k : S4.Idx) startAt = some (ix2 (0 : Fin 1) (⟨4 + h.val, by omega⟩ : Fin 128) : S1x128.Idx)) ↔ k = h := by
  decide +kernel

theorem lanes_apply (a : Vec Ideal S1x4 .f32) (h : Fin 4) : lanes a (ix2 (0 : Fin 1) (⟨4 + h.val, by omega⟩ : Fin 128)) = a (ix2 (0 : Fin 1) h) := by
  unfold lanes
  refine (Routing.scatter_set_hit _ _ _ _ _ (a (ix2 (0 : Fin 1) h)) ?_ (ix1 h) ((lands h h).2 rfl))
  intro k hk
  obtain ⟨k, rfl⟩ : ∃ q : Fin 4, k = ix1 q := ⟨k 0, eq_ix1 k⟩
  rw [(lands k h).1 hk]
  pointwise

theorem entry6 : (V m c main_v22 : Vec Ideal S1x128 .f32) = lanes (a6 m c) := by
  simp only [V, hostOps0, hostOps0_1, hostOps0_2, hostOps0_3, hostOps0_4, List.flatten_cons, List.flatten_nil, List.append_nil, List.cons_append, List.nil_append]
  after_reads_simp
  rfl

theorem entry7 : (V m c main_v28 : Vec Ideal S1x128 .f32) = lanes (a7 m c) := by
  simp only [V, hostOps0, hostOps0_1, hostOps0_2, hostOps0_3, hostOps0_4, List.flatten_cons, List.flatten_nil, List.append_nil, List.cons_append, List.nil_append]
  after_reads_simp
  rfl

/-- The group of each of 512 columns: the column's number divided by 64 and rounded down. -/
def groupOf : IVec S512 32 :=
  let i : IVec S512 32 := iotaInDim S512 32 0
  let d : IVec S_ 32 := constantI S_ 32 64#32
  select (andi (cmpi .ne (signi i) (broadcastInDim S512 ![] bcast_S_S512 (signi d))) (cmpi .ne (Host.remsi i (broadcastInDim S512 ![] bcast_S_S512 d)) (broadcastInDim S512 ![] bcast_S_S512 (constantI S_ 32 0#32))))
    (subi (Host.divsi i (broadcastInDim S512 ![] bcast_S_S512 d)) (broadcastInDim S512 ![] bcast_S_S512 (constantI S_ 32 1#32)))
    (Host.divsi i (broadcastInDim S512 ![] bcast_S_S512 d))

theorem groupOf_apply : ∀ l : Fin 512, groupOf (ix1 l) = BitVec.ofNat 32 (l.val / 64) := by
  decide +kernel

/-- The matrix that averages over groups of 64 columns. -/
def averages : Vec Ideal S512x512 .bf16 :=
  truncf (F := Ideal) (s := S512x512) (φ := .f32) .bf16
    (select (cmpi .eq (broadcastInDim S512x512 ![0, 1] bcast_S512x1_S512x512_0_1 (broadcastInDim S512x1 ![0] bcast_S512_S512x1_0 groupOf))
        (broadcastInDim S512x512 ![0, 1] bcast_S1x512_S512x512_0_1 (broadcastInDim S1x512 ![1] bcast_S512_S1x512_1 groupOf)))
      (broadcastInDim S512x512 ![] bcast_S_S512x512 (constant (F := Ideal) S_ .f32 0x3C800000#32))
      (broadcastInDim S512x512 ![] bcast_S_S512x512 (constant (F := Ideal) S_ .f32 0#32))) bitsLt_bf16_f32

theorem averages_apply (i k : Fin 512) : averages (ix2 i k) = if i.val / 64 = k.val / 64 then Ideal.ofBits FTy.f32 0x3C800000#32 else 0 := by
  unfold averages
  pointwise
  rw [groupOf_apply, groupOf_apply]
  by_cases h : i.val / 64 = k.val / 64
  · rw [if_pos h, h]
    have e : IntOp.cmpi CmpIPredicate.eq (BitVec.ofNat 32 (k.val / 64)) (BitVec.ofNat 32 (k.val / 64)) = 1#1 := by simp [IntOp.cmpi]
    rw [e]
    rfl
  · rw [if_neg h]
    have hne : BitVec.ofNat 32 (i.val / 64) ≠ BitVec.ofNat 32 (k.val / 64) := fun q => h (by
      have := congrArg BitVec.toNat q
      simp only [BitVec.toNat_ofNat] at this
      omega)
    have e : IntOp.cmpi CmpIPredicate.eq (BitVec.ofNat 32 (i.val / 64)) (BitVec.ofNat 32 (k.val / 64)) = 0#1 := by
      show BitVec.ofBool (BitVec.ofNat 32 (i.val / 64) == BitVec.ofNat 32 (k.val / 64)) = 0#1
      rw [beq_eq_false_iff_ne.mpr hne]
      rfl
    rw [e]
    rfl

theorem entry8 : (V m c main_v8 : Vec Ideal S512x512 .bf16) = averages := by
  simp only [V, hostOps0, hostOps0_1, hostOps0_2, hostOps0_3, hostOps0_4, List.flatten_cons, List.flatten_nil, List.append_nil, List.cons_append, List.nil_append]
  after_reads_simp
  rfl

/-! ## The blocks -/

variable (t : Fin cfg0.N)

theorem index_facts : ∀ t : Fin cfg0.N,
    win0_0.index t = ![t.val / 4, t.val % 4, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem bound : ∀ t : Fin cfg0.N, t.val < 32 := (by decide +kernel : ∀ t : Fin grid0.N, t.val < 32)

/-- The sequence of a grid point. -/
abbrev seq : Fin 8 := ⟨t.val / 4, by have := bound t; omega⟩

/-- The position in its sequence of row `r` of a grid point's tile. -/
abbrev pos (r : Fin 512) : Fin 2048 := ⟨512 * (t.val % 4) + r.val, by have := r.isLt; omega⟩

theorem blk0 (r : Fin 512) (j : Fin 1024) : (iblk m c 0 t : Vec Ideal S1x512x1024 .f32) (ix3 (0 : Fin 1) r j) = (argsOf m c).x (seq t) (pos t r) j := by
  have e := (index_facts t).1
  refine (congrArg (V m c main_arg0 : Vec Ideal S8x2048x1024 .f32) (funext fun a => Fin.ext ?_) : _ = (V m c main_arg0 : Vec Ideal S8x2048x1024 .f32) (ix3 (seq t) (pos t r) j)).trans (congrFun (V_main_arg0 m c) _)
  show win0_0.index t a * S1x512x1024.size a + 1 * ((ix3 (0 : Fin 1) r j : S1x512x1024.Idx) a).val = ((ix3 (seq t) (pos t r) j : S8x2048x1024.Idx) a).val
  rw [e]
  fin_cases a
  · show t.val / 4 * 1 + 1 * 0 = t.val / 4; omega
  · show t.val % 4 * 512 + 1 * r.val = 512 * (t.val % 4) + r.val; omega
  · show 0 * 1024 + 1 * j.val = j.val; omega

theorem whole2 {n k : ℕ} {f : Fin 2 → ℕ} (e : f = ![0, 0]) (y : (⟨2, ![n, k]⟩ : Shape).Idx) (a : Fin 2) : f a * (⟨2, ![n, k]⟩ : Shape).size a + 1 * (y a).val = (y a).val := by
  subst e
  fin_cases a
  · show 0 * n + 1 * (y 0).val = (y 0).val; omega
  · show 0 * k + 1 * (y 1).val = (y 1).val; omega

theorem blk1 : (iblk m c 1 t : Vec Ideal S1x1024 .f32) = V m c main_v10 :=
  funext fun y => congrArg (V m c main_v10 : Vec Ideal S1x1024 .f32) (funext fun a => Fin.ext (whole2 (index_facts t).2.1 y a))
theorem blk2 : (iblk m c 2 t : Vec Ideal S1024x3592 .bf16) = V m c main_v12 :=
  funext fun y => congrArg (V m c main_v12 : Vec Ideal S1024x3592 .bf16) (funext fun a => Fin.ext (whole2 (index_facts t).2.2.1 y a))
theorem blk3 : (iblk m c 3 t : Vec Ideal S3x512 .f32) = V m c main_v13 :=
  funext fun y => congrArg (V m c main_v13 : Vec Ideal S3x512 .f32) (funext fun a => Fin.ext (whole2 (index_facts t).2.2.2.1 y a))
theorem blk4 : (iblk m c 4 t : Vec Ideal S1x512 .f32) = V m c main_v15 :=
  funext fun y => congrArg (V m c main_v15 : Vec Ideal S1x512 .f32) (funext fun a => Fin.ext (whole2 (index_facts t).2.2.2.2.1 y a))
theorem blk5 : (iblk m c 5 t : Vec Ideal S4x1536 .f32) = V m c main_v16 :=
  funext fun y => congrArg (V m c main_v16 : Vec Ideal S4x1536 .f32) (funext fun a => Fin.ext (whole2 (index_facts t).2.2.2.2.2.1 y a))
theorem blk6 : (iblk m c 6 t : Vec Ideal S1x128 .f32) = lanes (a6 m c) :=
  (funext fun y => congrArg (V m c main_v22 : Vec Ideal S1x128 .f32) (funext fun a => Fin.ext (whole2 (index_facts t).2.2.2.2.2.2.1 y a))).trans (entry6 m c)
theorem blk7 : (iblk m c 7 t : Vec Ideal S1x128 .f32) = lanes (a7 m c) :=
  (funext fun y => congrArg (V m c main_v28 : Vec Ideal S1x128 .f32) (funext fun a => Fin.ext (whole2 (index_facts t).2.2.2.2.2.2.2.1 y a))).trans (entry7 m c)
theorem blk8 : (iblk m c 8 t : Vec Ideal S512x512 .bf16) = averages :=
  (funext fun y => congrArg (V m c main_v8 : Vec Ideal S512x512 .bf16) (funext fun a => Fin.ext (whole2 (index_facts t).2.2.2.2.2.2.2.2 y a))).trans (entry8 m c)

end Cert.Kernel2Ideal.Inproj

end
-- ==== Proof.Inproj.Tile.lean ====
/- What one grid point of the projection kernel computes from its blocks, over the extended reals, element by element. -/
module

public import proofs.«01_k».proof.Proof.Gen.Kernel2Ideal.Skeleton
public import proofs.«01_k».proof.Proof.Inproj.Math
import Idealize.ShloMosaic.Lib.Pointwise

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Idealize.ShloMosaic.StableHlo

/-! ## The projections -/

/-- The projection of a tile's row on a column of a block of the weights. -/
def tp {n : Nat} (x : Vec Ideal S1x512x1024 .f32) (g : Vec Ideal S1x1024 .f32) (w : (⟨2, ![1024, n]⟩ : Shape).Idx → EReal) (r : Fin 512) (c : Fin n) : EReal :=
  Cert.Inproj.proj (fun j => x (ix3 (0 : Fin 1) r j)) (fun j => g (ix2 (0 : Fin 1) j)) (fun j => w (ix2 j c))

theorem pay6_apply (x : Vec Ideal S1x512x1024 .f32) (g : Vec Ideal S1x1024 .f32) (r : Fin 512) (j : Fin 1024) :
    k0_pay6 (F := Ideal) x g (ix2 r j) = Cert.Inproj.norm (fun j => x (ix3 (0 : Fin 1) r j)) (fun j => g (ix2 (0 : Fin 1) j)) j := by
  pointwise [k0_pay6, Cert.Inproj.norm, Cert.Inproj.width, Cert.Inproj.eps]

theorem pay7_apply (x : Vec Ideal S1x512x1024 .f32) (g : Vec Ideal S1x1024 .f32) (w : Vec Ideal S1024x512 .bf16) (r : Fin 512) (c : Fin 512) :
    k0_pay7 (F := Ideal) x g w (ix2 r c) = tp x g w r c := by
  pointwise [k0_pay7]
  simp only [pay6_apply]
  rfl

theorem pay8_apply (x : Vec Ideal S1x512x1024 .f32) (g : Vec Ideal S1x1024 .f32) (w : Vec Ideal S1024x512 .bf16) (r : Fin 512) (c : Fin 512) :
    k0_pay8 (F := Ideal) x g w (ix2 r c) = tp x g w r c := by
  pointwise [k0_pay8]
  simp only [pay6_apply]
  rfl

theorem pay9_apply (x : Vec Ideal S1x512x1024 .f32) (g : Vec Ideal S1x1024 .f32) (w w' : Vec Ideal S1024x512 .bf16) (r : Fin 512) (c : Fin 512) :
    k0_pay9 (F := Ideal) (k0_pay6 x g) w w' (ix2 r c) = tp x g w r c * tp x g w' r c := by
  pointwise [k0_pay9]
  simp only [pay6_apply]
  rfl

theorem pay19_apply (x : Vec Ideal S1x512x1024 .f32) (g : Vec Ideal S1x1024 .f32) (w : Vec Ideal S1024x512 .bf16) (r : Fin 512) (c : Fin 512) :
    k0_pay19 (F := Ideal) (k0_pay6 x g) w (ix2 r c) = tp x g w r c := by
  pointwise [k0_pay19]
  simp only [pay6_apply]
  rfl

theorem pay20_apply (x : Vec Ideal S1x512x1024 .f32) (g : Vec Ideal S1x1024 .f32) (w : Vec Ideal S1024x512 .bf16) (r : Fin 512) (c : Fin 512) :
    k0_pay20 (F := Ideal) (k0_pay6 x g) w (ix2 r c) = tp x g w r c := by
  pointwise [k0_pay20]
  simp only [pay6_apply]
  rfl

theorem pay35_apply (x : Vec Ideal S1x512x1024 .f32) (g : Vec Ideal S1x1024 .f32) (w : Vec Ideal S1024x512 .bf16) (r : Fin 512) (c : Fin 512) :
    k0_pay35 (F := Ideal) (k0_pay6 x g) w (ix2 r c) = tp x g w r c := by
  pointwise [k0_pay35]
  simp only [pay6_apply]
  rfl

theorem pay48_apply (x : Vec Ideal S1x512x1024 .f32) (g : Vec Ideal S1x1024 .f32) (w : Vec Ideal S1024x8 .bf16) (r : Fin 512) (l : Fin 128) :
    k0_pay48 (F := Ideal) (k0_pay6 x g) w (ix2 r l) = if h : l.val < 8 then tp x g w r ⟨l.val, h⟩ else 0 := by
  pointwise [k0_pay48]
  simp only [pay6_apply]
  rfl

/-! ## The queries, keys and values -/

theorem rot1 (r : Fin 512) : (8 + r.val + 520 - 1) % 520 = 7 + r.val := by omega
theorem rot2 (r : Fin 512) : (8 + r.val + 520 - 2) % 520 = 6 + r.val := by omega
theorem rot3 (r : Fin 512) : (6 + r.val + 520 - 1) % 520 = 5 + r.val := by omega

/-- The long convolution at row `r` of a tile, from the tile's rows after the eight before it. -/
def cv4 (e : Vec Ideal S520x128 .f32) (w : Vec Ideal S4x128 .f32) (r : Fin 512) (d : Fin 128) : EReal :=
  w (ix2 (3 : Fin 4) d) * e (ix2 (⟨8 + r.val, by omega⟩ : Fin 520) d) + w (ix2 (2 : Fin 4) d) * e (ix2 (⟨7 + r.val, by omega⟩ : Fin 520) d)
    + (w (ix2 (1 : Fin 4) d) * e (ix2 (⟨6 + r.val, by omega⟩ : Fin 520) d) + w (ix2 (0 : Fin 4) d) * e (ix2 (⟨5 + r.val, by omega⟩ : Fin 520) d))

theorem pay12_apply (e : Vec Ideal S520x128 .f32) (w : Vec Ideal S4x128 .f32) (r : Fin 512) (d : Fin 128) :
    k0_pay12 (F := Ideal) e w (ix3 (0 : Fin 1) r d)
      = Cert.Inproj.unit (fun i => Cert.Inproj.silu (cv4 e w r i)) d * Cert.Inproj.qScale := by
  pointwise [k0_pay12]
  simp only [rot1, rot2, rot3]
  rfl

theorem pay21_apply (e : Vec Ideal S520x128 .f32) (w : Vec Ideal S4x128 .f32) (r : Fin 512) (d : Fin 128) :
    k0_pay21 (F := Ideal) e w (ix3 (0 : Fin 1) r d)
      = Cert.Inproj.unit (fun i => Cert.Inproj.silu (cv4 e w r i)) d := by
  pointwise [k0_pay21]
  simp only [rot1, rot2, rot3]
  rfl

theorem pay51_apply (e : Vec Ideal S520x128 .f32) (w : Vec Ideal S4x128 .f32) (r : Fin 512) (d : Fin 128) :
    k0_pay51 (F := Ideal) e w (ix3 (0 : Fin 1) r d) = Cert.Inproj.silu (cv4 e w r d) := by
  pointwise [k0_pay51]
  simp only [rot1, rot2, rot3]
  rfl

theorem q_head0 (e : Vec Ideal S520x128 .f32) (w : Vec Ideal S4x128 .f32) : k0_pay11 (k0_pay10 e w) = k0_pay12 (F := Ideal) e w := rfl
theorem q_head2 (e : Vec Ideal S520x128 .f32) (w : Vec Ideal S4x128 .f32) : k0_pay13 e w = k0_pay12 (F := Ideal) e w := rfl
theorem q_head3 (e : Vec Ideal S520x128 .f32) (w : Vec Ideal S4x128 .f32) :
    k0_pay18 e (k0_pay14 w) (k0_pay15 e) (k0_pay16 w) (k0_pay17 e) = k0_pay12 (F := Ideal) e w := rfl

theorem k_head1 (e : Vec Ideal S520x128 .f32) (w : Vec Ideal S4x128 .f32) :
    k0_pay26 e (k0_pay22 w) (k0_pay23 e) (k0_pay24 e w) (k0_pay25 w) = k0_pay21 (F := Ideal) e w := rfl
theorem k_head2 (e : Vec Ideal S520x128 .f32) (w : Vec Ideal S4x128 .f32) :
    k0_pay31 (k0_pay29 e w) (k0_pay30 e w) 2#32 = k0_pay21 (F := Ideal) e w := rfl
theorem k_head3 (e : Vec Ideal S520x128 .f32) (w : Vec Ideal S4x128 .f32) : k0_pay34 (k0_pay32 e w) (k0_pay33 e w) = k0_pay21 (F := Ideal) e w := rfl
theorem v_head0 (e : Vec Ideal S520x128 .f32) (w : Vec Ideal S4x128 .f32) : k0_pay50 (k0_pay49 e w) = k0_pay51 (F := Ideal) e w := rfl
theorem v_head2 (e : Vec Ideal S520x128 .f32) (w : Vec Ideal S4x128 .f32) :
    k0_pay56 e (k0_pay52 w) (k0_pay53 e) (k0_pay54 e w) (k0_pay55 w) = k0_pay51 (F := Ideal) e w := rfl
theorem v_head3 (e : Vec Ideal S520x128 .f32) (w : Vec Ideal S4x128 .f32) : k0_pay57 e w = k0_pay51 (F := Ideal) e w := rfl

/-! ## The output's gate -/

theorem pay59_apply (z : Vec Ideal S512x512 .f32) (r : Fin 512) (c : Fin 512) :
    k0_pay59 (F := Ideal) (k0_pay58 z) (ix3 (0 : Fin 1) r c) = Cert.Inproj.silu (z (ix2 r c)) := by
  pointwise [k0_pay59, k0_pay58]
  rfl

/-! ## The short convolution -/

def cv3 (e : Vec Ideal S520x128 .f32) (w : Vec Ideal S3x128 .f32) (r : Fin 512) (d : Fin 128) : EReal :=
  w (ix2 (0 : Fin 3) d) * e (ix2 (⟨6 + r.val, by omega⟩ : Fin 520) d) + w (ix2 (1 : Fin 3) d) * e (ix2 (⟨7 + r.val, by omega⟩ : Fin 520) d)
    + w (ix2 (2 : Fin 3) d) * e (ix2 (⟨8 + r.val, by omega⟩ : Fin 520) d)

theorem pay36_apply (b : Vec Ideal S512x512 .f32) (e : Vec Ideal S520x128 .f32) (w : Vec Ideal S3x128 .f32) (r : Fin 512) (d : Fin 128) :
    k0_pay36 (F := Ideal) b e w (ix2 r d) = b (ix2 r (⟨0 + d.val, by omega⟩ : Fin 512)) * cv3 e w r d := by
  pointwise [k0_pay36]
  simp only [rot1, rot2, rot3]
  rfl

theorem pay39_apply (b : Vec Ideal S512x512 .f32) (e : Vec Ideal S520x128 .f32) (w : Vec Ideal S3x128 .f32) (r : Fin 512) (d : Fin 128) :
    k0_pay39 (F := Ideal) b e w (ix2 r d) = b (ix2 r (⟨128 + d.val, by omega⟩ : Fin 512)) * cv3 e w r d := by
  pointwise [k0_pay39]
  simp only [rot1, rot2, rot3]
  rfl

theorem pay42_apply (b : Vec Ideal S512x512 .f32) (e : Vec Ideal S520x128 .f32) (w : Vec Ideal S3x128 .f32) (r : Fin 512) (d : Fin 128) :
    k0_pay42 (F := Ideal) b e w (ix2 r d) = b (ix2 r (⟨256 + d.val, by omega⟩ : Fin 512)) * cv3 e w r d := by
  pointwise [k0_pay42]
  simp only [rot1, rot2, rot3]
  rfl

theorem pay45_apply (b : Vec Ideal S512x512 .f32) (e : Vec Ideal S520x128 .f32) (w : Vec Ideal S3x128 .f32) (r : Fin 512) (d : Fin 128) :
    k0_pay45 (F := Ideal) b e w (ix2 r d) = b (ix2 r (⟨384 + d.val, by omega⟩ : Fin 512)) * cv3 e w r d := by
  pointwise [k0_pay45]
  simp only [rot1, rot2, rot3]
  rfl

/-- The rest of a lane block: its groups' mean squares from the matrix `gm`, then the normalisation. -/
def fin3 (y : Vec Ideal S512x128 .f32) (gm : Vec Ideal S128x128 .bf16) (g : Vec Ideal S1x128 .f32) (r : Fin 512) (d : Fin 128) : EReal :=
  y (ix2 r d)
    * Ideal.rsqrt ((∑ i : Fin 128, y (ix2 r i) * y (ix2 r i) * gm (ix2 i d)) + (∑ i : Fin 128, (y (ix2 r i) * y (ix2 r i) - y (ix2 r i) * y (ix2 r i)) * gm (ix2 i d)) + Cert.Inproj.eps)
    * g (ix2 (0 : Fin 1) d)

section

variable (b : Vec Ideal S512x512 .f32) (e : Vec Ideal S520x128 .f32) (w : Vec Ideal S3x128 .f32) (gm : Vec Ideal S128x128 .bf16) (g : Vec Ideal S1x128 .f32) (r : Fin 512) (d : Fin 128)

theorem y_head0 : k0_pay38 (F := Ideal) (k0_pay36 b e w) (k0_pay37 b e w gm) g (ix3 (0 : Fin 1) r d) = fin3 (k0_pay36 b e w) gm g r d := by
  pointwise [k0_pay38, k0_pay37, fin3, Cert.Inproj.eps]

theorem y_head1 : k0_pay41 (F := Ideal) (k0_pay39 b e w) (k0_pay40 b e w gm) g (ix3 (0 : Fin 1) r d) = fin3 (k0_pay39 b e w) gm g r d := by
  pointwise [k0_pay41, k0_pay40, fin3, Cert.Inproj.eps]

theorem y_head2 : k0_pay44 (F := Ideal) (k0_pay42 b e w) (k0_pay43 b e w gm) g (ix3 (0 : Fin 1) r d) = fin3 (k0_pay42 b e w) gm g r d := by
  pointwise [k0_pay44, k0_pay43, fin3, Cert.Inproj.eps]

theorem y_head3 : k0_pay47 (F := Ideal) (k0_pay45 b e w) (k0_pay46 b e w gm) g (ix3 (0 : Fin 1) r d) = fin3 (k0_pay45 b e w) gm g r d := by
  pointwise [k0_pay47, k0_pay46, fin3, Cert.Inproj.eps]

end

end Cert.Kernel2Ideal.Inproj

end
-- ==== Proof.Inproj.Carry.lean ====
/- The scratch of eight carried rows over one tile of 512, and what its loads read. -/
module

public import proofs.«01_k».proof.Proof.Inproj.Entry
public import proofs.«01_k».proof.Proof.Inproj.Tile
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args back)

/-- Eight carried rows, then a tile of 512 rows. -/
def ext (old : Vec Ideal S520x512 .f32) (P : Vec Ideal S512x512 .f32) : Vec Ideal S520x512 .f32 :=
  fun j => if h : 8 ≤ (j 0).val then P (ix2 (⟨(j 0).val - 8, by have : (j 0).val < 520 := (j 0).isLt; omega⟩ : Fin 512) (j 1)) else old j

/-- 128 of its columns. -/
def cols (X : Vec Ideal S520x512 .f32) (o : ℕ) (ho : o + 128 ≤ 512) : Vec Ideal S520x128 .f32 :=
  fun y => X (ix2 (y 0) (⟨o + (y 1).val, by have : (y 1).val < 128 := (y 1).isLt; omega⟩ : Fin 512))

/-- Eight rows on top of rows that are not read. -/
def topped (Z : Vec Ideal S8x512 .f32) : Vec Ideal S520x512 .f32 :=
  fun j => if h : (j 0).val < 8 then Z (ix2 (⟨(j 0).val, h⟩ : Fin 8) (j 1)) else 0

theorem idx_unit {n k : ℕ} {off size : Fin 2 → ℕ} (inb : ∀ a, off a + size a ≤ (⟨2, ![n, k]⟩ : Shape).size a) (y : (Rect.unit (s := ⟨2, ![n, k]⟩) off size inb).shape.Idx) (a : Fin 2) :
    ((Rect.unit (s := ⟨2, ![n, k]⟩) off size inb).toLoadRect.idx y a).val = off a + 1 * (y a).val := rfl

theorem canon_ext (v : View sig .tc .vmem S520x512 .f32) (P : Vec Ideal S512x512 .f32) (Z : Vec Ideal S8x512 .f32) (i1 i0) :
    View.canon (Val := Elt Ideal) [(⟨Rect.unit (s := S520x512) ![8, 0] ![512, 512] i1, P⟩ : View.Piece (Elt Ideal) S520x512 .f32), ⟨Rect.unit (s := S520x512) ![0, 0] ![8, 512] i0, Z⟩]
      = ext (topped Z) P := by
  rw [← View.read_writes_junk_eq_canon v]
  funext j
  unfold ext topped
  by_cases h : 8 ≤ (j 0).val
  · rw [dif_pos h]
    exact View.read_writes_cons_rows_of_mem v _ i1 P _ j (ix2 (⟨(j 0).val - 8, by have : (j 0).val < 520 := (j 0).isLt; omega⟩ : Fin 512) (j 1)) rfl
      (by show (j 0).val = 8 + ((j 0).val - 8); omega) rfl
  · rw [dif_neg h, dif_pos (by omega)]
    refine (View.read_writes_cons_rows_of_not_mem v _ i1 P _ j rfl rfl (Or.inl (by omega))).trans ?_
    exact View.read_writes_cons_rows_of_mem v _ i0 Z [] j (ix2 (⟨(j 0).val, by omega⟩ : Fin 8) (j 1)) rfl
      (by show (j 0).val = 0 + (j 0).val; omega) rfl

theorem readCov_ext (v : View sig .tc .vmem S520x512 .f32) (P : Vec Ideal S512x512 .f32) (Z : Vec Ideal S8x512 .f32) (i1 i0) (o : ℕ) (ho : o + 128 ≤ 512) (i) :
    v.readCov (Val := Elt Ideal) [(⟨Rect.unit (s := S520x512) ![8, 0] ![512, 512] i1, P⟩ : View.Piece (Elt Ideal) S520x512 .f32), ⟨Rect.unit (s := S520x512) ![0, 0] ![8, 512] i0, Z⟩]
      (Rect.unit (s := S520x512) ![0, o] ![520, 128] i).toLoadRect = cols (ext (topped Z) P) o ho := by
  rw [View.readCov_eq_canon', canon_ext v]
  funext y
  unfold cols
  refine congrArg (ext (topped Z) P) (funext fun a => Fin.ext ?_)
  fin_cases a
  · show 0 + 1 * (y 0).val = (y 0).val; omega
  · show o + 1 * (y 1).val = o + (y 1).val; omega

theorem ld_ext (v : View sig .tc .vmem S520x512 .f32) (X : v.ty.Contents (Elt Ideal)) (old : Vec Ideal S520x512 .f32) (hX : v.read (Elt Ideal) X = old) (P : Vec Ideal S512x512 .f32) (i1) (o : ℕ)
    (ho : o + 128 ≤ 512) (i) :
    View.ld (v.read (Elt Ideal) (v.writes (Elt Ideal) X [(⟨Rect.unit (s := S520x512) ![8, 0] ![512, 512] i1, P⟩ : View.Piece (Elt Ideal) S520x512 .f32)]))
      (Rect.unit (s := S520x512) ![0, o] ![520, 128] i) = cols (ext old P) o ho := by
  have e : v.read (Elt Ideal) (v.writes (Elt Ideal) X [(⟨Rect.unit (s := S520x512) ![8, 0] ![512, 512] i1, P⟩ : View.Piece (Elt Ideal) S520x512 .f32)]) = ext old P := by
    funext j
    unfold ext
    by_cases h : 8 ≤ (j 0).val
    · rw [dif_pos h]
      exact View.read_writes_cons_rows_of_mem v X i1 P [] j (ix2 (⟨(j 0).val - 8, by have : (j 0).val < 520 := (j 0).isLt; omega⟩ : Fin 512) (j 1)) rfl
        (by show (j 0).val = 8 + ((j 0).val - 8); omega) rfl
    · rw [dif_neg h]
      exact (View.read_writes_cons_rows_of_not_mem v X i1 P [] j rfl rfl (Or.inl (by omega))).trans (congrFun hX j)
  rw [e]
  funext y
  unfold cols
  refine congrArg (ext old P) (funext fun a => Fin.ext ?_)
  fin_cases a
  · show 0 + 1 * (y 0).val = (y 0).val; omega
  · show o + 1 * (y 1).val = o + (y 1).val; omega

/-- A result written in four pieces of 128 lanes, each given at its indices. -/
theorem heads_eq {e : EltTy} (v : View sig .tc .vmem S1x512x512 e) (f0 f1 f2 f3 : Vec Ideal S1x512x128 e) (G : Fin 512 → Fin 512 → Elt Ideal e) (i0 i1 i2 i3)
    (h0 : ∀ (r : Fin 512) (d : Fin 128), f0 (ix3 (0 : Fin 1) r d) = G r ⟨0 + d.val, by omega⟩)
    (h1 : ∀ (r : Fin 512) (d : Fin 128), f1 (ix3 (0 : Fin 1) r d) = G r ⟨128 + d.val, by omega⟩)
    (h2 : ∀ (r : Fin 512) (d : Fin 128), f2 (ix3 (0 : Fin 1) r d) = G r ⟨256 + d.val, by omega⟩)
    (h3 : ∀ (r : Fin 512) (d : Fin 128), f3 (ix3 (0 : Fin 1) r d) = G r ⟨384 + d.val, by omega⟩) :
    View.canon (Val := Elt Ideal) [(⟨Rect.unit (s := S1x512x512) ![0, 0, 384] ![1, 512, 128] i3, f3⟩ : View.Piece (Elt Ideal) S1x512x512 e),
      ⟨Rect.unit (s := S1x512x512) ![0, 0, 256] ![1, 512, 128] i2, f2⟩, ⟨Rect.unit (s := S1x512x512) ![0, 0, 128] ![1, 512, 128] i1, f1⟩,
      ⟨Rect.unit (s := S1x512x512) ![0, 0, 0] ![1, 512, 128] i0, f0⟩] = fun y : S1x512x512.Idx => G (y 1) (y 2) := by
  rw [← View.read_writes_junk_eq_canon v]
  funext y
  have y0 : (y 0).val < 1 := (y 0).isLt
  have y1 : (y 1).val < 512 := (y 1).isLt
  have y2 : (y 2).val < 512 := (y 2).isLt
  have put : ∀ (o : ℕ) (h : o ≤ (y 2).val) (h' : (y 2).val < o + 128) (a : Fin 3),
      (y a).val = (![0, 0, o] : Fin 3 → ℕ) a + ((ix3 (0 : Fin 1) (y 1) (⟨(y 2).val - o, by omega⟩ : Fin 128) : S1x512x128.Idx) a).val := by
    intro o h h' a
    fin_cases a
    · show (y 0).val = 0 + 0; omega
    · show (y 1).val = 0 + (y 1).val; omega
    · show (y 2).val = o + ((y 2).val - o); omega
  by_cases c3 : 384 ≤ (y 2).val
  · refine (View.read_writes_cons_unit_of_mem v _ i3 f3 _ y (ix3 (0 : Fin 1) (y 1) (⟨(y 2).val - 384, by omega⟩ : Fin 128)) rfl (put 384 c3 (by omega))).trans ?_
    exact (h3 _ _).trans (congrArg (G (y 1)) (Fin.ext (by show 384 + ((y 2).val - 384) = (y 2).val; omega)))
  refine (View.read_writes_cons_unit_of_not_mem v _ i3 f3 _ y rfl 2 (Or.inl (by show (y 2).val < 384; omega))).trans ?_
  by_cases c2 : 256 ≤ (y 2).val
  · refine (View.read_writes_cons_unit_of_mem v _ i2 f2 _ y (ix3 (0 : Fin 1) (y 1) (⟨(y 2).val - 256, by omega⟩ : Fin 128)) rfl (put 256 c2 (by omega))).trans ?_
    exact (h2 _ _).trans (congrArg (G (y 1)) (Fin.ext (by show 256 + ((y 2).val - 256) = (y 2).val; omega)))
  refine (View.read_writes_cons_unit_of_not_mem v _ i2 f2 _ y rfl 2 (Or.inl (by show (y 2).val < 256; omega))).trans ?_
  by_cases c1 : 128 ≤ (y 2).val
  · refine (View.read_writes_cons_unit_of_mem v _ i1 f1 _ y (ix3 (0 : Fin 1) (y 1) (⟨(y 2).val - 128, by omega⟩ : Fin 128)) rfl (put 128 c1 (by omega))).trans ?_
    exact (h1 _ _).trans (congrArg (G (y 1)) (Fin.ext (by show 128 + ((y 2).val - 128) = (y 2).val; omega)))
  refine (View.read_writes_cons_unit_of_not_mem v _ i1 f1 _ y rfl 2 (Or.inl (by show (y 2).val < 128; omega))).trans ?_
  refine (View.read_writes_cons_unit_of_mem v _ i0 f0 _ y (ix3 (0 : Fin 1) (y 1) (⟨(y 2).val - 0, by omega⟩ : Fin 128)) rfl (put 0 (by omega) (by omega))).trans ?_
  exact (h0 _ _).trans (congrArg (G (y 1)) (Fin.ext (by show 0 + ((y 2).val - 0) = (y 2).val; omega)))

/-! ## The carried rows against the sequence -/

/-- Row `8 + r - k` of the scratch is the sequence's value `k` positions before the tile's row `r`. -/
def Carries (F : Fin 512 → Fin 2048 → EReal) (t : Fin cfg0.N) (X : Vec Ideal S520x512 .f32) : Prop :=
  ∀ (r : Fin 512) (c : Fin 512) (k : Fin 4), X (ix2 (⟨8 + r.val - k.val, by omega⟩ : Fin 520) c) = back (F c) (pos t r) k.val

/-- The scratch's first eight rows are the last eight of the tile before. -/
def Tail (F : Fin 512 → Fin 2048 → EReal) (t : Fin cfg0.N) (X : Vec Ideal S520x512 .f32) : Prop :=
  ∀ (r : Fin 8) (c : Fin 512), X (ix2 (⟨r.val, by omega⟩ : Fin 520) c) = F c (pos t ⟨504 + r.val, by omega⟩)

theorem ext_tile (old P) (r : Fin 520) (c : Fin 512) (h : 8 ≤ r.val) : ext old P (ix2 r c) = P (ix2 (⟨r.val - 8, by omega⟩ : Fin 512) c) :=
  dif_pos h

theorem ext_old (old P) (r : Fin 520) (c : Fin 512) (h : ¬ 8 ≤ r.val) : ext old P (ix2 r c) = old (ix2 r c) :=
  dif_neg h

theorem carries_of (F : Fin 512 → Fin 2048 → EReal) (t : Fin cfg0.N) (old P) (hP : ∀ r c, P (ix2 r c) = F c (pos t r))
    (hold : ∀ (r : Fin 512) (c : Fin 512) (k : Fin 4), r.val < k.val → old (ix2 (⟨8 + r.val - k.val, by omega⟩ : Fin 520) c) = back (F c) (pos t r) k.val) :
    Carries F t (ext old P) := by
  intro r c k
  by_cases h : k.val ≤ r.val
  · rw [ext_tile _ _ _ _ (by show 8 ≤ 8 + r.val - k.val; omega), hP]
    unfold back
    rw [dif_pos (by show k.val ≤ 512 * (t.val % 4) + r.val; omega)]
    refine congrArg (F c) (Fin.ext ?_)
    show 512 * (t.val % 4) + (8 + r.val - k.val - 8) = 512 * (t.val % 4) + r.val - k.val
    omega
  · rw [ext_old _ _ _ _ (by show ¬ 8 ≤ 8 + r.val - k.val; omega)]
    exact hold r c k (by omega)

theorem carries_first (F : Fin 512 → Fin 2048 → EReal) (t : Fin cfg0.N) (h0 : t.val % 4 = 0) (Z P) (hZ : ∀ (r : Fin 8) c, Z (ix2 r c) = 0) (hP : ∀ r c, P (ix2 r c) = F c (pos t r)) :
    Carries F t (ext (topped Z) P) := by
  refine carries_of F t _ P hP fun r c k h => ?_
  have e : topped Z (ix2 (⟨8 + r.val - k.val, by omega⟩ : Fin 520) c) = Z (ix2 (⟨8 + r.val - k.val, by omega⟩ : Fin 8) c) := dif_pos (by show 8 + r.val - k.val < 8; omega)
  rw [e, hZ]
  unfold back
  rw [dif_neg (by show ¬ k.val ≤ 512 * (t.val % 4) + r.val; omega)]

theorem carries_next (F : Fin 512 → Fin 2048 → EReal) (t s : Fin cfg0.N) (hs : s.val % 4 + 1 = t.val % 4) (old P) (hold : Tail F s old) (hP : ∀ r c, P (ix2 r c) = F c (pos t r)) :
    Carries F t (ext old P) := by
  refine carries_of F t _ P hP fun r c k h => ?_
  have hk := k.isLt
  refine (hold ⟨8 + r.val - k.val, by omega⟩ c).trans ?_
  unfold back
  rw [dif_pos (by show k.val ≤ 512 * (t.val % 4) + r.val; omega)]
  refine congrArg (F c) (Fin.ext ?_)
  show 512 * (s.val % 4) + (504 + (8 + r.val - k.val)) = 512 * (t.val % 4) + r.val - k.val
  omega

end Cert.Kernel2Ideal.Inproj

end
-- ==== Proof.Inproj.Point.lean ====
/- What one grid point leaves in the scratch and in the results, from the argument arrays. -/
module

public import proofs.«01_k».proof.Proof.Inproj.Carry
public import proofs.«01_k».proof.Proof.Gen.Kernel2Ideal.Value
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args back)

/-! ## Loads -/

theorem ld2 {n k a o n' k' : ℕ} {e : EltTy} (X : Vec Ideal (⟨2, ![n, k]⟩ : Shape) e) (i) (j : Fin n') (l : Fin k') (j' : Fin n) (l' : Fin k) (hj : j'.val = a + j.val) (hl : l'.val = o + l.val) :
    View.ld X (Rect.unit (s := (⟨2, ![n, k]⟩ : Shape)) ![a, o] ![n', k'] i) (ix2 j l) = X (ix2 j' l') := by
  refine congrArg X (funext fun q => Fin.ext ?_)
  fin_cases q
  · show a + 1 * j.val = j'.val; omega
  · show o + 1 * l.val = l'.val; omega

theorem unit_at {f g : Fin 128 → EReal} {d d' : Fin 128} (h : ∀ i, f i = g i) (hd : d = d') : Cert.Inproj.unit f d = Cert.Inproj.unit g d' := by
  rw [funext h, hd]

theorem cv4_carries (F : Fin 512 → Fin 2048 → EReal) (t : Fin cfg0.N) (X : Vec Ideal S520x512 .f32) (hX : Carries F t X) (o : ℕ) (ho : o + 128 ≤ 512) (W : Vec Ideal S4x128 .f32)
    (w : Fin 4 → EReal) (r : Fin 512) (d : Fin 128) (hW : ∀ i, W (ix2 i d) = w i) :
    cv4 (cols X o ho) W r d = Cert.Inproj.conv4 w (F ⟨o + d.val, by omega⟩) (pos t r) := by
  unfold cv4 Cert.Inproj.conv4
  rw [hW, hW, hW, hW]
  have e0 := hX r ⟨o + d.val, by omega⟩ 0
  have e1 := hX r ⟨o + d.val, by omega⟩ 1
  have e2 := hX r ⟨o + d.val, by omega⟩ 2
  have e3 := hX r ⟨o + d.val, by omega⟩ 3
  have at0 (i i' : Fin 520) (h : i = i') : cols X o ho (ix2 i d) = X (ix2 i' (⟨o + d.val, by omega⟩ : Fin 512)) := by rw [h]; rfl
  rw [at0 ⟨8 + r.val, by omega⟩ ⟨8 + r.val - (0 : Fin 4).val, by omega⟩ rfl, at0 ⟨7 + r.val, by omega⟩ ⟨8 + r.val - (1 : Fin 4).val, by omega⟩ (Fin.ext (by show 7 + r.val = 8 + r.val - 1; omega)),
    at0 ⟨6 + r.val, by omega⟩ ⟨8 + r.val - (2 : Fin 4).val, by omega⟩ (Fin.ext (by show 6 + r.val = 8 + r.val - 2; omega)),
    at0 ⟨5 + r.val, by omega⟩ ⟨8 + r.val - (3 : Fin 4).val, by omega⟩ (Fin.ext (by show 5 + r.val = 8 + r.val - 3; omega)), e0, e1, e2, e3]
  rfl

theorem cv3_carries (F : Fin 512 → Fin 2048 → EReal) (t : Fin cfg0.N) (X : Vec Ideal S520x512 .f32) (hX : Carries F t X) (o : ℕ) (ho : o + 128 ≤ 512) (W : Vec Ideal S3x128 .f32)
    (w : Fin 3 → EReal) (r : Fin 512) (d : Fin 128) (hW : ∀ i, W (ix2 i d) = w i) :
    cv3 (cols X o ho) W r d = Cert.Inproj.conv3 w (F ⟨o + d.val, by omega⟩) (pos t r) := by
  unfold cv3 Cert.Inproj.conv3
  rw [hW, hW, hW]
  have e0 := hX r ⟨o + d.val, by omega⟩ 0
  have e1 := hX r ⟨o + d.val, by omega⟩ 1
  have e2 := hX r ⟨o + d.val, by omega⟩ 2
  have at0 (i i' : Fin 520) (h : i = i') : cols X o ho (ix2 i d) = X (ix2 i' (⟨o + d.val, by omega⟩ : Fin 512)) := by rw [h]; rfl
  rw [at0 ⟨8 + r.val, by omega⟩ ⟨8 + r.val - (0 : Fin 4).val, by omega⟩ rfl, at0 ⟨7 + r.val, by omega⟩ ⟨8 + r.val - (1 : Fin 4).val, by omega⟩ (Fin.ext (by show 7 + r.val = 8 + r.val - 1; omega)),
    at0 ⟨6 + r.val, by omega⟩ ⟨8 + r.val - (2 : Fin 4).val, by omega⟩ (Fin.ext (by show 6 + r.val = 8 + r.val - 2; omega)), e0, e1, e2]
  rfl

/-! ## The scratch after a point -/

theorem top_rows (v : View sig .tc .vmem S520x512 .f32) (Q : Vec Ideal S8x512 .f32) (L : List (View.Piece (Elt Ideal) S520x512 .f32)) (i0) (r : Fin 8) (l : Fin 512) :
    View.canon (Val := Elt Ideal) ((⟨Rect.unit (s := S520x512) ![0, 0] ![8, 512] i0, Q⟩ : View.Piece (Elt Ideal) S520x512 .f32) :: L) (ix2 (⟨r.val, by omega⟩ : Fin 520) l) = Q (ix2 r l) := by
  rw [← View.read_writes_junk_eq_canon v]
  exact View.read_writes_cons_rows_of_mem v _ i0 Q _ _ (ix2 r l) rfl (by show r.val = 0 + r.val; omega) rfl

theorem last_rows (v : View sig .tc .vmem S520x512 .f32) (P : Vec Ideal S512x512 .f32) (L : List (View.Piece (Elt Ideal) S520x512 .f32)) (i1 i) (r : Fin 8) (l : Fin 512) :
    v.readCov (Val := Elt Ideal) ((⟨Rect.unit (s := S520x512) ![8, 0] ![512, 512] i1, P⟩ : View.Piece (Elt Ideal) S520x512 .f32) :: L)
      (Rect.unit (s := S520x512) ![512, 0] ![8, 512] i).toLoadRect (ix2 r l) = P (ix2 (⟨504 + r.val, by omega⟩ : Fin 512) l) := by
  rw [View.readCov_eq_canon', ← View.read_writes_junk_eq_canon v]
  exact View.read_writes_cons_rows_of_mem v _ i1 P _ _ (ix2 (⟨504 + r.val, by omega⟩ : Fin 512) l) rfl (by show 512 + 1 * r.val = 8 + (504 + r.val); omega)
    (by show 0 + 1 * l.val = l.val; omega)

variable (m : (ℓ : Loc nD τ sig) → Buf (Elt Ideal) ℓ) (c : Dev nD) (t : Fin cfg0.N)

theorem tp_eq {n o : ℕ} (i) (r : Fin 512) (l : Fin n) (h : o + n ≤ 3592) :
    tp (iblk m c 0 t) (iblk m c 1 t) (View.ld (Val := Elt Ideal) (e' := .bf16) (iblk m c 2 t) (Rect.unit (s := S1024x3592) ![0, o] ![1024, n] i)) r l
      = (argsOf m c).pr (seq t) ⟨o + l.val, by omega⟩ (pos t r) := by
  have h1 : (fun j : Fin 1024 => (iblk m c 1 t : Vec Ideal S1x1024 .f32) (ix2 (0 : Fin 1) j)) = (argsOf m c).g := by
    funext j; rw [blk1]; exact entry1 m c j
  have h0 : (fun j : Fin 1024 => (iblk m c 0 t : Vec Ideal S1x512x1024 .f32) (ix3 (0 : Fin 1) r j)) = (argsOf m c).x (seq t) (pos t r) := funext fun j => blk0 m c t r j
  have h2 : (fun j : Fin 1024 => (View.ld (Val := Elt Ideal) (e' := .bf16) (iblk m c 2 t) (Rect.unit (s := S1024x3592) ![0, o] ![1024, n] i) (ix2 j l) : EReal)) = fun j => (argsOf m c).w j ⟨o + l.val, by omega⟩ := by
    funext j
    rw [blk2]
    exact (ld2 (V m c main_v12 : Vec Ideal S1024x3592 .bf16) i j l j ⟨o + l.val, by omega⟩ (by omega) rfl).trans (entry2 m c j _)
  unfold tp Cert.Inproj.Args.pr
  rw [← h0, ← h1, ← h2]

/-- The products whose short convolution is taken, and the columns whose long convolutions are. -/
abbrev F0 : Fin 512 → Fin 2048 → EReal := fun l s => (argsOf m c).pr (seq t) ⟨1024 + l.val, by omega⟩ s * (argsOf m c).pr (seq t) ⟨l.val, by omega⟩ s
abbrev F1 : Fin 512 → Fin 2048 → EReal := fun l => (argsOf m c).pr (seq t) ⟨1536 + (0 + l.val), by omega⟩
abbrev F2 : Fin 512 → Fin 2048 → EReal := fun l => (argsOf m c).pr (seq t) ⟨1536 + (512 + l.val), by omega⟩
abbrev F3 : Fin 512 → Fin 2048 → EReal := fun l => (argsOf m c).pr (seq t) ⟨1536 + (1024 + l.val), by omega⟩

/-- The tile's blocks of columns that the scratch takes. -/
abbrev P0 : Vec Ideal S512x512 .f32 :=
  k0_pay9 (F := Ideal) (k0_pay6 (iblk m c 0 t) (iblk m c 1 t)) (View.ld (iblk m c 2 t) (Rect.unit ![0, 1024] ![1024, 512] inb_S1024x3592_S1024x512_0_1024))
    (View.ld (iblk m c 2 t) (Rect.unit ![0, 0] ![1024, 512] inb_S1024x3592_S1024x512_0_0))
abbrev P1 : Vec Ideal S512x512 .f32 :=
  k0_pay7 (F := Ideal) (iblk m c 0 t) (iblk m c 1 t) (View.ld (iblk m c 2 t) (Rect.unit ![0, 1536] ![1024, 512] inb_S1024x3592_S1024x512_0_1536))
abbrev P2 : Vec Ideal S512x512 .f32 :=
  k0_pay8 (F := Ideal) (iblk m c 0 t) (iblk m c 1 t) (View.ld (iblk m c 2 t) (Rect.unit ![0, 2048] ![1024, 512] inb_S1024x3592_S1024x512_0_2048))
abbrev P3 : Vec Ideal S512x512 .f32 :=
  k0_pay19 (F := Ideal) (k0_pay6 (iblk m c 0 t) (iblk m c 1 t)) (View.ld (iblk m c 2 t) (Rect.unit ![0, 2560] ![1024, 512] inb_S1024x3592_S1024x512_0_2560))

theorem hP0 (r l : Fin 512) : P0 m c t (ix2 r l) = F0 m c t l (pos t r) := by
  refine (pay9_apply _ _ _ _ r l).trans ?_
  rw [tp_eq m c t _ r l (by omega), tp_eq m c t _ r l (by omega)]
  exact congrArg (_ * (argsOf m c).pr (seq t) · _) (Fin.ext (Nat.zero_add _))

theorem hP1 (r l : Fin 512) : P1 m c t (ix2 r l) = F1 m c t l (pos t r) :=
  (pay7_apply _ _ _ r l).trans ((tp_eq m c t _ r l (by omega)).trans (congrArg ((argsOf m c).pr (seq t) · _) (Fin.ext (by show 1536 + l.val = 1536 + (0 + l.val); omega))))

theorem hP2 (r l : Fin 512) : P2 m c t (ix2 r l) = F2 m c t l (pos t r) :=
  (pay8_apply _ _ _ r l).trans ((tp_eq m c t _ r l (by omega)).trans (congrArg ((argsOf m c).pr (seq t) · _) (Fin.ext (by show 2048 + l.val = 1536 + (512 + l.val); omega))))

theorem hP3 (r l : Fin 512) : P3 m c t (ix2 r l) = F3 m c t l (pos t r) :=
  (pay19_apply _ _ _ r l).trans ((tp_eq m c t _ r l (by omega)).trans (congrArg ((argsOf m c).pr (seq t) · _) (Fin.ext (by show 2560 + l.val = 1536 + (1024 + l.val); omega))))

theorem tail0 : Tail (F0 m c t) t (outsAt0 m c t.val t.isLt).2.2.2.2.2.2.2.1 := by
  intro r l
  by_cases h0 : t.val % 4 = 0
  · rw [outsAt0_A m c t h0]
    dsimp only
    frame_out
    refine (top_rows (View.whole cc0_scratch0) _ _ _ r l).trans ?_
    unfold k0_pay60
    rw [shapeCast_self]
    exact (last_rows (View.whole cc0_scratch0) _ _ _ _ r l).trans (hP0 m c t _ l)
  · rw [outsAt0_B m c t h0]
    dsimp only
    frame_out
    refine (top_rows (View.whole cc0_scratch0) _ _ _ r l).trans ?_
    unfold k0_pay60
    rw [shapeCast_self]
    exact (last_rows (View.whole cc0_scratch0) _ _ _ _ r l).trans (hP0 m c t _ l)

theorem tail1 : Tail (F1 m c t) t (outsAt0 m c t.val t.isLt).2.2.2.2.2.2.2.2.1 := by
  intro r l
  by_cases h0 : t.val % 4 = 0
  · rw [outsAt0_A m c t h0]
    dsimp only
    frame_out
    refine (top_rows (View.whole cc0_scratch1) _ _ _ r l).trans ?_
    unfold k0_pay61
    rw [shapeCast_self]
    exact (last_rows (View.whole cc0_scratch1) _ _ _ _ r l).trans (hP1 m c t _ l)
  · rw [outsAt0_B m c t h0]
    dsimp only
    frame_out
    refine (top_rows (View.whole cc0_scratch1) _ _ _ r l).trans ?_
    unfold k0_pay61
    rw [shapeCast_self]
    exact (last_rows (View.whole cc0_scratch1) _ _ _ _ r l).trans (hP1 m c t _ l)

theorem tail2 : Tail (F2 m c t) t (outsAt0 m c t.val t.isLt).2.2.2.2.2.2.2.2.2.1 := by
  intro r l
  by_cases h0 : t.val % 4 = 0
  · rw [outsAt0_A m c t h0]
    dsimp only
    frame_out
    refine (top_rows (View.whole cc0_scratch2) _ _ _ r l).trans ?_
    unfold k0_pay62
    rw [shapeCast_self]
    exact (last_rows (View.whole cc0_scratch2) _ _ _ _ r l).trans (hP2 m c t _ l)
  · rw [outsAt0_B m c t h0]
    dsimp only
    frame_out
    refine (top_rows (View.whole cc0_scratch2) _ _ _ r l).trans ?_
    unfold k0_pay62
    rw [shapeCast_self]
    exact (last_rows (View.whole cc0_scratch2) _ _ _ _ r l).trans (hP2 m c t _ l)

theorem tail3 : Tail (F3 m c t) t (outsAt0 m c t.val t.isLt).2.2.2.2.2.2.2.2.2.2 := by
  intro r l
  by_cases h0 : t.val % 4 = 0
  · rw [outsAt0_A m c t h0]
    dsimp only
    frame_out
    refine (top_rows (View.whole cc0_scratch3) _ _ _ r l).trans ?_
    unfold k0_pay63
    rw [shapeCast_self]
    exact (last_rows (View.whole cc0_scratch3) _ _ _ _ r l).trans (hP3 m c t _ l)
  · rw [outsAt0_B m c t h0]
    dsimp only
    frame_out
    refine (top_rows (View.whole cc0_scratch3) _ _ _ r l).trans ?_
    unfold k0_pay63
    rw [shapeCast_self]
    exact (last_rows (View.whole cc0_scratch3) _ _ _ _ r l).trans (hP3 m c t _ l)

end Cert.Kernel2Ideal.Inproj

end
-- ==== Proof.Inproj.Heads.lean ====
/- The queries, keys, values and gate that one grid point leaves. -/
module

public import proofs.«01_k».proof.Proof.Inproj.Point
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args back)

variable (m : (ℓ : Loc nD τ sig) → Buf (Elt Ideal) ℓ) (c : Dev nD) (t : Fin cfg0.N)

theorem qkv_head (base : ℕ) (hb : base + 512 ≤ 1536) (X : Vec Ideal S520x512 .f32) (hX : Carries (fun l => (argsOf m c).pr (seq t) ⟨1536 + (base + l.val), by omega⟩) t X)
    (o : ℕ) (ho : o + 128 ≤ 512) (o' : ℕ) (ho' : o' = base + o) (i) (r : Fin 512) (d : Fin 128) :
    Cert.Inproj.silu (cv4 (cols X o ho) (View.ld (Val := Elt Ideal) (e' := .f32) (iblk m c 5 t) (Rect.unit (s := S4x1536) ![0, o'] ![4, 128] i)) r d)
      = (argsOf m c).qkv (seq t) (pos t r) ⟨base + (o + d.val), by omega⟩ := by
  unfold Cert.Inproj.Args.qkv
  refine congrArg Cert.Inproj.silu (cv4_carries _ t X hX o ho _ _ r d fun j => ?_)
  rw [blk5]
  exact (ld2 (V m c main_v16 : Vec Ideal S4x1536 .f32) i j d j ⟨base + (o + d.val), by omega⟩ (by omega) (by show base + (o + d.val) = o' + d.val; omega)).trans (entry5 m c j _)

theorem q_head (X : Vec Ideal S520x512 .f32) (hX : Carries (F1 m c t) t X) (o : ℕ) (ho : o + 128 ≤ 512) (h : o % 128 = 0) (i) (r : Fin 512) (d : Fin 128) :
    k0_pay12 (F := Ideal) (cols X o ho) (View.ld (Val := Elt Ideal) (e' := .f32) (iblk m c 5 t) (Rect.unit (s := S4x1536) ![0, o] ![4, 128] i)) (ix3 (0 : Fin 1) r d)
      = (argsOf m c).q (seq t) (pos t r) ⟨o + d.val, by omega⟩ := by
  refine (pay12_apply _ _ r d).trans ?_
  unfold Cert.Inproj.Args.q
  refine congrArg (· * Cert.Inproj.qScale) (unit_at (fun e => ?_) (Fin.ext (by show d.val = (o + d.val) % 128; omega)))
  refine (qkv_head m c t 0 (by omega) X hX o ho o (Nat.zero_add o).symm i r e).trans ?_
  exact congrArg ((argsOf m c).qkv _ _) (Fin.ext (by show 0 + (o + e.val) = (o + d.val) / 128 * 128 + e.val; omega))

theorem k_head (X : Vec Ideal S520x512 .f32) (hX : Carries (F2 m c t) t X) (o : ℕ) (ho : o + 128 ≤ 512) (h : o % 128 = 0) (o' : ℕ) (ho' : o' = 512 + o) (i) (r : Fin 512) (d : Fin 128) :
    k0_pay21 (F := Ideal) (cols X o ho) (View.ld (Val := Elt Ideal) (e' := .f32) (iblk m c 5 t) (Rect.unit (s := S4x1536) ![0, o'] ![4, 128] i)) (ix3 (0 : Fin 1) r d)
      = (argsOf m c).k (seq t) (pos t r) ⟨o + d.val, by omega⟩ := by
  refine (pay21_apply _ _ r d).trans ?_
  unfold Cert.Inproj.Args.k
  refine unit_at (fun e => ?_) (Fin.ext (by show d.val = (o + d.val) % 128; omega))
  refine (qkv_head m c t 512 (by omega) X hX o ho o' ho' i r e).trans ?_
  exact congrArg ((argsOf m c).qkv _ _) (Fin.ext (by show 512 + (o + e.val) = 512 + ((o + d.val) / 128 * 128 + e.val); omega))

theorem v_head (X : Vec Ideal S520x512 .f32) (hX : Carries (F3 m c t) t X) (o : ℕ) (ho : o + 128 ≤ 512) (o' : ℕ) (ho' : o' = 1024 + o) (i) (r : Fin 512) (d : Fin 128) :
    k0_pay51 (F := Ideal) (cols X o ho) (View.ld (Val := Elt Ideal) (e' := .f32) (iblk m c 5 t) (Rect.unit (s := S4x1536) ![0, o'] ![4, 128] i)) (ix3 (0 : Fin 1) r d)
      = (argsOf m c).v (seq t) (pos t r) ⟨o + d.val, by omega⟩ :=
  (pay51_apply _ _ r d).trans (qkv_head m c t 1024 (by omega) X hX o ho o' ho' i r d)

/-- The point before, in the same sequence. -/
abbrev before (h0 : ¬ t.val % 4 = 0) : Fin cfg0.N := ⟨t.val - 1, by have := t.isLt; omega⟩

theorem before_mod (h0 : ¬ t.val % 4 = 0) : (before t h0).val % 4 + 1 = t.val % 4 := by
  show (t.val - 1) % 4 + 1 = t.val % 4
  omega

theorem before_seq (h0 : ¬ t.val % 4 = 0) : seq (before t h0) = seq t := Fin.ext (by show (t.val - 1) / 4 = t.val / 4; omega)

theorem zeros2 (r : Fin 8) (l : Fin 512) : k0_pay2 (F := Ideal) (ix2 r l) = 0 := by pointwise [k0_pay2]
theorem zeros3 (r : Fin 8) (l : Fin 512) : k0_pay3 (F := Ideal) (ix2 r l) = 0 := by pointwise [k0_pay3]
theorem zeros4 (r : Fin 8) (l : Fin 512) : k0_pay4 (F := Ideal) (ix2 r l) = 0 := by pointwise [k0_pay4]
theorem zeros5 (r : Fin 8) (l : Fin 512) : k0_pay5 (F := Ideal) (ix2 r l) = 0 := by pointwise [k0_pay5]

theorem next (F : Fin cfg0.N → Fin 512 → Fin 2048 → EReal) (h0 : ¬ t.val % 4 = 0) (hF : ∀ s, seq s = seq t → F s = F t) (old P) (hold : Tail (F (before t h0)) (before t h0) old)
    (hP : ∀ r c, P (ix2 r c) = F t c (pos t r)) : Carries (F t) t (ext old P) :=
  carries_next (F t) t (before t h0) (before_mod t h0) old P (by rw [← hF _ (before_seq t h0)]; exact hold) hP

theorem F1_seq (s : Fin cfg0.N) (e : seq s = seq t) : F1 m c s = F1 m c t :=
  funext fun l => funext fun q => congrArg (fun b => (argsOf m c).pr b _ q) e
theorem F2_seq (s : Fin cfg0.N) (e : seq s = seq t) : F2 m c s = F2 m c t :=
  funext fun l => funext fun q => congrArg (fun b => (argsOf m c).pr b _ q) e
theorem F3_seq (s : Fin cfg0.N) (e : seq s = seq t) : F3 m c s = F3 m c t :=
  funext fun l => funext fun q => congrArg (fun b => (argsOf m c).pr b _ q) e
theorem F0_seq (s : Fin cfg0.N) (e : seq s = seq t) : F0 m c s = F0 m c t :=
  funext fun l => funext fun q => congrArg (fun b => (argsOf m c).pr b _ q * (argsOf m c).pr b _ q) e

section

variable (X : Vec Ideal S520x512 .f32) (hX : Carries (F1 m c t) t X)
include hX

theorem q_pieces (i3 i2 i1 i0 j3 j2 j1 j0) :
    View.canon (Val := Elt Ideal) [
      (⟨Rect.unit (s := S1x512x512) ![0, 0, 384] ![1, 512, 128] i3, k0_pay18 (F := Ideal) (cols X 384 (by omega)) (k0_pay14 (View.ld (Val := Elt Ideal) (e' := .f32) (iblk m c 5 t) (Rect.unit (s := S4x1536) ![0, 384] ![4, 128] j3))) (k0_pay15 (cols X 384 (by omega))) (k0_pay16 (View.ld (Val := Elt Ideal) (e' := .f32) (iblk m c 5 t) (Rect.unit (s := S4x1536) ![0, 384] ![4, 128] j3))) (k0_pay17 (cols X 384 (by omega)))⟩ : View.Piece (Elt Ideal) S1x512x512 .f32),
      ⟨Rect.unit (s := S1x512x512) ![0, 0, 256] ![1, 512, 128] i2, k0_pay13 (F := Ideal) (cols X 256 (by omega)) (View.ld (Val := Elt Ideal) (e' := .f32) (iblk m c 5 t) (Rect.unit (s := S4x1536) ![0, 256] ![4, 128] j2))⟩,
      ⟨Rect.unit (s := S1x512x512) ![0, 0, 128] ![1, 512, 128] i1, k0_pay12 (F := Ideal) (cols X 128 (by omega)) (View.ld (Val := Elt Ideal) (e' := .f32) (iblk m c 5 t) (Rect.unit (s := S4x1536) ![0, 128] ![4, 128] j1))⟩,
      ⟨Rect.unit (s := S1x512x512) ![0, 0, 0] ![1, 512, 128] i0, k0_pay11 (F := Ideal) (k0_pay10 (cols X 0 (by omega)) (View.ld (Val := Elt Ideal) (e' := .f32) (iblk m c 5 t) (Rect.unit (s := S4x1536) ![0, 0] ![4, 128] j0)))⟩]
      = fun y : S1x512x512.Idx => (argsOf m c).q (seq t) (pos t (y 1)) (y 2) := by
  refine heads_eq VO0_10 _ _ _ _ (fun r l => (argsOf m c).q (seq t) (pos t r) l) _ _ _ _ ?_ ?_ ?_ ?_ <;> intro r d
  · exact (congrFun (q_head0 _ _) _).trans (q_head m c t X hX 0 (by omega) rfl _ r d)
  · exact q_head m c t X hX 128 (by omega) rfl _ r d
  · exact (congrFun (q_head2 _ _) _).trans (q_head m c t X hX 256 (by omega) rfl _ r d)
  · exact (congrFun (q_head3 _ _) _).trans (q_head m c t X hX 384 (by omega) rfl _ r d)

end

theorem q_point : (outsAt0 m c t.val t.isLt).2.1 = fun y : S1x512x512.Idx => (argsOf m c).q (seq t) (pos t (y 1)) (y 2) := by
  by_cases h0 : t.val % 4 = 0
  · rw [outsAt0_A m c t h0]
    dsimp only
    frame_out
    rw [readCov_ext _ _ _ _ _ 0 (by omega), readCov_ext _ _ _ _ _ 128 (by omega), readCov_ext _ _ _ _ _ 256 (by omega), readCov_ext _ _ _ _ _ 384 (by omega)]
    exact q_pieces m c t _ (carries_first (F1 m c t) t h0 (k0_pay3 (F := Ideal)) (P1 m c t) zeros3 (hP1 m c t)) _ _ _ _ _ _ _ _
  · rw [outsAt0_B m c t h0]
    dsimp only
    frame_out
    rw [ld_ext _ _ _ ((Memref.isWhole_whole _).read_unread _) _ _ 0 (by omega), ld_ext _ _ _ ((Memref.isWhole_whole _).read_unread _) _ _ 128 (by omega),
      ld_ext _ _ _ ((Memref.isWhole_whole _).read_unread _) _ _ 256 (by omega), ld_ext _ _ _ ((Memref.isWhole_whole _).read_unread _) _ _ 384 (by omega)]
    exact q_pieces m c t _ (next t (F1 m c) h0 (F1_seq m c t) _ (P1 m c t) (tail1 m c (before t h0)) (hP1 m c t)) _ _ _ _ _ _ _ _

section

variable (X : Vec Ideal S520x512 .f32) (hX : Carries (F2 m c t) t X)
include hX

theorem k_pieces (i3 i2 i1 i0 j3 j2 j1 j0) :
    View.canon (Val := Elt Ideal) [
      (⟨Rect.unit (s := S1x512x512) ![0, 0, 384] ![1, 512, 128] i3, k0_pay34 (F := Ideal) (k0_pay32 (cols X 384 (by omega)) (View.ld (Val := Elt Ideal) (e' := .f32) (iblk m c 5 t) (Rect.unit (s := S4x1536) ![0, 896] ![4, 128] j3))) (k0_pay33 (cols X 384 (by omega)) (View.ld (Val := Elt Ideal) (e' := .f32) (iblk m c 5 t) (Rect.unit (s := S4x1536) ![0, 896] ![4, 128] j3)))⟩ : View.Piece (Elt Ideal) S1x512x512 .f32),
      ⟨Rect.unit (s := S1x512x512) ![0, 0, 256] ![1, 512, 128] i2, k0_pay31 (F := Ideal) (k0_pay29 (cols X 256 (by omega)) (View.ld (Val := Elt Ideal) (e' := .f32) (iblk m c 5 t) (Rect.unit (s := S4x1536) ![0, 768] ![4, 128] j2))) (k0_pay30 (cols X 256 (by omega)) (View.ld (Val := Elt Ideal) (e' := .f32) (iblk m c 5 t) (Rect.unit (s := S4x1536) ![0, 768] ![4, 128] j2))) 2#32⟩,
      ⟨Rect.unit (s := S1x512x512) ![0, 0, 128] ![1, 512, 128] i1, k0_pay26 (F := Ideal) (cols X 128 (by omega)) (k0_pay22 (View.ld (Val := Elt Ideal) (e' := .f32) (iblk m c 5 t) (Rect.unit (s := S4x1536) ![0, 640] ![4, 128] j1))) (k0_pay23 (cols X 128 (by omega))) (k0_pay24 (cols X 128 (by omega)) (View.ld (Val := Elt Ideal) (e' := .f32) (iblk m c 5 t) (Rect.unit (s := S4x1536) ![0, 640] ![4, 128] j1))) (k0_pay25 (View.ld (Val := Elt Ideal) (e' := .f32) (iblk m c 5 t) (Rect.unit (s := S4x1536) ![0, 640] ![4, 128] j1)))⟩,
      ⟨Rect.unit (s := S1x512x512) ![0, 0, 0] ![1, 512, 128] i0, k0_pay21 (F := Ideal) (cols X 0 (by omega)) (View.ld (Val := Elt Ideal) (e' := .f32) (iblk m c 5 t) (Rect.unit (s := S4x1536) ![0, 512] ![4, 128] j0))⟩]
      = fun y : S1x512x512.Idx => (argsOf m c).k (seq t) (pos t (y 1)) (y 2) := by
  refine heads_eq VO0_11 _ _ _ _ (fun r l => (argsOf m c).k (seq t) (pos t r) l) _ _ _ _ ?_ ?_ ?_ ?_ <;> intro r d
  · exact k_head m c t X hX 0 (by omega) rfl 512 rfl _ r d
  · exact (congrFun (k_head1 _ _) _).trans (k_head m c t X hX 128 (by omega) rfl 640 rfl _ r d)
  · exact (congrFun (k_head2 _ _) _).trans (k_head m c t X hX 256 (by omega) rfl 768 rfl _ r d)
  · exact (congrFun (k_head3 _ _) _).trans (k_head m c t X hX 384 (by omega) rfl 896 rfl _ r d)

end

theorem k_point : (outsAt0 m c t.val t.isLt).2.2.1 = fun y : S1x512x512.Idx => (argsOf m c).k (seq t) (pos t (y 1)) (y 2) := by
  by_cases h0 : t.val % 4 = 0
  · rw [outsAt0_A m c t h0]
    dsimp only
    frame_out
    rw [readCov_ext _ _ _ _ _ 0 (by omega), readCov_ext _ _ _ _ _ 128 (by omega), readCov_ext _ _ _ _ _ 256 (by omega), readCov_ext _ _ _ _ _ 384 (by omega)]
    exact k_pieces m c t _ (carries_first (F2 m c t) t h0 (k0_pay4 (F := Ideal)) (P2 m c t) zeros4 (hP2 m c t)) _ _ _ _ _ _ _ _
  · rw [outsAt0_B m c t h0]
    dsimp only
    frame_out
    rw [ld_ext _ _ _ ((Memref.isWhole_whole _).read_unread _) _ _ 0 (by omega), ld_ext _ _ _ ((Memref.isWhole_whole _).read_unread _) _ _ 128 (by omega),
      ld_ext _ _ _ ((Memref.isWhole_whole _).read_unread _) _ _ 256 (by omega), ld_ext _ _ _ ((Memref.isWhole_whole _).read_unread _) _ _ 384 (by omega)]
    exact k_pieces m c t _ (next t (F2 m c) h0 (F2_seq m c t) _ (P2 m c t) (tail2 m c (before t h0)) (hP2 m c t)) _ _ _ _ _ _ _ _

section

variable (X : Vec Ideal S520x512 .f32) (hX : Carries (F3 m c t) t X)
include hX

theorem v_pieces (i3 i2 i1 i0 j3 j2 j1 j0) :
    View.canon (Val := Elt Ideal) [
      (⟨Rect.unit (s := S1x512x512) ![0, 0, 384] ![1, 512, 128] i3, k0_pay57 (F := Ideal) (cols X 384 (by omega)) (View.ld (Val := Elt Ideal) (e' := .f32) (iblk m c 5 t) (Rect.unit (s := S4x1536) ![0, 1408] ![4, 128] j3))⟩ : View.Piece (Elt Ideal) S1x512x512 .f32),
      ⟨Rect.unit (s := S1x512x512) ![0, 0, 256] ![1, 512, 128] i2, k0_pay56 (F := Ideal) (cols X 256 (by omega)) (k0_pay52 (View.ld (Val := Elt Ideal) (e' := .f32) (iblk m c 5 t) (Rect.unit (s := S4x1536) ![0, 1280] ![4, 128] j2))) (k0_pay53 (cols X 256 (by omega))) (k0_pay54 (cols X 256 (by omega)) (View.ld (Val := Elt Ideal) (e' := .f32) (iblk m c 5 t) (Rect.unit (s := S4x1536) ![0, 1280] ![4, 128] j2))) (k0_pay55 (View.ld (Val := Elt Ideal) (e' := .f32) (iblk m c 5 t) (Rect.unit (s := S4x1536) ![0, 1280] ![4, 128] j2)))⟩,
      ⟨Rect.unit (s := S1x512x512) ![0, 0, 128] ![1, 512, 128] i1, k0_pay51 (F := Ideal) (cols X 128 (by omega)) (View.ld (Val := Elt Ideal) (e' := .f32) (iblk m c 5 t) (Rect.unit (s := S4x1536) ![0, 1152] ![4, 128] j1))⟩,
      ⟨Rect.unit (s := S1x512x512) ![0, 0, 0] ![1, 512, 128] i0, k0_pay50 (F := Ideal) (k0_pay49 (cols X 0 (by omega)) (View.ld (Val := Elt Ideal) (e' := .f32) (iblk m c 5 t) (Rect.unit (s := S4x1536) ![0, 1024] ![4, 128] j0)))⟩]
      = fun y : S1x512x512.Idx => (argsOf m c).v (seq t) (pos t (y 1)) (y 2) := by
  refine heads_eq VO0_12 _ _ _ _ (fun r l => (argsOf m c).v (seq t) (pos t r) l) _ _ _ _ ?_ ?_ ?_ ?_ <;> intro r d
  · exact (congrFun (v_head0 _ _) _).trans (v_head m c t X hX 0 (by omega) 1024 rfl _ r d)
  · exact v_head m c t X hX 128 (by omega) 1152 rfl _ r d
  · exact (congrFun (v_head2 _ _) _).trans (v_head m c t X hX 256 (by omega) 1280 rfl _ r d)
  · exact (congrFun (v_head3 _ _) _).trans (v_head m c t X hX 384 (by omega) 1408 rfl _ r d)

end

theorem v_point : (outsAt0 m c t.val t.isLt).2.2.2.1 = fun y : S1x512x512.Idx => (argsOf m c).v (seq t) (pos t (y 1)) (y 2) := by
  by_cases h0 : t.val % 4 = 0
  · rw [outsAt0_A m c t h0]
    dsimp only
    frame_out
    rw [readCov_ext _ _ _ _ _ 0 (by omega), readCov_ext _ _ _ _ _ 128 (by omega), readCov_ext _ _ _ _ _ 256 (by omega), readCov_ext _ _ _ _ _ 384 (by omega)]
    exact v_pieces m c t _ (carries_first (F3 m c t) t h0 (k0_pay5 (F := Ideal)) (P3 m c t) zeros5 (hP3 m c t)) _ _ _ _ _ _ _ _
  · rw [outsAt0_B m c t h0]
    dsimp only
    frame_out
    rw [ld_ext _ _ _ ((Memref.isWhole_whole _).read_unread _) _ _ 0 (by omega), ld_ext _ _ _ ((Memref.isWhole_whole _).read_unread _) _ _ 128 (by omega),
      ld_ext _ _ _ ((Memref.isWhole_whole _).read_unread _) _ _ 256 (by omega), ld_ext _ _ _ ((Memref.isWhole_whole _).read_unread _) _ _ 384 (by omega)]
    exact v_pieces m c t _ (next t (F3 m c) h0 (F3_seq m c t) _ (P3 m c t) (tail3 m c (before t h0)) (hP3 m c t)) _ _ _ _ _ _ _ _

theorem zg_point : (outsAt0 m c t.val t.isLt).2.2.2.2.1 = fun y : S1x512x512.Idx => (argsOf m c).zg (seq t) (pos t (y 1)) (y 2) := by
  have e (i) : k0_pay59 (F := Ideal) (k0_pay58 (k0_pay35 (F := Ideal) (k0_pay6 (iblk m c 0 t) (iblk m c 1 t)) (View.ld (Val := Elt Ideal) (e' := .bf16) (iblk m c 2 t) (Rect.unit (s := S1024x3592) ![0, 3072] ![1024, 512] i))))
      = fun y : S1x512x512.Idx => (argsOf m c).zg (seq t) (pos t (y 1)) (y 2) := by
    funext y
    obtain ⟨u, r, l, rfl⟩ : ∃ (u : Fin 1) (r l : Fin 512), y = ix3 u r l := ⟨y 0, y 1, y 2, eq_ix3 y⟩
    obtain rfl : u = 0 := Subsingleton.elim _ _
    refine (pay59_apply _ r l).trans ?_
    unfold Cert.Inproj.Args.zg
    exact congrArg Cert.Inproj.silu ((pay35_apply _ _ _ r l).trans (tp_eq m c t i r l (by omega)))
  by_cases h0 : t.val % 4 = 0
  · rw [outsAt0_A m c t h0]
    dsimp only
    frame_out
    exact e _
  · rw [outsAt0_B m c t h0]
    dsimp only
    frame_out
    exact e _

end Cert.Kernel2Ideal.Inproj

end
-- ==== Proof.Inproj.Ya.lean ====
/- The short convolutions, normalised group by group, that one grid point leaves. -/
module

public import proofs.«01_k».proof.Proof.Inproj.Heads
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args back IsReal)

variable (m : (ℓ : Loc nD τ sig) → Buf (Elt Ideal) ℓ) (c : Dev nD) (t : Fin cfg0.N)

/-- A group's normalisation over 128 lanes, from the 512 columns it is part of. -/
theorem fin3_group (S : Fin 512 → EReal) (hS : ∀ l, IsReal (S l)) (G : Fin 512 → EReal) (o : ℕ) (ho : o + 128 ≤ 512) (h : o % 128 = 0)
    (y : Vec Ideal S512x128 .f32) (gm : Vec Ideal S128x128 .bf16) (g : Vec Ideal S1x128 .f32) (r : Fin 512) (d : Fin 128)
    (hy : ∀ d : Fin 128, y (ix2 r d) = S ⟨o + d.val, by omega⟩)
    (hgm : ∀ i : Fin 128, gm (ix2 i d) = averages (ix2 (⟨o + i.val, by omega⟩ : Fin 512) (⟨o + d.val, by omega⟩ : Fin 512)))
    (hg : g (ix2 (0 : Fin 1) d) = G ⟨o + d.val, by omega⟩) :
    fin3 y gm g r d = Cert.Inproj.group (fun e => S ⟨(o + d.val) / 64 * 64 + e.val, by omega⟩) (G ⟨o + d.val, by omega⟩) ⟨(o + d.val) % 64, by omega⟩ := by
  unfold fin3 Cert.Inproj.group
  have hz (e : Fin 64) : y (ix2 r (⟨d.val / 64 * 64 + e.val, by omega⟩ : Fin 128)) = S ⟨(o + d.val) / 64 * 64 + e.val, by omega⟩ :=
    (hy _).trans (congrArg S (Fin.ext (by show o + (d.val / 64 * 64 + e.val) = (o + d.val) / 64 * 64 + e.val; omega)))
  rw [Cert.Inproj.group_mean (y := fun i => y (ix2 r i)) (fun i => by rw [hy]; exact hS _) _ (fun e : Fin 64 => (⟨d.val / 64 * 64 + e.val, by omega⟩ : Fin 128))
    (fun a b e => Fin.ext (by have := congrArg Fin.val e; dsimp only at this; omega)) hz (fun i => gm (ix2 i d)) (fun i => ?_), hg, hy d]
  · exact congrArg (· * _ * _) (congrArg S (Fin.ext (by show o + d.val = (o + d.val) / 64 * 64 + (o + d.val) % 64; omega)))
  · rw [hgm, averages_apply, Cert.Inproj.part_eq]
    refine if_congr ⟨fun e => ⟨⟨i.val % 64, by omega⟩, Fin.ext ?_⟩, ?_⟩ rfl rfl
    · dsimp only at e ⊢
      omega
    · rintro ⟨e, rfl⟩
      dsimp only
      omega

/-- The tile's second block of columns. -/
abbrev B0 (i : ∀ a, (![0, 512] : Fin 2 → ℕ) a + (![1024, 512] : Fin 2 → ℕ) a ≤ S1024x3592.size a) : Vec Ideal S512x512 .f32 :=
  k0_pay20 (F := Ideal) (k0_pay6 (iblk m c 0 t) (iblk m c 1 t)) (View.ld (Val := Elt Ideal) (e' := .bf16) (iblk m c 2 t) (Rect.unit (s := S1024x3592) ![0, 512] ![1024, 512] i))

abbrev W0 (o : ℕ) (i : ∀ a, (![0, o] : Fin 2 → ℕ) a + (![3, 128] : Fin 2 → ℕ) a ≤ S3x512.size a) : Vec Ideal S3x128 .f32 := View.ld (Val := Elt Ideal) (e' := .f32) (iblk m c 3 t) (Rect.unit (s := S3x512) ![0, o] ![3, 128] i)
abbrev M0 (o : ℕ) (i : ∀ a, (![o, o] : Fin 2 → ℕ) a + (![128, 128] : Fin 2 → ℕ) a ≤ S512x512.size a) : Vec Ideal S128x128 .bf16 := View.ld (Val := Elt Ideal) (e' := .bf16) (iblk m c 8 t) (Rect.unit (s := S512x512) ![o, o] ![128, 128] i)
abbrev C0 (o : ℕ) (i : ∀ a, (![0, o] : Fin 2 → ℕ) a + (![1, 128] : Fin 2 → ℕ) a ≤ S1x512.size a) : Vec Ideal S1x128 .f32 := View.ld (Val := Elt Ideal) (e' := .f32) (iblk m c 4 t) (Rect.unit (s := S1x512) ![0, o] ![1, 128] i)

section

variable (hS : ∀ b s l, IsReal ((argsOf m c).short b s l)) (X : Vec Ideal S520x512 .f32) (hX : Carries (F0 m c t) t X)
include hS hX

theorem ya_head (o : ℕ) (ho : o + 128 ≤ 512) (h : o % 128 = 0) (iB iW iM iC) (y : Vec Ideal S512x128 .f32)
    (hy : ∀ (r : Fin 512) (d : Fin 128), y (ix2 r d) = B0 m c t iB (ix2 r (⟨o + d.val, by omega⟩ : Fin 512)) * cv3 (cols X o ho) (W0 m c t o iW) r d)
    (r : Fin 512) (d : Fin 128) :
    fin3 y (M0 m c t o iM) (C0 m c t o iC) r d = (argsOf m c).ya (seq t) (pos t r) ⟨o + d.val, by omega⟩ := by
  unfold Cert.Inproj.Args.ya
  refine fin3_group (fun l => (argsOf m c).short (seq t) (pos t r) l) (fun l => hS _ _ l) (argsOf m c).cn o ho h y _ _ r d (fun d => ?_) (fun i => ?_) ?_
  · rw [hy]
    unfold Cert.Inproj.Args.short
    refine congrArg₂ (· * ·) ((pay20_apply _ _ _ r _).trans (tp_eq m c t iB r _ (by omega))) ?_
    refine cv3_carries (F0 m c t) t X hX o ho _ _ r d fun j => ?_
    show View.ld _ _ _ = _
    rw [blk3]
    exact (ld2 (V m c main_v13 : Vec Ideal S3x512 .f32) iW j d j ⟨o + d.val, by omega⟩ (by omega) rfl).trans (entry3 m c j _)
  · show View.ld _ _ _ = _
    rw [blk8]
    exact ld2 (averages : Vec Ideal S512x512 .bf16) iM i d ⟨o + i.val, by omega⟩ ⟨o + d.val, by omega⟩ rfl rfl
  · show View.ld _ _ _ = _
    rw [blk4]
    exact (ld2 (V m c main_v15 : Vec Ideal S1x512 .f32) iC (0 : Fin 1) d (0 : Fin 1) ⟨o + d.val, by omega⟩ rfl rfl).trans (entry4 m c _)

theorem ya_pieces (i3 i2 i1 i0 iB iB1 iB2 iB3 w3 w2 w1 w0 m3 m2 m1 m0 c3 c2 c1 c0) :
    View.canon (Val := Elt Ideal) [
      (⟨Rect.unit (s := S1x512x512) ![0, 0, 384] ![1, 512, 128] i3, k0_pay47 (F := Ideal) (k0_pay45 (B0 m c t iB) (cols X 384 (by omega)) (W0 m c t 384 w3)) (k0_pay46 (B0 m c t iB) (cols X 384 (by omega)) (W0 m c t 384 w3) (M0 m c t 384 m3)) (C0 m c t 384 c3)⟩ : View.Piece (Elt Ideal) S1x512x512 .bf16),
      ⟨Rect.unit (s := S1x512x512) ![0, 0, 256] ![1, 512, 128] i2, k0_pay44 (F := Ideal) (k0_pay42 (B0 m c t iB1) (cols X 256 (by omega)) (W0 m c t 256 w2)) (k0_pay43 (B0 m c t iB1) (cols X 256 (by omega)) (W0 m c t 256 w2) (M0 m c t 256 m2)) (C0 m c t 256 c2)⟩,
      ⟨Rect.unit (s := S1x512x512) ![0, 0, 128] ![1, 512, 128] i1, k0_pay41 (F := Ideal) (k0_pay39 (B0 m c t iB2) (cols X 128 (by omega)) (W0 m c t 128 w1)) (k0_pay40 (B0 m c t iB2) (cols X 128 (by omega)) (W0 m c t 128 w1) (M0 m c t 128 m1)) (C0 m c t 128 c1)⟩,
      ⟨Rect.unit (s := S1x512x512) ![0, 0, 0] ![1, 512, 128] i0, k0_pay38 (F := Ideal) (k0_pay36 (B0 m c t iB3) (cols X 0 (by omega)) (W0 m c t 0 w0)) (k0_pay37 (B0 m c t iB3) (cols X 0 (by omega)) (W0 m c t 0 w0) (M0 m c t 0 m0)) (C0 m c t 0 c0)⟩]
      = fun y : S1x512x512.Idx => (argsOf m c).ya (seq t) (pos t (y 1)) (y 2) := by
  refine heads_eq VO0_9 _ _ _ _ (fun r l => (argsOf m c).ya (seq t) (pos t r) l) _ _ _ _ ?_ ?_ ?_ ?_ <;> intro r d
  · exact (y_head0 _ _ _ _ _ r d).trans (ya_head m c t hS X hX 0 (by omega) rfl _ _ _ _ _ (pay36_apply _ _ _) r d)
  · exact (y_head1 _ _ _ _ _ r d).trans (ya_head m c t hS X hX 128 (by omega) rfl _ _ _ _ _ (pay39_apply _ _ _) r d)
  · exact (y_head2 _ _ _ _ _ r d).trans (ya_head m c t hS X hX 256 (by omega) rfl _ _ _ _ _ (pay42_apply _ _ _) r d)
  · exact (y_head3 _ _ _ _ _ r d).trans (ya_head m c t hS X hX 384 (by omega) rfl _ _ _ _ _ (pay45_apply _ _ _) r d)

end

theorem ya_point (hS : ∀ b s l, IsReal ((argsOf m c).short b s l)) :
    (outsAt0 m c t.val t.isLt).1 = fun y : S1x512x512.Idx => (argsOf m c).ya (seq t) (pos t (y 1)) (y 2) := by
  by_cases h0 : t.val % 4 = 0
  · rw [outsAt0_A m c t h0]
    dsimp only
    frame_out
    rw [readCov_ext _ _ _ _ _ 0 (by omega), readCov_ext _ _ _ _ _ 128 (by omega), readCov_ext _ _ _ _ _ 256 (by omega), readCov_ext _ _ _ _ _ 384 (by omega)]
    exact ya_pieces m c t hS _ (carries_first (F0 m c t) t h0 (k0_pay2 (F := Ideal)) (P0 m c t) zeros2 (hP0 m c t)) _ _ _ _ _ _ _ _ _ _ _ _ _ _ _ _ _ _ _ _
  · rw [outsAt0_B m c t h0]
    dsimp only
    frame_out
    rw [ld_ext _ _ _ ((Memref.isWhole_whole _).read_unread _) _ _ 0 (by omega), ld_ext _ _ _ ((Memref.isWhole_whole _).read_unread _) _ _ 128 (by omega),
      ld_ext _ _ _ ((Memref.isWhole_whole _).read_unread _) _ _ 256 (by omega), ld_ext _ _ _ ((Memref.isWhole_whole _).read_unread _) _ _ 384 (by omega)]
    exact ya_pieces m c t hS _ (next t (F0 m c) h0 (F0_seq m c t) _ (P0 m c t) (tail0 m c (before t h0)) (hP0 m c t)) _ _ _ _ _ _ _ _ _ _ _ _ _ _ _ _ _ _ _ _

end Cert.Kernel2Ideal.Inproj

end
-- ==== Proof.Inproj.TileGates.lean ====
/- The gates one grid point of the projection kernel computes, over the extended reals, element by element. -/
module

public import proofs.«01_k».proof.Proof.Inproj.Tile
import Idealize.ShloMosaic.Lib.Pointwise

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Idealize.ShloMosaic.StableHlo

theorem lane_lt (l : Fin 128) : IntOp.cmpi .slt (BitVec.ofNat 32 l.val) 4#32 = if l.val < 4 then 1#1 else 0#1 :=
  (by decide +kernel : ∀ l : Fin 128, IntOp.cmpi .slt (BitVec.ofNat 32 l.val) 4#32 = if l.val < 4 then 1#1 else 0#1) l

theorem row_le (i j : Fin 64) : IntOp.cmpi .sle (BitVec.ofNat 32 j.val) (BitVec.ofNat 32 i.val) = if j ≤ i then 1#1 else 0#1 :=
  (by decide +kernel : ∀ i j : Fin 64, IntOp.cmpi .sle (BitVec.ofNat 32 j.val) (BitVec.ofNat 32 i.val) = if j ≤ i then 1#1 else 0#1) i j

/-- The lower triangle of ones. -/
theorem tri_apply (i j : Fin 64) : k0_pay69 (F := Ideal) (ix2 i j) = if j ≤ i then (1 : EReal) else 0 := by
  pointwise [k0_pay69]
  rw [row_le]
  by_cases h : j ≤ i
  · rw [if_pos h, if_pos h]
    rfl
  · rw [if_neg h, if_neg h]
    rfl

/-- The decays of a tile. -/
def decs (p : Vec Ideal S512x128 .f32) (a db : Vec Ideal S1x128 .f32) : Vec Ideal S512x128 .f32 :=
  k0_pay68 (F := Ideal) (k0_pay65 a) (k0_pay66 p db) (k0_pay67 p db)

theorem decs_apply (p : Vec Ideal S512x128 .f32) (a db : Vec Ideal S1x128 .f32) (r : Fin 512) (l : Fin 128) :
    decs p a db (ix2 r l) = Cert.Inproj.decay (a (ix2 (0 : Fin 1) l)) (p (ix2 r l) + db (ix2 (0 : Fin 1) l)) := by
  pointwise [decs, k0_pay68, k0_pay65, k0_pay66, k0_pay67, Cert.Inproj.decay, Cert.Inproj.softplus]
  rw [zero_sub, zero_sub]
  rfl

/-- The lanes below four of `s`, and the others of eight pieces of 64 rows stacked. -/
def stack (s : Vec Ideal S512x128 .f32) (p₀ p₁ p₂ p₃ p₄ p₅ p₆ p₇ : Vec Ideal S64x128 .f32) : Vec Ideal S512x128 .f32 :=
  select (cmpi .slt (iota .tc S512x128 32 [1] iota_S512x128_d1_w32) (broadcast S512x128 4#32)) s
    (concatenate S512x128 0 [⟨S64x128, p₀⟩, ⟨S64x128, p₁⟩, ⟨S64x128, p₂⟩, ⟨S64x128, p₃⟩, ⟨S64x128, p₄⟩, ⟨S64x128, p₅⟩, ⟨S64x128, p₆⟩, ⟨S64x128, p₇⟩]
      concatenates_S64x128_S64x128_S64x128_S64x128_S64x128_S64x128_S64x128_S64x128_S512x128_d0)

theorem stack_apply (s : Vec Ideal S512x128 .f32) (p₀ p₁ p₂ p₃ p₄ p₅ p₆ p₇ : Vec Ideal S64x128 .f32) (l : Fin 128)
    (T : Nat → Fin 64 → EReal) (h₀ : ∀ i, p₀ (ix2 i l) = T 0 i) (h₁ : ∀ i, p₁ (ix2 i l) = T 1 i) (h₂ : ∀ i, p₂ (ix2 i l) = T 2 i)
    (h₃ : ∀ i, p₃ (ix2 i l) = T 3 i) (h₄ : ∀ i, p₄ (ix2 i l) = T 4 i) (h₅ : ∀ i, p₅ (ix2 i l) = T 5 i) (h₆ : ∀ i, p₆ (ix2 i l) = T 6 i)
    (h₇ : ∀ i, p₇ (ix2 i l) = T 7 i) (r : Fin 512) (n : Fin 8) (i : Fin 64) (hr : r.val = n.val * 64 + i.val) :
    stack s p₀ p₁ p₂ p₃ p₄ p₅ p₆ p₇ (ix2 r l) = if l.val < 4 then s (ix2 r l) else T n.val i := by
  have hc : ∀ (o o' : Nat) (i i' : Fin 64), o = o' → i.val = i'.val → T o i = T o' i' := by
    intro o o' i i' h h'
    rw [h, Fin.ext h']
  have hi := i.isLt
  have hn := n.isLt
  pointwise [stack]
  by_cases h : l.val < 4
  · rw [if_pos h, lane_lt, if_pos h]
    rfl
  · rw [if_neg h, lane_lt, if_neg h]
    refine Eq.trans (b := dite _ _ _) rfl ?_
    simp only [h₀, h₁, h₂, h₃, h₄, h₅, h₆, h₇]
    split_ifs
    all_goals exact hc _ _ _ _ (by omega) (by simp only; omega)

/-- The running sum over a piece of 64 rows: the lower triangle times the decays split into three parts, the second and third remainders. -/
def runSum (a : Vec Ideal S1x128 .f32) (b m : Vec Ideal S512x128 .f32) (l : Fin 128) (n : Nat) (i : Fin 64) : EReal :=
  if h : n < 8 then
    (∑ j : Fin 64, k0_pay69 (F := Ideal) (ix2 i j) * k0_pay68 (F := Ideal) a b m (ix2 (⟨n * 64 + j.val, by omega⟩ : Fin 512) l))
      + (∑ j : Fin 64, k0_pay69 (F := Ideal) (ix2 i j) * (k0_pay68 (F := Ideal) a b m (ix2 (⟨n * 64 + j.val, by omega⟩ : Fin 512) l)
          - k0_pay68 (F := Ideal) a b m (ix2 (⟨n * 64 + j.val, by omega⟩ : Fin 512) l)))
      + (∑ j : Fin 64, k0_pay69 (F := Ideal) (ix2 i j) * (k0_pay68 (F := Ideal) a b m (ix2 (⟨n * 64 + j.val, by omega⟩ : Fin 512) l)
          - k0_pay68 (F := Ideal) a b m (ix2 (⟨n * 64 + j.val, by omega⟩ : Fin 512) l)
          - (k0_pay68 (F := Ideal) a b m (ix2 (⟨n * 64 + j.val, by omega⟩ : Fin 512) l)
            - k0_pay68 (F := Ideal) a b m (ix2 (⟨n * 64 + j.val, by omega⟩ : Fin 512) l))))
  else 0

variable (a : Vec Ideal S1x128 .f32) (b m : Vec Ideal S512x128 .f32) (l : Fin 128) (i : Fin 64)

theorem piece0 : k0_pay74 (F := Ideal) a b m (ix2 i l) = runSum a b m l 0 i := by
  pointwise [k0_pay74, k0_pay73, k0_pay72, k0_pay71, k0_pay70, runSum]

theorem piece1 : k0_pay75 (F := Ideal) a b m (ix2 i l) = runSum a b m l 1 i := by
  pointwise [k0_pay75, k0_pay73, k0_pay72, k0_pay71, k0_pay70, runSum]

theorem piece2 : k0_pay78 (F := Ideal) k0_pay69 (k0_pay73 a b m) (k0_pay76 a b m) (k0_pay77 a b m) (ix2 i l) = runSum a b m l 2 i := by
  pointwise [k0_pay78, k0_pay76, k0_pay77, k0_pay73, k0_pay72, k0_pay71, k0_pay70, runSum]

theorem piece3 : k0_pay79 (F := Ideal) k0_pay69 (k0_pay70 a b m) (k0_pay72 a b m) (k0_pay73 a b m) (ix2 i l) = runSum a b m l 3 i := by
  pointwise [k0_pay79, k0_pay73, k0_pay72, k0_pay71, k0_pay70, runSum]

theorem piece4 : k0_pay80 (F := Ideal) k0_pay69 (k0_pay70 a b m) (k0_pay72 a b m) (k0_pay73 a b m) (ix2 i l) = runSum a b m l 4 i := by
  pointwise [k0_pay80, k0_pay73, k0_pay72, k0_pay71, k0_pay70, runSum]

theorem piece5 : k0_pay81 (F := Ideal) k0_pay69 (k0_pay70 a b m) (k0_pay72 a b m) (k0_pay73 a b m) (ix2 i l) = runSum a b m l 5 i := by
  pointwise [k0_pay81, k0_pay73, k0_pay72, k0_pay71, k0_pay70, runSum]

/-- The last two pieces, each its three products added up. -/
def piece6V : Vec Ideal S64x128 .f32 :=
  addf (F := Ideal) (φ := .f32) (k0_pay82 k0_pay69 (k0_pay70 a b m) (k0_pay72 a b m))
    (matmul (F := Ideal) dot_S64x64_S64x128_S64x128_1_0_0_1_n_n none (k0_pay69 (F := Ideal)) (k0_pay83 (k0_pay73 a b m)) (constant S64x128 .f32 0x00000000#32))

def piece7V : Vec Ideal S64x128 .f32 :=
  addf (F := Ideal) (φ := .f32) (addf (F := Ideal) (φ := .f32) (addf (F := Ideal) (φ := .f32) (broadcast S64x128 (Scalar.ofBits (F := Ideal) .f32 0x00000000#32))
      (matmul (F := Ideal) dot_S64x64_S64x128_S64x128_1_0_0_1_n_n none (k0_pay69 (F := Ideal)) (extractStridedSlice S64x128 ![448, 0] (k0_pay70 (F := Ideal) a b m) slices_S512x128_o448_0_S64x128) (constant S64x128 .f32 0x00000000#32)))
      (matmul (F := Ideal) dot_S64x64_S64x128_S64x128_1_0_0_1_n_n none (k0_pay69 (F := Ideal)) (extractStridedSlice S64x128 ![448, 0] (k0_pay72 (F := Ideal) a b m) slices_S512x128_o448_0_S64x128) (constant S64x128 .f32 0x00000000#32)))
      (matmul (F := Ideal) dot_S64x64_S64x128_S64x128_1_0_0_1_n_n none (k0_pay69 (F := Ideal)) (extractStridedSlice S64x128 ![448, 0] (k0_pay73 (F := Ideal) a b m) slices_S512x128_o448_0_S64x128) (constant S64x128 .f32 0x00000000#32))

theorem piece6 : piece6V a b m (ix2 i l) = runSum a b m l 6 i := by
  pointwise [piece6V, k0_pay82, k0_pay83, k0_pay73, k0_pay72, k0_pay71, k0_pay70, runSum]

theorem piece7 : piece7V a b m (ix2 i l) = runSum a b m l 7 i := by
  pointwise [piece7V, k0_pay73, k0_pay72, k0_pay71, k0_pay70, runSum]

/-- The gates of a tile, lane by lane: the sigmoids, then the chunks' running decays. -/
def gateM (s : Vec Ideal S512x128 .f32) : Vec Ideal S512x128 .f32 :=
  k0_pay84 (F := Ideal) s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m))

theorem gateM_eq (s : Vec Ideal S512x128 .f32) : gateM a b m s = stack s (k0_pay74 (F := Ideal) a b m) (k0_pay75 (F := Ideal) a b m)
    (k0_pay78 (F := Ideal) k0_pay69 (k0_pay73 a b m) (k0_pay76 a b m) (k0_pay77 a b m)) (k0_pay79 (F := Ideal) k0_pay69 (k0_pay70 a b m) (k0_pay72 a b m) (k0_pay73 a b m))
    (k0_pay80 (F := Ideal) k0_pay69 (k0_pay70 a b m) (k0_pay72 a b m) (k0_pay73 a b m)) (k0_pay81 (F := Ideal) k0_pay69 (k0_pay70 a b m) (k0_pay72 a b m) (k0_pay73 a b m))
    (piece6V a b m) (piece7V a b m) := rfl

theorem gateM_apply (s : Vec Ideal S512x128 .f32) (n : Fin 8) :
    gateM a b m s (ix2 (⟨n.val * 64 + i.val, by omega⟩ : Fin 512) l)
      = if l.val < 4 then s (ix2 (⟨n.val * 64 + i.val, by omega⟩ : Fin 512) l) else runSum a b m l n.val i := by
  rw [gateM_eq]
  exact stack_apply s _ _ _ _ _ _ _ _ l (runSum a b m l) (piece0 a b m l) (piece1 a b m l) (piece2 a b m l) (piece3 a b m l) (piece4 a b m l)
    (piece5 a b m l) (piece6 a b m l) (piece7 a b m l) _ n i rfl

end Cert.Kernel2Ideal.Inproj

end
-- ==== Proof.Inproj.Grow.lean ====
/- The gates, chunk by chunk, that one grid point leaves. -/
module

public import proofs.«01_k».proof.Proof.Inproj.Heads
public import proofs.«01_k».proof.Proof.Inproj.TileGates
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args back IsReal)

variable (m : (ℓ : Loc nD τ sig) → Buf (Elt Ideal) ℓ) (c : Dev nD) (t : Fin cfg0.N)

/-! ## A result written chunk by chunk -/

theorem chunk_step (v : View sig .tc .vmem S1x8x8x64 .f32) (n : ℕ) (hn : n < 8) (f : Vec Ideal S1x1x8x64 .f32) (L : List (View.Piece (Elt Ideal) S1x8x8x64 .f32)) (i)
    (G : Fin 8 → Fin 8 → Fin 64 → EReal) (hf : ∀ (r : Fin 8) (k : Fin 64), f (ix4 (0 : Fin 1) (0 : Fin 1) r k) = G ⟨n, hn⟩ r k) (y : S1x8x8x64.Idx)
    (rest : (y 1).val < n → v.read (Elt Ideal) (v.writes (Elt Ideal) v.junk L) y = G (y 1) (y 2) (y 3)) (hy : (y 1).val < n + 1) :
    v.read (Elt Ideal) (v.writes (Elt Ideal) v.junk ((⟨Rect.unit (s := S1x8x8x64) ![0, n, 0, 0] ![1, 1, 8, 64] i, f⟩ : View.Piece (Elt Ideal) S1x8x8x64 .f32) :: L)) y = G (y 1) (y 2) (y 3) := by
  have y0 : (y 0).val < 1 := (y 0).isLt
  by_cases h : (y 1).val < n
  · exact (View.read_writes_cons_unit_of_not_mem v _ i f _ y rfl 1 (Or.inl h)).trans (rest h)
  · refine (View.read_writes_cons_unit_of_mem v _ i f _ y (ix4 (0 : Fin 1) (0 : Fin 1) (y 2) (y 3)) rfl (fun a => ?_)).trans ((hf (y 2) (y 3)).trans ?_)
    · fin_cases a
      · show (y 0).val = 0 + 0; omega
      · show (y 1).val = n + 0; omega
      · show (y 2).val = 0 + (y 2).val; omega
      · show (y 3).val = 0 + (y 3).val; omega
    · exact congrArg (G · (y 2) (y 3)) (Fin.ext (by show n = (y 1).val; omega))

theorem chunks_eq (v : View sig .tc .vmem S1x8x8x64 .f32) (f0 f1 f2 f3 f4 f5 f6 f7 : Vec Ideal S1x1x8x64 .f32) (G : Fin 8 → Fin 8 → Fin 64 → EReal) (i0 i1 i2 i3 i4 i5 i6 i7)
    (h : ∀ (n : Fin 8) (r : Fin 8) (k : Fin 64), (![f0, f1, f2, f3, f4, f5, f6, f7] n) (ix4 (0 : Fin 1) (0 : Fin 1) r k) = G n r k) :
    View.canon (Val := Elt Ideal) [(⟨Rect.unit (s := S1x8x8x64) ![0, 7, 0, 0] ![1, 1, 8, 64] i7, f7⟩ : View.Piece (Elt Ideal) S1x8x8x64 .f32),
      ⟨Rect.unit (s := S1x8x8x64) ![0, 6, 0, 0] ![1, 1, 8, 64] i6, f6⟩, ⟨Rect.unit (s := S1x8x8x64) ![0, 5, 0, 0] ![1, 1, 8, 64] i5, f5⟩,
      ⟨Rect.unit (s := S1x8x8x64) ![0, 4, 0, 0] ![1, 1, 8, 64] i4, f4⟩, ⟨Rect.unit (s := S1x8x8x64) ![0, 3, 0, 0] ![1, 1, 8, 64] i3, f3⟩,
      ⟨Rect.unit (s := S1x8x8x64) ![0, 2, 0, 0] ![1, 1, 8, 64] i2, f2⟩, ⟨Rect.unit (s := S1x8x8x64) ![0, 1, 0, 0] ![1, 1, 8, 64] i1, f1⟩,
      ⟨Rect.unit (s := S1x8x8x64) ![0, 0, 0, 0] ![1, 1, 8, 64] i0, f0⟩] = fun y : S1x8x8x64.Idx => G (y 1) (y 2) (y 3) := by
  rw [← View.read_writes_junk_eq_canon v]
  funext y
  have y1 : (y 1).val < 8 := (y 1).isLt
  exact chunk_step v 7 (by omega) f7 _ i7 G (h 7) y (chunk_step v 6 (by omega) f6 _ i6 G (h 6) y (chunk_step v 5 (by omega) f5 _ i5 G (h 5) y
    (chunk_step v 4 (by omega) f4 _ i4 G (h 4) y (chunk_step v 3 (by omega) f3 _ i3 G (h 3) y (chunk_step v 2 (by omega) f2 _ i2 G (h 2) y
    (chunk_step v 1 (by omega) f1 _ i1 G (h 1) y (chunk_step v 0 (by omega) f0 _ i0 G (h 0) y (fun hy => absurd hy (Nat.not_lt_zero _))))))))) y1

/-! ## The chunks of the gates -/

/-- The gates with the lanes as rows. -/
def rowsOf (M : Vec Ideal S512x128 .f32) : Vec Ideal S8x512 .f32 :=
  extractStridedSlice S8x512 ![0, 0] (transpose S128x512 [1, 0] M transposes_S512x128_p1_0_S128x512) slices_S128x512_o0_0_S8x512

theorem rowsOf_apply (M : Vec Ideal S512x128 .f32) (r : Fin 8) (k : Fin 512) : rowsOf M (ix2 r k) = M (ix2 k (⟨r.val, by omega⟩ : Fin 128)) := by
  pointwise [rowsOf]

/-- A chunk's 64 positions. -/
def chunkAt (o : ℕ) (h : S8x512.Slices ![0, o] S8x64) (X : Vec Ideal S8x512 .f32) : Vec Ideal S1x1x8x64 .f32 :=
  shapeCast S1x1x8x64 (extractStridedSlice S8x64 ![0, o] X h) shapeCasts_S8x64_S1x1x8x64

theorem chunkAt_apply (o : ℕ) (h : S8x512.Slices ![0, o] S8x64) (X : Vec Ideal S8x512 .f32) (r : Fin 8) (k : Fin 64) (ho : o + 64 ≤ 512) :
    chunkAt o h X (ix4 (0 : Fin 1) (0 : Fin 1) r k) = X (ix2 r (⟨o + k.val, by omega⟩ : Fin 512)) := by
  pointwise [chunkAt]

section

variable (a : Vec Ideal S1x128 .f32) (b m : Vec Ideal S512x128 .f32) (s : Vec Ideal S512x128 .f32)

theorem rows_eq : k0_pay86 (F := Ideal) s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m)) = rowsOf (gateM a b m s) := rfl
theorem chunk0 : k0_pay87 (F := Ideal) s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m)) = chunkAt 0 slices_S8x512_o0_0_S8x64 (rowsOf (gateM a b m s)) := rfl
theorem chunk1 : k0_pay88 (F := Ideal) s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m)) = chunkAt 64 slices_S8x512_o0_64_S8x64 (rowsOf (gateM a b m s)) := rfl
theorem chunk2 : k0_pay89 (F := Ideal) s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m)) = chunkAt 128 slices_S8x512_o0_128_S8x64 (rowsOf (gateM a b m s)) := rfl
theorem chunk3 : k0_pay91 (F := Ideal) (k0_pay90 s k0_pay69 (k0_pay70 a b m) (k0_pay72 a b m) (k0_pay73 a b m) (k0_pay74 a b m) (k0_pay75 a b m)
    (k0_pay78 k0_pay69 (k0_pay73 a b m) (k0_pay76 a b m) (k0_pay77 a b m)) (k0_pay79 k0_pay69 (k0_pay70 a b m) (k0_pay72 a b m) (k0_pay73 a b m))
    (k0_pay80 k0_pay69 (k0_pay70 a b m) (k0_pay72 a b m) (k0_pay73 a b m)) (k0_pay81 k0_pay69 (k0_pay70 a b m) (k0_pay72 a b m) (k0_pay73 a b m))
    (k0_pay82 k0_pay69 (k0_pay70 a b m) (k0_pay72 a b m)) (k0_pay83 (k0_pay73 a b m))) = chunkAt 192 slices_S8x512_o0_192_S8x64 (rowsOf (gateM a b m s)) := rfl

end

theorem chunk4 (X : Vec Ideal S8x512 .f32) : k0_pay92 (F := Ideal) X = chunkAt 256 slices_S8x512_o0_256_S8x64 X := rfl
theorem chunk5 (X : Vec Ideal S8x512 .f32) : k0_pay93 (F := Ideal) X = chunkAt 320 slices_S8x512_o0_320_S8x64 X := rfl
theorem chunk6 (X : Vec Ideal S8x512 .f32) : k0_pay94 (F := Ideal) X = chunkAt 384 slices_S8x512_o0_384_S8x64 X := rfl
theorem chunk7 (X : Vec Ideal S8x512 .f32) : k0_pay1 (F := Ideal) (k0_pay95 X) = chunkAt 448 slices_S8x512_o0_448_S8x64 X := rfl

/-! ## The gates from the arguments -/

theorem sig_apply (p : Vec Ideal S512x128 .f32) (r : Fin 512) (l : Fin 128) : k0_pay64 (F := Ideal) p (ix2 r l) = Ideal.logistic (p (ix2 r l)) := by
  pointwise [k0_pay64]

theorem runSum_eq (a : Vec Ideal S1x128 .f32) (b m : Vec Ideal S512x128 .f32) (l : Fin 128) (n : Fin 8) (i : Fin 64)
    (f : Fin 64 → EReal) (hf : ∀ j, IsReal (f j)) (e : ∀ j : Fin 64, k0_pay68 (F := Ideal) a b m (ix2 (⟨n.val * 64 + j.val, by omega⟩ : Fin 512) l) = f j) :
    runSum a b m l n.val i = Cert.Inproj.upTo f i := by
  unfold runSum
  rw [dif_pos n.isLt]
  simp only [e]
  refine Eq.trans ?_ (Cert.Inproj.upTo_split hf i (fun j => k0_pay69 (F := Ideal) (ix2 i j)) (fun j => tri_apply i j))
  rw [zero_add]

/-- The gates' columns of a tile. -/
abbrev p5 (i : ∀ a, (![0, 3584] : Fin 2 → ℕ) a + (![1024, 8] : Fin 2 → ℕ) a ≤ S1024x3592.size a) : Vec Ideal S512x128 .f32 :=
  k0_pay48 (F := Ideal) (k0_pay6 (iblk m c 0 t) (iblk m c 1 t)) (View.ld (Val := Elt Ideal) (e' := .bf16) (iblk m c 2 t) (Rect.unit (s := S1024x3592) ![0, 3584] ![1024, 8] i))

theorem p5_apply (i) (r : Fin 512) (l : Fin 128) (h : l.val < 8) : p5 m c t i (ix2 r l) = (argsOf m c).pr (seq t) ⟨3584 + l.val, by omega⟩ (pos t r) := by
  refine (pay48_apply _ _ _ r l).trans ?_
  rw [dif_pos h]
  exact tp_eq m c t i r ⟨l.val, h⟩ (by omega)

/-- The gates of a tile. -/
abbrev tileGates (i : ∀ a, (![0, 3584] : Fin 2 → ℕ) a + (![1024, 8] : Fin 2 → ℕ) a ≤ S1024x3592.size a) : Vec Ideal S512x128 .f32 :=
  gateM (k0_pay65 (F := Ideal) (iblk m c 6 t)) (k0_pay66 (F := Ideal) (p5 m c t i) (iblk m c 7 t)) (k0_pay67 (F := Ideal) (p5 m c t i) (iblk m c 7 t)) (k0_pay64 (F := Ideal) (p5 m c t i))

theorem tileGates_apply (hD : ∀ b h s, IsReal ((argsOf m c).dec b h s)) (i) (n : Fin 8) (k : Fin 64) (r : Fin 8) :
    tileGates m c t i (ix2 (⟨n.val * 64 + k.val, by omega⟩ : Fin 512) (⟨r.val, by omega⟩ : Fin 128))
      = (argsOf m c).gates (seq t) ⟨8 * (t.val % 4) + n.val, by omega⟩ r k := by
  have row (j : Fin 64) : pos t (⟨n.val * 64 + j.val, by omega⟩ : Fin 512) = (⟨(8 * (t.val % 4) + n.val) * 64 + j.val, by omega⟩ : Fin 2048) :=
    Fin.ext (by show 512 * (t.val % 4) + (n.val * 64 + j.val) = (8 * (t.val % 4) + n.val) * 64 + j.val; omega)
  refine (gateM_apply _ _ _ _ _ _ n).trans ?_
  unfold Cert.Inproj.Args.gates
  by_cases h : r.val < 4
  · rw [if_pos h, dif_pos h, sig_apply]
    refine congrArg Ideal.logistic ((p5_apply m c t i _ _ (by show r.val < 8; omega)).trans ?_)
    rw [row]
  · rw [if_neg h, dif_neg h]
    refine runSum_eq _ _ _ _ n k _ (fun j => hD _ _ _) fun j => ?_
    refine (decs_apply _ _ _ _ _).trans ?_
    have lane (x : Vec Ideal S1x4 .f32) : lanes x (ix2 (0 : Fin 1) (⟨r.val, by omega⟩ : Fin 128)) = x (ix2 (0 : Fin 1) (⟨r.val - 4, by omega⟩ : Fin 4)) :=
      (congrArg (fun q : Fin 128 => lanes x (ix2 (0 : Fin 1) q)) (Fin.ext (by show r.val = 4 + (r.val - 4); omega))).trans (lanes_apply x ⟨r.val - 4, by omega⟩)
    unfold Cert.Inproj.Args.dec
    rw [p5_apply m c t i _ _ (by show r.val < 8; omega), row, blk6, blk7, lane, lane]
    refine congrArg₂ Cert.Inproj.decay rfl (congrArg (· + _) (congrArg ((argsOf m c).pr (seq t) · _) (Fin.ext ?_)))
    show 3584 + r.val = 3588 + (r.val - 4)
    omega

theorem grow_pieces (hD : ∀ b h s, IsReal ((argsOf m c).dec b h s)) (i i0 i1 i2 i3 i4 i5 i6 i7) :
    View.canon (Val := Elt Ideal) [(⟨Rect.unit (s := S1x8x8x64) ![0, 7, 0, 0] ![1, 1, 8, 64] i7, chunkAt 448 slices_S8x512_o0_448_S8x64 (rowsOf (tileGates m c t i))⟩ : View.Piece (Elt Ideal) S1x8x8x64 .f32),
      ⟨Rect.unit (s := S1x8x8x64) ![0, 6, 0, 0] ![1, 1, 8, 64] i6, chunkAt 384 slices_S8x512_o0_384_S8x64 (rowsOf (tileGates m c t i))⟩,
      ⟨Rect.unit (s := S1x8x8x64) ![0, 5, 0, 0] ![1, 1, 8, 64] i5, chunkAt 320 slices_S8x512_o0_320_S8x64 (rowsOf (tileGates m c t i))⟩,
      ⟨Rect.unit (s := S1x8x8x64) ![0, 4, 0, 0] ![1, 1, 8, 64] i4, chunkAt 256 slices_S8x512_o0_256_S8x64 (rowsOf (tileGates m c t i))⟩,
      ⟨Rect.unit (s := S1x8x8x64) ![0, 3, 0, 0] ![1, 1, 8, 64] i3, chunkAt 192 slices_S8x512_o0_192_S8x64 (rowsOf (tileGates m c t i))⟩,
      ⟨Rect.unit (s := S1x8x8x64) ![0, 2, 0, 0] ![1, 1, 8, 64] i2, chunkAt 128 slices_S8x512_o0_128_S8x64 (rowsOf (tileGates m c t i))⟩,
      ⟨Rect.unit (s := S1x8x8x64) ![0, 1, 0, 0] ![1, 1, 8, 64] i1, chunkAt 64 slices_S8x512_o0_64_S8x64 (rowsOf (tileGates m c t i))⟩,
      ⟨Rect.unit (s := S1x8x8x64) ![0, 0, 0, 0] ![1, 1, 8, 64] i0, chunkAt 0 slices_S8x512_o0_0_S8x64 (rowsOf (tileGates m c t i))⟩]
      = fun y : S1x8x8x64.Idx => (argsOf m c).gates (seq t) ⟨8 * (t.val % 4) + (y 1).val, by have : (y 1).val < 8 := (y 1).isLt; omega⟩ (y 2) (y 3) := by
  refine chunks_eq VO0_15 _ _ _ _ _ _ _ _ (fun n r k => (argsOf m c).gates (seq t) ⟨8 * (t.val % 4) + n.val, by omega⟩ r k) _ _ _ _ _ _ _ _ fun n r k => ?_
  refine Eq.trans ?_ (tileGates_apply m c t hD i n k r)
  have one (o : ℕ) (h) (ho : o = n.val * 64) : chunkAt o h (rowsOf (tileGates m c t i)) (ix4 (0 : Fin 1) (0 : Fin 1) r k)
      = tileGates m c t i (ix2 (⟨n.val * 64 + k.val, by omega⟩ : Fin 512) (⟨r.val, by omega⟩ : Fin 128)) := by
    subst ho
    exact (chunkAt_apply _ h _ r k (by omega)).trans (rowsOf_apply _ r _)
  fin_cases n
  · exact one 0 slices_S8x512_o0_0_S8x64 rfl
  · exact one 64 slices_S8x512_o0_64_S8x64 rfl
  · exact one 128 slices_S8x512_o0_128_S8x64 rfl
  · exact one 192 slices_S8x512_o0_192_S8x64 rfl
  · exact one 256 slices_S8x512_o0_256_S8x64 rfl
  · exact one 320 slices_S8x512_o0_320_S8x64 rfl
  · exact one 384 slices_S8x512_o0_384_S8x64 rfl
  · exact one 448 slices_S8x512_o0_448_S8x64 rfl

theorem grow_point (hD : ∀ b h s, IsReal ((argsOf m c).dec b h s)) :
    (outsAt0 m c t.val t.isLt).2.2.2.2.2.2.1
      = fun y : S1x8x8x64.Idx => (argsOf m c).gates (seq t) ⟨8 * (t.val % 4) + (y 1).val, by have : (y 1).val < 8 := (y 1).isLt; omega⟩ (y 2) (y 3) := by
  by_cases h0 : t.val % 4 = 0
  · rw [outsAt0_A m c t h0]
    dsimp only
    frame_out
    rw [rows_eq, chunk0, chunk1, chunk2, chunk3, chunk4, chunk5, chunk6, chunk7]
    exact grow_pieces m c t hD _ _ _ _ _ _ _ _ _
  · rw [outsAt0_B m c t h0]
    dsimp only
    frame_out
    rw [rows_eq, chunk0, chunk1, chunk2, chunk3, chunk4, chunk5, chunk6, chunk7]
    exact grow_pieces m c t hD _ _ _ _ _ _ _ _ _

end Cert.Kernel2Ideal.Inproj

end
-- ==== Proof.Inproj.Result.lean ====
/- The projection's results as functions of its arguments. -/
module

public import proofs.«01_k».proof.Proof.Inproj.Ya
public import proofs.«01_k».proof.Proof.Inproj.Grow
import Idealize.ShloMosaic.Lib.Pipeline.ValueKit
import Idealize.ShloMosaic.Lib.Pointwise
import Idealize.ShloMosaic.Lib.WritesUnit

@[expose] public section

set_option maxRecDepth 16384
set_option maxHeartbeats 1000000

noncomputable section

namespace Cert.Kernel2Ideal.Inproj

open Cert.Kernel2Ideal Cert.Kernel2Ideal.Gen Idealize.ShloMosaic Idealize.ShloMosaic.TcCoe Idealize.SL.Sem
open Cert.Inproj (Args IsReal)
open Cert.Kernel2Ideal.Value

variable (m : (ℓ : Loc nD τ sig) → Buf (Elt Ideal) ℓ) (ρ : Dev nD → PrngReg) (c : Dev nD)

theorem points : cfg0.N = 32 := N_0

theorem run_lt (i : S8x2048x512.Idx) : run9Of i < cfg0.N := by
  have h0 : (i 0).val < 8 := (i 0).isLt
  have h1 : (i 1).val < 2048 := (i 1).isLt
  have h2 : (i 2).val < 512 := (i 2).isLt
  rw [points]
  show 4 * ((i 0).val / 1 - 0) + 1 * ((i 1).val / 512 - 0) + 1 * ((i 2).val / 512 - 0) < 32
  omega

/-- A row of a result is the row of the tile of the point that writes it. -/
theorem place (f : Fin 8 → Fin 2048 → Fin 512 → EReal) (i : S8x2048x512.Idx) :
    f (seq ⟨run9Of i, run_lt i⟩) (pos ⟨run9Of i, run_lt i⟩ (loc9Of i 1)) (loc9Of i 2) = f (i 0) (i 1) (i 2) := by
  have h0 : (i 0).val < 8 := (i 0).isLt
  have h1 : (i 1).val < 2048 := (i 1).isLt
  have h2 : (i 2).val < 512 := (i 2).isLt
  have e0 : seq ⟨run9Of i, run_lt i⟩ = i 0 := Fin.ext (by show (4 * ((i 0).val / 1 - 0) + 1 * ((i 1).val / 512 - 0) + 1 * ((i 2).val / 512 - 0)) / 4 = (i 0).val; omega)
  have e1 : pos ⟨run9Of i, run_lt i⟩ (loc9Of i 1) = i 1 :=
    Fin.ext (by show 512 * ((4 * ((i 0).val / 1 - 0) + 1 * ((i 1).val / 512 - 0) + 1 * ((i 2).val / 512 - 0)) % 4) + (i 1).val % 512 = (i 1).val; omega)
  have e2 : loc9Of i 2 = i 2 := Fin.ext (by show (i 2).val % 512 = (i 2).val; omega)
  rw [e0, e1, e2]

theorem run_lt4 (i : S8x32x8x64.Idx) : run15Of i < cfg0.N := by
  have h0 : (i 0).val < 8 := (i 0).isLt
  have h1 : (i 1).val < 32 := (i 1).isLt
  have h2 : (i 2).val < 8 := (i 2).isLt
  have h3 : (i 3).val < 64 := (i 3).isLt
  rw [points]
  show 4 * ((i 0).val / 1 - 0) + 1 * ((i 1).val / 8 - 0) + 1 * ((i 2).val / 8 - 0) + 1 * ((i 3).val / 64 - 0) < 32
  omega

theorem place4 (f : Fin 8 → Fin 32 → Fin 8 → Fin 64 → EReal) (i : S8x32x8x64.Idx) (h) :
    f (seq ⟨run15Of i, run_lt4 i⟩) ⟨8 * ((⟨run15Of i, run_lt4 i⟩ : Fin cfg0.N).val % 4) + (loc15Of i 1).val, h⟩ (loc15Of i 2) (loc15Of i 3) = f (i 0) (i 1) (i 2) (i 3) := by
  have h0 : (i 0).val < 8 := (i 0).isLt
  have h1 : (i 1).val < 32 := (i 1).isLt
  have h2 : (i 2).val < 8 := (i 2).isLt
  have h3 : (i 3).val < 64 := (i 3).isLt
  have e0 : seq ⟨run15Of i, run_lt4 i⟩ = i 0 := Fin.ext (by show (4 * ((i 0).val / 1 - 0) + 1 * ((i 1).val / 8 - 0) + 1 * ((i 2).val / 8 - 0) + 1 * ((i 3).val / 64 - 0)) / 4 = (i 0).val; omega)
  have e1 : (⟨8 * ((⟨run15Of i, run_lt4 i⟩ : Fin cfg0.N).val % 4) + (loc15Of i 1).val, h⟩ : Fin 32) = i 1 :=
    Fin.ext (by show 8 * ((4 * ((i 0).val / 1 - 0) + 1 * ((i 1).val / 8 - 0) + 1 * ((i 2).val / 8 - 0) + 1 * ((i 3).val / 64 - 0)) % 4) + (i 1).val % 8 = (i 1).val; omega)
  have e2 : loc15Of i 2 = i 2 := Fin.ext (by show (i 2).val % 8 = (i 2).val; omega)
  have e3 : loc15Of i 3 = i 3 := Fin.ext (by show (i 3).val % 64 = (i 3).val; omega)
  rw [e0, e1, e2, e3]

theorem G9_eq (hS : ∀ b s l, IsReal ((argsOf m c).short b s l)) : G9 m c = fun i : S8x2048x512.Idx => (argsOf m c).ya (i 0) (i 1) (i 2) := by
  funext i
  unfold G9
  rw [dif_pos (run_lt i), ← outsAt0_sweep m c (run9Of i) (run_lt i)]
  exact (congrFun (ya_point m c ⟨run9Of i, run_lt i⟩ hS) (loc9Of i)).trans (place (argsOf m c).ya i)

theorem G10_eq : G10 m c = fun i : S8x2048x512.Idx => (argsOf m c).q (i 0) (i 1) (i 2) := by
  funext i
  unfold G10
  rw [dif_pos (run_lt i), ← outsAt0_sweep m c (run9Of i) (run_lt i)]
  exact (congrFun (q_point m c ⟨run9Of i, run_lt i⟩) (loc9Of i)).trans (place (argsOf m c).q i)

theorem G11_eq : G11 m c = fun i : S8x2048x512.Idx => (argsOf m c).k (i 0) (i 1) (i 2) := by
  funext i
  unfold G11
  rw [dif_pos (run_lt i), ← outsAt0_sweep m c (run9Of i) (run_lt i)]
  exact (congrFun (k_point m c ⟨run9Of i, run_lt i⟩) (loc9Of i)).trans (place (argsOf m c).k i)

theorem G12_eq : G12 m c = fun i : S8x2048x512.Idx => (argsOf m c).v (i 0) (i 1) (i 2) := by
  funext i
  unfold G12
  rw [dif_pos (run_lt i), ← outsAt0_sweep m c (run9Of i) (run_lt i)]
  exact (congrFun (v_point m c ⟨run9Of i, run_lt i⟩) (loc9Of i)).trans (place (argsOf m c).v i)

theorem G13_eq : G13 m c = fun i : S8x2048x512.Idx => (argsOf m c).zg (i 0) (i 1) (i 2) := by
  funext i
  unfold G13
  rw [dif_pos (run_lt i), ← outsAt0_sweep m c (run9Of i) (run_lt i)]
  exact (congrFun (zg_point m c ⟨run9Of i, run_lt i⟩) (loc9Of i)).trans (place (argsOf m c).zg i)

theorem G15_eq (hD : ∀ b h s, IsReal ((argsOf m c).dec b h s)) : G15 m c = fun i : S8x32x8x64.Idx => (argsOf m c).gates (i 0) (i 1) (i 2) (i 3) := by
  funext i
  unfold G15
  rw [dif_pos (run_lt4 i), ← outsAt0_sweep m c (run15Of i) (run_lt4 i)]
  exact (congrFun (grow_point m c ⟨run15Of i, run_lt4 i⟩ hD) (loc15Of i)).trans (place4 (argsOf m c).gates i _)

end Cert.Kernel2Ideal.Inproj

end
-- ==== Proof.Inproj.RunningSum.lean ====
/- The running sum over the rows of a chunk: a window sum over the rows up to and including the one it ends at. -/
module

public import proofs.«01_k».proof.Proof.Inproj.Math

@[expose] public section

noncomputable section

namespace Cert.Inproj

open Idealize.ShloMosaic Idealize.ShloMosaic.TcCoe

/-- A left fold of additions from a value is that value and the sum. -/
theorem foldl_add {n : Nat} (f : Fin n → EReal) (v : EReal) :
    (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- A window that ends at row `i`, the rows before the first counting nothing. -/
theorem sum_shift (f : Fin 64 → EReal) (i : Fin 64) :
    (∑ w : Fin 64, if h : 63 ≤ i.val + w.val then f ⟨i.val + w.val - 63, by omega⟩ else 0) = upTo f i := by
  unfold upTo
  rw [← Finset.sum_filter]
  symm
  rw [← Finset.sum_subset (Finset.subset_univ (Finset.univ.filter fun w : Fin 64 => 63 ≤ i.val + w.val)) (fun w _ hw =>
    dif_neg fun hle => hw (Finset.mem_filter.2 ⟨Finset.mem_univ _, hle⟩))]
  have hj : ∀ j : Fin 64, j ∈ Finset.univ.filter (fun j : Fin 64 => j ≤ i) → j.val ≤ i.val := fun j h => (Finset.mem_filter.1 h).2
  refine Finset.sum_bij (fun j h => (⟨j.val + 63 - i.val, by have := hj j h; omega⟩ : Fin 64)) (fun j h => ?_) (fun a ha b hb h => ?_)
    (fun w hw => ?_) (fun j h => ?_)
  · refine Finset.mem_filter.2 ⟨Finset.mem_univ _, ?_⟩
    show 63 ≤ i.val + (j.val + 63 - i.val)
    omega
  · have h' : a.val + 63 - i.val = b.val + 63 - i.val := congrArg Fin.val h
    exact Fin.ext (by omega)
  · have hle : 63 ≤ i.val + w.val := (Finset.mem_filter.1 hw).2
    refine ⟨⟨i.val + w.val - 63, by omega⟩, Finset.mem_filter.2 ⟨Finset.mem_univ _, ?_⟩, Fin.ext ?_⟩
    · show i.val + w.val - 63 ≤ i.val
      omega
    · show i.val + w.val - 63 + 63 - i.val = w.val
      omega
  · have := hj j h
    rw [dif_pos (show 63 ≤ i.val + (j.val + 63 - i.val) by omega)]
    refine congrArg f (Fin.ext ?_)
    show j.val = i.val + (j.val + 63 - i.val) - 63
    omega

/-- The window sum over the third axis of four, as a running sum along it. -/
theorem window_sum {A B C : Nat} (x : (⟨4, ![A, B, 64, C]⟩ : Shape).Idx → EReal) (h : (⟨4, ![A, B, 64, C]⟩ : Shape).ReduceWindows (![1, 1, 64, 1] : Fin 4 → Nat) ![1, 1, 1, 1] ![0, 0, 63, 0] ![0, 0, 0, 0] (⟨4, ![A, B, 64, C]⟩ : Shape))
    (b : Fin A) (n : Fin B) (i : Fin 64) (c : Fin C) :
    Ideal.hostReduceWindowAdd ![1, 1, 64, 1] ![1, 1, 1, 1] ![0, 0, 63, 0] ![0, 0, 0, 0] h x 0 (ix4 b n i c)
      = upTo (fun j => x (ix4 b n j c)) i := by
  unfold Ideal.hostReduceWindowAdd Host.reduceWindow
  dsimp only
  rw [foldl_add, zero_add, ← sum_shift]
  let W : Shape := ⟨4, ![1, 1, 64, 1]⟩
  let e : Fin 64 ≃ Fin W.numel := ⟨fun w => W.rowMajor (ix4 (0 : Fin 1) (0 : Fin 1) w (0 : Fin 1)), fun k => W.rowMajor.symm k 2, fun w => by simp, fun k => by
    rw [Equiv.apply_eq_iff_eq_symm_apply]
    refine (eq_ix4 _).trans ?_ |>.symm
    congr 1 <;> exact Subsingleton.elim (α := Fin 1) _ _⟩
  refine (Equiv.sum_comp e _).symm.trans (Finset.sum_congr rfl fun w _ => ?_)
  have hw : W.rowMajor.symm (e w) = ix4 (0 : Fin 1) (0 : Fin 1) w (0 : Fin 1) := Equiv.symm_apply_apply _ _
  have hb := b.isLt
  have hn := n.isLt
  have hc := c.isLt
  have hi := i.isLt
  have hw' := w.isLt
  have q0 : (W.rowMajor.symm (e w) 0).val = 0 := by rw [hw]; rfl
  have q1 : (W.rowMajor.symm (e w) 1).val = 0 := by rw [hw]; rfl
  have q2 : (W.rowMajor.symm (e w) 2).val = w.val := by rw [hw]; rfl
  have q3 : (W.rowMajor.symm (e w) 3).val = 0 := by rw [hw]; rfl
  by_cases hle : 63 ≤ i.val + w.val
  · rw [dif_pos hle, dif_pos]
    · refine congrArg x (funext fun a => Fin.ext ?_)
      match a with
      | ⟨0, _⟩ => show b.val * 1 + (W.rowMajor.symm (e w) 0).val - 0 = b.val; rw [q0]; omega
      | ⟨1, _⟩ => show n.val * 1 + (W.rowMajor.symm (e w) 1).val - 0 = n.val; rw [q1]; omega
      | ⟨2, _⟩ => show i.val * 1 + (W.rowMajor.symm (e w) 2).val - 63 = i.val + w.val - 63; rw [q2]; omega
      | ⟨3, _⟩ => show c.val * 1 + (W.rowMajor.symm (e w) 3).val - 0 = c.val; rw [q3]; omega
    · intro a
      match a with
      | ⟨0, _⟩ => show 0 ≤ b.val * 1 + (W.rowMajor.symm (e w) 0).val ∧ b.val * 1 + (W.rowMajor.symm (e w) 0).val - 0 < A; rw [q0]; omega
      | ⟨1, _⟩ => show 0 ≤ n.val * 1 + (W.rowMajor.symm (e w) 1).val ∧ n.val * 1 + (W.rowMajor.symm (e w) 1).val - 0 < B; rw [q1]; omega
      | ⟨2, _⟩ => show 63 ≤ i.val * 1 + (W.rowMajor.symm (e w) 2).val ∧ i.val * 1 + (W.rowMajor.symm (e w) 2).val - 63 < 64; rw [q2]; omega
      | ⟨3, _⟩ => show 0 ≤ c.val * 1 + (W.rowMajor.symm (e w) 3).val ∧ c.val * 1 + (W.rowMajor.symm (e w) 3).val - 0 < C; rw [q3]; omega
  · rw [dif_neg hle, dif_neg]
    intro hin
    have := (hin 2).1
    change 63 ≤ i.val * 1 + (W.rowMajor.symm (e w) 2).val at this
    rw [q2] at this
    omega

theorem window_sum_of_zero {A B C : Nat} (x : (⟨4, ![A, B, 64, C]⟩ : Shape).Idx → EReal) (h : (⟨4, ![A, B, 64, C]⟩ : Shape).ReduceWindows (![1, 1, 64, 1] : Fin 4 → Nat) ![1, 1, 1, 1] ![0, 0, 63, 0] ![0, 0, 0, 0] (⟨4, ![A, B, 64, C]⟩ : Shape))
    (b : Fin A) (n : Fin B) (i : Fin 64) (c : Fin C) (z : EReal) (hz : z = 0) :
    Ideal.hostReduceWindowAdd ![1, 1, 64, 1] ![1, 1, 1, 1] ![0, 0, 63, 0] ![0, 0, 0, 0] h x z (ix4 b n i c)
      = upTo (fun j => x (ix4 b n j c)) i := by
  subst hz
  exact window_sum x h b n i c

end Cert.Inproj

end
-- ==== Proof.Inproj.Reference.lean ====
/- The reference's results over the extended reals, as the functions of `Math.lean` of its argument arrays. -/
module

public import proofs.«01_k».proof.Proof.Gen.Reference2Ideal.Run
public import proofs.«01_k».proof.Proof.Inproj.RunningSum

@[expose] public section

set_option maxRecDepth 16384

noncomputable section

namespace Cert.Reference2Ideal.Inproj

open Cert.Reference2Ideal Cert.Reference2Ideal.Gen Cert.Reference2Ideal.Value Idealize.ShloMosaic Idealize.ShloMosaic.TcCoe Idealize.SL.Sem
open Idealize.ShloMosaic.StableHlo

/-! ## The operations, in groups -/

/-- The projection. -/
def rProj (x : Vec Ideal S8x2048x1024 .f32) (g : Vec Ideal S1x1024 .f32) (w : Vec Ideal S1x1024x3592 .f32) : Vec Ideal S8x2048x3592 .f32 :=
  Host.dotGeneral (φ₁ := .f32) (φ₂ := .f32) dot_S8x2048x1024_S1024x3592_S8x2048x3592_2_0_01_1_n_n none (mulf (F := Ideal) (φ := .f32) (mulf (F := Ideal) (φ := .f32) x (broadcastInDim S8x2048x1024 ![0, 1, 2] bcast_S8x2048x1_S8x2048x1024_0_1_2 (Host.rsqrt (addf (F := Ideal) (φ := .f32) (Host.divf (broadcastInDim S8x2048x1 ![0, 1] bcast_S8x2048_S8x2048x1_0_1 (Host.reduceAdd (mulf (F := Ideal) (φ := .f32) x x) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast S1024 g shapeCasts_S1x1024_S1024)))) (shapeCast S1024x3592 w shapeCasts_S1x1024x3592_S1024x3592)

/-- The short convolution's operand, two rows of zeros before it. -/
def rPad2 (p : Vec Ideal S8x2048x3592 .f32) : Vec Ideal S8x2050x512 .f32 :=
  pad S8x2050x512 ![0, 2, 0] ![0, 0, 0] ![0, 0, 0] (mulf (F := Ideal) (φ := .f32) (extractStridedSlice S8x2048x512 ![0, 0, 1024] p slices_S8x2048x3592_S8x2048x512_0_0_1024) (extractStridedSlice S8x2048x512 ![0, 0, 0] p slices_S8x2048x3592_S8x2048x512_0_0_0)) (sitofp (F := Ideal) .f32 (constantI S_ 32 0#32)) pads_S8x2048x512_S8x2050x512_000_200_000 h_S_

/-- The short convolution, group by group. -/
def rShort (p : Vec Ideal S8x2048x3592 .f32) (e : Vec Ideal S8x2050x512 .f32) (w : Vec Ideal S1x3x512 .f32) : Vec Ideal S8x2048x8x64 .f32 :=
  shapeCast _ (mulf (F := Ideal) (φ := .f32) (extractStridedSlice S8x2048x512 ![0, 0, 512] p slices_S8x2048x3592_S8x2048x512_0_0_512) (addf (F := Ideal) (φ := .f32) (addf (F := Ideal) (φ := .f32) (mulf (F := Ideal) (φ := .f32) (extractStridedSlice S8x2048x512 ![0, 0, 0] e slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] (shapeCast S3x512 w shapeCasts_S1x3x512_S3x512) slices_S3x512_S1x512_0_0) shapeCasts_S1x512_S512)))) (mulf (F := Ideal) (φ := .f32) (extractStridedSlice S8x2048x512 ![0, 1, 0] e slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] (shapeCast S3x512 w shapeCasts_S1x3x512_S3x512) slices_S3x512_S1x512_1_0) shapeCasts_S1x512_S512))))) (mulf (F := Ideal) (φ := .f32) (extractStridedSlice S8x2048x512 ![0, 2, 0] e slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] (shapeCast S3x512 w shapeCasts_S1x3x512_S3x512) slices_S3x512_S1x512_2_0) shapeCasts_S1x512_S512)))))) shapeCasts_S8x2048x512_S8x2048x8x64

/-- The long convolution's operand, three rows of zeros before it. -/
def rPad3 (p : Vec Ideal S8x2048x3592 .f32) : Vec Ideal S8x2051x1536 .f32 :=
  pad S8x2051x1536 ![0, 3, 0] ![0, 0, 0] ![0, 0, 0] ((concatenate S8x2048x1536 2 [⟨S8x2048x512, ((extractStridedSlice S8x2048x512 ![0, 0, 1536] p slices_S8x2048x3592_S8x2048x512_0_0_1536) : Vec Ideal S8x2048x512 .f32)⟩, ⟨S8x2048x512, ((extractStridedSlice S8x2048x512 ![0, 0, 2048] p slices_S8x2048x3592_S8x2048x512_0_0_2048) : Vec Ideal S8x2048x512 .f32)⟩, ⟨S8x2048x512, ((extractStridedSlice S8x2048x512 ![0, 0, 2560] p slices_S8x2048x3592_S8x2048x512_0_0_2560) : Vec Ideal S8x2048x512 .f32)⟩] concatenates_S8x2048x512_S8x2048x512_S8x2048x512_S8x2048x1536_d2 : Vec Ideal S8x2048x1536 .f32)) (sitofp (F := Ideal) .f32 (constantI S_ 32 0#32)) pads_S8x2048x1536_S8x2051x1536_000_300_000 h_S_

/-- The long convolution. -/
def rConv (e : Vec Ideal S8x2051x1536 .f32) (w : Vec Ideal S1x4x1536 .f32) : Vec Ideal S8x2048x1536 .f32 :=
  addf (F := Ideal) (φ := .f32) (addf (F := Ideal) (φ := .f32) (addf (F := Ideal) (φ := .f32) (mulf (F := Ideal) (φ := .f32) (extractStridedSlice S8x2048x1536 ![0, 0, 0] e slices_S8x2051x1536_S8x2048x1536_0_0_0) (broadcastInDim S8x2048x1536 ![0, 1, 2] bcast_S1x1x1536_S8x2048x1536_0_1_2 (broadcastInDim S1x1x1536 ![2] bcast_S1536_S1x1x1536_2 (shapeCast _ (extractStridedSlice S1x1536 ![0, 0] (shapeCast S4x1536 w shapeCasts_S1x4x1536_S4x1536) slices_S4x1536_S1x1536_0_0) shapeCasts_S1x1536_S1536)))) (mulf (F := Ideal) (φ := .f32) (extractStridedSlice S8x2048x1536 ![0, 1, 0] e slices_S8x2051x1536_S8x2048x1536_0_1_0) (broadcastInDim S8x2048x1536 ![0, 1, 2] bcast_S1x1x1536_S8x2048x1536_0_1_2 (broadcastInDim S1x1x1536 ![2] bcast_S1536_S1x1x1536_2 (shapeCast _ (extractStridedSlice S1x1536 ![1, 0] (shapeCast S4x1536 w shapeCasts_S1x4x1536_S4x1536) slices_S4x1536_S1x1536_1_0) shapeCasts_S1x1536_S1536))))) (mulf (F := Ideal) (φ := .f32) (extractStridedSlice S8x2048x1536 ![0, 2, 0] e slices_S8x2051x1536_S8x2048x1536_0_2_0) (broadcastInDim S8x2048x1536 ![0, 1, 2] bcast_S1x1x1536_S8x2048x1536_0_1_2 (broadcastInDim S1x1x1536 ![2] bcast_S1536_S1x1x1536_2 (shapeCast _ (extractStridedSlice S1x1536 ![2, 0] (shapeCast S4x1536 w shapeCasts_S1x4x1536_S4x1536) slices_S4x1536_S1x1536_2_0) shapeCasts_S1x1536_S1536))))) (mulf (F := Ideal) (φ := .f32) (extractStridedSlice S8x2048x1536 ![0, 3, 0] e slices_S8x2051x1536_S8x2048x1536_0_3_0) (broadcastInDim S8x2048x1536 ![0, 1, 2] bcast_S1x1x1536_S8x2048x1536_0_1_2 (broadcastInDim S1x1x1536 ![2] bcast_S1536_S1x1x1536_2 (shapeCast _ (extractStridedSlice S1x1536 ![3, 0] (shapeCast S4x1536 w shapeCasts_S1x4x1536_S4x1536) slices_S4x1536_S1x1536_3_0) shapeCasts_S1x1536_S1536))))

/-- A value times its sigmoid. -/
def rSilu (y : Vec Ideal S8x2048x1536 .f32) : Vec Ideal S8x2048x1536 .f32 :=
  mulf y (Host.divf (broadcastInDim S8x2048x1536 ![] bcast_S_S8x2048x1536 (constant (F := Ideal) S_ .f32 0x3F800000#32)) (addf (broadcastInDim S8x2048x1536 ![] bcast_S_S8x2048x1536 (constant (F := Ideal) S_ .f32 0x3F800000#32)) (Host.exp (Host.negf y))))

/-- The groups normalised. -/
def rYa (y : Vec Ideal S8x2048x8x64 .f32) (g : Vec Ideal S1x512 .f32) : Vec Ideal S8x2048x512 .bf16 :=
  truncf .bf16 (shapeCast _ (mulf (mulf y (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf y y) (constant (F := Ideal) S_ .f32 0x00000000#32) reducesTo_S8x2048x8x64_S8x2048x8_d3 h_S_)) (broadcastInDim S8x2048x8x1 ![] bcast_S_S8x2048x8x1 (constant (F := Ideal) S_ .f32 0x42800000#32))) (broadcastInDim S8x2048x8x1 ![] bcast_S_S8x2048x8x1 (constant (F := Ideal) S_ .f32 0x358637BD#32)))))) (broadcastInDim S8x2048x8x64 ![0, 1, 2, 3] bcast_S1x1x8x64_S8x2048x8x64_0_1_2_3 (broadcastInDim S1x1x8x64 ![2, 3] bcast_S8x64_S1x1x8x64_2_3 (shapeCast _ (shapeCast _ g shapeCasts_S1x512_S512) shapeCasts_S512_S8x64)))) shapeCasts_S8x2048x8x64_S8x2048x512) bitsLt_bf16_f32

/-- The queries. -/
def rQ (y : Vec Ideal S8x2048x1536 .f32) : Vec Ideal S8x2048x512 .f32 :=
  shapeCast _ (mulf (mulf (shapeCast S8x2048x4x128 (extractStridedSlice S8x2048x512 ![0, 0, 0] y slices_S8x2048x1536_S8x2048x512_0_0_0) shapeCasts_S8x2048x512_S8x2048x4x128) (broadcastInDim S8x2048x4x128 ![0, 1, 2, 3] bcast_S8x2048x4x1_S8x2048x4x128_0_1_2_3 (Host.rsqrt (addf (broadcastInDim S8x2048x4x1 ![0, 1, 2] bcast_S8x2048x4_S8x2048x4x1_0_1_2 (Host.reduceAdd (mulf (shapeCast S8x2048x4x128 (extractStridedSlice S8x2048x512 ![0, 0, 0] y slices_S8x2048x1536_S8x2048x512_0_0_0) shapeCasts_S8x2048x512_S8x2048x4x128) (shapeCast S8x2048x4x128 (extractStridedSlice S8x2048x512 ![0, 0, 0] y slices_S8x2048x1536_S8x2048x512_0_0_0) shapeCasts_S8x2048x512_S8x2048x4x128)) (constant (F := Ideal) S_ .f32 0x00000000#32) reducesTo_S8x2048x4x128_S8x2048x4_d3 h_S_)) (broadcastInDim S8x2048x4x1 ![] bcast_S_S8x2048x4x1 (constant (F := Ideal) S_ .f32 0x358637BD#32)))))) (broadcastInDim S8x2048x4x128 ![] bcast_S_S8x2048x4x128 (constant (F := Ideal) S_ .f32 0x3DB504F3#32))) shapeCasts_S8x2048x4x128_S8x2048x512

/-- The keys. -/
def rK (y : Vec Ideal S8x2048x1536 .f32) : Vec Ideal S8x2048x512 .f32 :=
  shapeCast _ (mulf (shapeCast S8x2048x4x128 (extractStridedSlice S8x2048x512 ![0, 0, 512] y slices_S8x2048x1536_S8x2048x512_0_0_512) shapeCasts_S8x2048x512_S8x2048x4x128) (broadcastInDim S8x2048x4x128 ![0, 1, 2, 3] bcast_S8x2048x4x1_S8x2048x4x128_0_1_2_3 (Host.rsqrt (addf (broadcastInDim S8x2048x4x1 ![0, 1, 2] bcast_S8x2048x4_S8x2048x4x1_0_1_2 (Host.reduceAdd (mulf (shapeCast S8x2048x4x128 (extractStridedSlice S8x2048x512 ![0, 0, 512] y slices_S8x2048x1536_S8x2048x512_0_0_512) shapeCasts_S8x2048x512_S8x2048x4x128) (shapeCast S8x2048x4x128 (extractStridedSlice S8x2048x512 ![0, 0, 512] y slices_S8x2048x1536_S8x2048x512_0_0_512) shapeCasts_S8x2048x512_S8x2048x4x128)) (constant (F := Ideal) S_ .f32 0x00000000#32) reducesTo_S8x2048x4x128_S8x2048x4_d3 h_S_)) (broadcastInDim S8x2048x4x1 ![] bcast_S_S8x2048x4x1 (constant (F := Ideal) S_ .f32 0x358637BD#32)))))) shapeCasts_S8x2048x4x128_S8x2048x512

/-- The values. -/
def rV (y : Vec Ideal S8x2048x1536 .f32) : Vec Ideal S8x2048x512 .f32 :=
  extractStridedSlice S8x2048x512 ![0, 0, 1024] y slices_S8x2048x1536_S8x2048x512_0_0_1024

/-- The gate of the output. -/
def rZg (p : Vec Ideal S8x2048x3592 .f32) : Vec Ideal S8x2048x512 .f32 :=
  mulf (extractStridedSlice S8x2048x512 ![0, 0, 3072] p slices_S8x2048x3592_S8x2048x512_0_0_3072) (Host.divf (broadcastInDim S8x2048x512 ![] bcast_S_S8x2048x512 (constant (F := Ideal) S_ .f32 0x3F800000#32)) (addf (broadcastInDim S8x2048x512 ![] bcast_S_S8x2048x512 (constant (F := Ideal) S_ .f32 0x3F800000#32)) (Host.exp (Host.negf (extractStridedSlice S8x2048x512 ![0, 0, 3072] p slices_S8x2048x3592_S8x2048x512_0_0_3072)))))

/-- What the decays are taken of. -/
def rPre (p : Vec Ideal S8x2048x3592 .f32) (db : Vec Ideal S1x4 .f32) : Vec Ideal S8x2048x4 .f32 :=
  addf (F := Ideal) (φ := .f32) (extractStridedSlice S8x2048x4 ![0, 0, 3588] p slices_S8x2048x3592_S8x2048x4_0_0_3588) (broadcastInDim S8x2048x4 ![0, 1, 2] bcast_S1x1x4_S8x2048x4_0_1_2 (broadcastInDim S1x1x4 ![2] bcast_S4_S1x1x4_2 (shapeCast _ db shapeCasts_S1x4_S4)))

/-- The decays, chunk by chunk. -/
def rDec (z : Vec Ideal S8x2048x4 .f32) (al : Vec Ideal S1x4 .f32) : Vec Ideal S8x32x64x4 .f32 :=
  shapeCast _ (mulf (F := Ideal) (φ := .f32) (broadcastInDim S8x2048x4 ![0, 1, 2] bcast_S1x1x4_S8x2048x4_0_1_2 (broadcastInDim S1x1x4 ![2] bcast_S4_S1x1x4_2 (Host.negf (Host.exp (shapeCast _ al shapeCasts_S1x4_S4))))) (select (cmpf .une (subf (F := Ideal) (φ := .f32) z (broadcastInDim S8x2048x4 ![] bcast_S_S8x2048x4 (constant (F := Ideal) S_ .f32 0x00000000#32))) (subf (F := Ideal) (φ := .f32) z (broadcastInDim S8x2048x4 ![] bcast_S_S8x2048x4 (constant (F := Ideal) S_ .f32 0x00000000#32)))) (addf (F := Ideal) (φ := .f32) z (broadcastInDim S8x2048x4 ![] bcast_S_S8x2048x4 (constant (F := Ideal) S_ .f32 0x00000000#32))) (addf (F := Ideal) (φ := .f32) (maximumf (F := Ideal) (φ := .f32) z (broadcastInDim S8x2048x4 ![] bcast_S_S8x2048x4 (constant (F := Ideal) S_ .f32 0x00000000#32))) (Host.log1p (Host.exp (Host.negf (Host.absf (subf (F := Ideal) (φ := .f32) z (broadcastInDim S8x2048x4 ![] bcast_S_S8x2048x4 (constant (F := Ideal) S_ .f32 0x00000000#32)))))))))) shapeCasts_S8x2048x4_S8x32x64x4

/-- The gates, chunk by chunk. -/
def rGates (p : Vec Ideal S8x2048x3592 .f32) (d : Vec Ideal S8x32x64x4 .f32) : Vec Ideal S8x32x8x64 .f32 :=
  transpose S8x32x8x64 [0, 1, 3, 2] (shapeCast _ (concatenate S8x2048x8 2 [⟨S8x2048x4, (Host.divf (broadcastInDim S8x2048x4 ![] bcast_S_S8x2048x4 (constant (F := Ideal) S_ .f32 0x3F800000#32)) (addf (broadcastInDim S8x2048x4 ![] bcast_S_S8x2048x4 (constant (F := Ideal) S_ .f32 0x3F800000#32)) (Host.exp (Host.negf (extractStridedSlice S8x2048x4 ![0, 0, 3584] p slices_S8x2048x3592_S8x2048x4_0_0_3584)))))⟩, ⟨S8x2048x4, (shapeCast _ (Host.reduceWindowAdd ![1, 1, 64, 1] ![1, 1, 1, 1] ![0, 0, 63, 0] ![0, 0, 0, 0] d (broadcastInDim S_ ![] bcast_S_S_ (constant (F := Ideal) S_ .f32 0x00000000#32)) reduceWindows_S8x32x64x4_S8x32x64x4_w1s1p0_0_w1s1p0_0_w64s1p63_0_w1s1p0_0 h_S_) shapeCasts_S8x32x64x4_S8x2048x4)⟩] concatenates_S8x2048x4_S8x2048x4_S8x2048x8_d2) shapeCasts_S8x2048x8_S8x32x64x8) transposes_S8x32x64x8_S8x32x8x64_0_1_3_2

/-! ## Their elements -/

theorem sitofp_zero : (FloatOps.sitofp (self := instFloatOpsIdeal) FTy.f32 0#32 : EReal) = 0 := by
  show (((0#32 : BitVec 32).toInt : ℝ) : EReal) = 0
  simp

theorem rProj_apply (x : Vec Ideal S8x2048x1024 .f32) (g : Vec Ideal S1x1024 .f32) (w : Vec Ideal S1x1024x3592 .f32) (b : Fin 8) (s : Fin 2048) (c : Fin 3592) :
    rProj x g w (ix3 b s c)
      = Cert.Inproj.proj (fun j => x (ix3 b s j)) (fun j => g (ix2 (0 : Fin 1) j)) (fun j => w (ix3 (0 : Fin 1) j c)) := by
  pointwise [rProj, Cert.Inproj.proj, Cert.Inproj.norm, Cert.Inproj.width, Cert.Inproj.eps]

theorem rPad2_apply (p : Vec Ideal S8x2048x3592 .f32) (b : Fin 8) (s : Fin 2050) (c : Fin 512) :
    rPad2 p (ix3 b s c) = if h : 2 ≤ s.val then p (ix3 b (⟨s.val - 2, by omega⟩ : Fin 2048) (⟨1024 + c.val, by omega⟩ : Fin 3592)) * p (ix3 b (⟨s.val - 2, by omega⟩ : Fin 2048) (⟨c.val, by omega⟩ : Fin 3592)) else 0 := by
  pointwise [rPad2]
  have hs := s.isLt
  by_cases h : 2 ≤ s.val
  · rw [dif_pos ⟨h, by omega⟩, dif_pos h]
  · rw [dif_neg (fun h' => h h'.1), dif_neg h]
    exact sitofp_zero

theorem rShort_apply (p : Vec Ideal S8x2048x3592 .f32) (e : Vec Ideal S8x2050x512 .f32) (w : Vec Ideal S1x3x512 .f32) (b : Fin 8) (s : Fin 2048) (g : Fin 8) (d : Fin 64) :
    rShort p e w (ix4 b s g d)
      = p (ix3 b s (⟨512 + (g.val * 64 + d.val), by omega⟩ : Fin 3592))
        * (e (ix3 b (⟨s.val, by omega⟩ : Fin 2050) (⟨g.val * 64 + d.val, by omega⟩ : Fin 512)) * w (ix3 (0 : Fin 1) (0 : Fin 3) (⟨g.val * 64 + d.val, by omega⟩ : Fin 512))
          + e (ix3 b (⟨1 + s.val, by omega⟩ : Fin 2050) (⟨g.val * 64 + d.val, by omega⟩ : Fin 512)) * w (ix3 (0 : Fin 1) (1 : Fin 3) (⟨g.val * 64 + d.val, by omega⟩ : Fin 512))
          + e (ix3 b (⟨2 + s.val, by omega⟩ : Fin 2050) (⟨g.val * 64 + d.val, by omega⟩ : Fin 512)) * w (ix3 (0 : Fin 1) (2 : Fin 3) (⟨g.val * 64 + d.val, by omega⟩ : Fin 512))) := by
  pointwise [rShort]

theorem rPad3_apply (p : Vec Ideal S8x2048x3592 .f32) (b : Fin 8) (s : Fin 2051) (c : Fin 1536) :
    rPad3 p (ix3 b s c) = if h : 3 ≤ s.val then p (ix3 b (⟨s.val - 3, by omega⟩ : Fin 2048) (⟨1536 + c.val, by omega⟩ : Fin 3592)) else 0 := by
  pointwise [rPad3]
  have hs := s.isLt
  by_cases h : 3 ≤ s.val
  · rw [dif_pos ⟨h, by omega⟩, dif_pos h]
    by_cases h1 : c.val < 512
    · rw [dif_pos h1]
    · rw [dif_neg h1]
      by_cases h2 : c.val - 512 < 512
      · rw [dif_pos h2]
        congr 2
        exact Fin.ext (by simp only; omega)
      · rw [dif_neg h2]
        congr 2
        exact Fin.ext (by simp only; omega)
  · rw [dif_neg (fun h' => h h'.1), dif_neg h]
    exact sitofp_zero

theorem rConv_apply (e : Vec Ideal S8x2051x1536 .f32) (w : Vec Ideal S1x4x1536 .f32) (b : Fin 8) (s : Fin 2048) (c : Fin 1536) :
    rConv e w (ix3 b s c)
      = e (ix3 b (⟨s.val, by omega⟩ : Fin 2051) c) * w (ix3 (0 : Fin 1) (0 : Fin 4) c)
        + e (ix3 b (⟨1 + s.val, by omega⟩ : Fin 2051) c) * w (ix3 (0 : Fin 1) (1 : Fin 4) c)
        + e (ix3 b (⟨2 + s.val, by omega⟩ : Fin 2051) c) * w (ix3 (0 : Fin 1) (2 : Fin 4) c)
        + e (ix3 b (⟨3 + s.val, by omega⟩ : Fin 2051) c) * w (ix3 (0 : Fin 1) (3 : Fin 4) c) := by
  pointwise [rConv]

theorem rSilu_apply (y : Vec Ideal S8x2048x1536 .f32) (b : Fin 8) (s : Fin 2048) (c : Fin 1536) :
    rSilu y (ix3 b s c) = Cert.Inproj.silu (y (ix3 b s c)) := by
  pointwise [rSilu]
  rfl

theorem rYa_apply (y : Vec Ideal S8x2048x8x64 .f32) (g : Vec Ideal S1x512 .f32) (b : Fin 8) (s : Fin 2048) (c : Fin 512) :
    rYa y g (ix3 b s c) = Cert.Inproj.group (fun d => y (ix4 b s (⟨c.val / 64, by omega⟩ : Fin 8) d)) (g (ix2 (0 : Fin 1) c)) ⟨c.val % 64, by omega⟩ := by
  pointwise [rYa, Cert.Inproj.group, Cert.Inproj.groupWidth, Cert.Inproj.eps]

theorem rQ_apply (y : Vec Ideal S8x2048x1536 .f32) (b : Fin 8) (s : Fin 2048) (c : Fin 512) :
    rQ y (ix3 b s c) = Cert.Inproj.unit (fun d => y (ix3 b s (⟨c.val / 128 * 128 + d.val, by omega⟩ : Fin 1536))) ⟨c.val % 128, by omega⟩ * Cert.Inproj.qScale := by
  pointwise [rQ, Cert.Inproj.unit, Cert.Inproj.qScale, Cert.Inproj.eps]
  simp only [show c.val / 128 * 128 + c.val % 128 = c.val from by omega]

theorem rK_apply (y : Vec Ideal S8x2048x1536 .f32) (b : Fin 8) (s : Fin 2048) (c : Fin 512) :
    rK y (ix3 b s c) = Cert.Inproj.unit (fun d => y (ix3 b s (⟨512 + (c.val / 128 * 128 + d.val), by omega⟩ : Fin 1536))) ⟨c.val % 128, by omega⟩ := by
  pointwise [rK, Cert.Inproj.unit, Cert.Inproj.qScale, Cert.Inproj.eps]
  simp only [show c.val / 128 * 128 + c.val % 128 = c.val from by omega]

theorem rV_apply (y : Vec Ideal S8x2048x1536 .f32) (b : Fin 8) (s : Fin 2048) (c : Fin 512) :
    rV y (ix3 b s c) = y (ix3 b s (⟨1024 + c.val, by omega⟩ : Fin 1536)) := by
  pointwise [rV]

theorem rZg_apply (p : Vec Ideal S8x2048x3592 .f32) (b : Fin 8) (s : Fin 2048) (c : Fin 512) :
    rZg p (ix3 b s c) = Cert.Inproj.silu (p (ix3 b s (⟨3072 + c.val, by omega⟩ : Fin 3592))) := by
  pointwise [rZg]
  rfl

theorem rPre_apply (p : Vec Ideal S8x2048x3592 .f32) (db : Vec Ideal S1x4 .f32) (b : Fin 8) (s : Fin 2048) (h : Fin 4) :
    rPre p db (ix3 b s h) = p (ix3 b s (⟨3588 + h.val, by omega⟩ : Fin 3592)) + db (ix2 (0 : Fin 1) h) := by
  pointwise [rPre]

theorem rDec_apply (z : Vec Ideal S8x2048x4 .f32) (al : Vec Ideal S1x4 .f32) (b : Fin 8) (n : Fin 32) (i : Fin 64) (h : Fin 4) :
    rDec z al (ix4 b n i h) = Cert.Inproj.decay (al (ix2 (0 : Fin 1) h)) (z (ix3 b (⟨n.val * 64 + i.val, by omega⟩ : Fin 2048) h)) := by
  pointwise [rDec, Cert.Inproj.decay, Cert.Inproj.softplus]
  rw [if_neg (by simp)]
  rfl

theorem zero_init : (broadcastInDim S_ ![] bcast_S_S_ (constant (F := Ideal) S_ .f32 0x00000000#32)) (Shape.Idx.first h_S_) = (0 : EReal) := by
  show Ideal.ofBits FTy.f32 0x00000000#32 = 0
  exact Ideal.ofBits_zero .f32

theorem rGates_apply (p : Vec Ideal S8x2048x3592 .f32) (d : Vec Ideal S8x32x64x4 .f32) (b : Fin 8) (n : Fin 32) (r : Fin 8) (i : Fin 64) :
    rGates p d (ix4 b n r i) = if h : r.val < 4 then Ideal.logistic (p (ix3 b (⟨n.val * 64 + i.val, by omega⟩ : Fin 2048) (⟨3584 + r.val, by omega⟩ : Fin 3592)))
      else Cert.Inproj.upTo (fun j => d (ix4 b n j (⟨r.val - 4, by omega⟩ : Fin 4))) i := by
  pointwise [rGates]
  by_cases h : r.val < 4
  · rw [dif_pos h, dif_pos h]
    rfl
  · rw [dif_neg h, dif_neg h]
    exact Cert.Inproj.window_sum_of_zero d reduceWindows_S8x32x64x4_S8x32x64x4_w1s1p0_0_w1s1p0_0_w64s1p63_0_w1s1p0_0 b n i _ _ zero_init

/-! ## The results -/

/-- The arguments as functions of their indices. -/
def args (x : Vec Ideal S8x2048x1024 .f32) (g : Vec Ideal S1x1024 .f32) (w : Vec Ideal S1x1024x3592 .f32) (cw : Vec Ideal S1x3x512 .f32)
    (cn : Vec Ideal S1x512 .f32) (dw : Vec Ideal S1x4x1536 .f32) (al db : Vec Ideal S1x4 .f32) : Cert.Inproj.Args where
  x b s j := x (ix3 b s j)
  g j := g (ix2 (0 : Fin 1) j)
  w j c := w (ix3 (0 : Fin 1) j c)
  cw i c := cw (ix3 (0 : Fin 1) i c)
  cn c := cn (ix2 (0 : Fin 1) c)
  dw i c := dw (ix3 (0 : Fin 1) i c)
  al h := al (ix2 (0 : Fin 1) h)
  db h := db (ix2 (0 : Fin 1) h)

theorem conv4_eq (p : Vec Ideal S8x2048x3592 .f32) (w : Vec Ideal S1x4x1536 .f32) (b : Fin 8) (s : Fin 2048) (c : Fin 1536) :
    rConv (rPad3 p) w (ix3 b s c)
      = Cert.Inproj.conv4 (fun i => w (ix3 (0 : Fin 1) i c)) (fun r => p (ix3 b r (⟨1536 + c.val, by omega⟩ : Fin 3592))) s := by
  have key : ∀ (k j : Nat) (hk : k + j = 3) (h : j + s.val < 2051), rPad3 p (ix3 b (⟨j + s.val, h⟩ : Fin 2051) c)
      = Cert.Inproj.back (fun r => p (ix3 b r (⟨1536 + c.val, by omega⟩ : Fin 3592))) s k := by
    intro k j hk h
    rw [rPad3_apply, Cert.Inproj.back]
    by_cases hs : k ≤ s.val
    · rw [dif_pos (show 3 ≤ j + s.val by omega), dif_pos hs]
      simp only [show j + s.val - 3 = s.val - k from by omega]
    · rw [dif_neg (show ¬ 3 ≤ j + s.val by omega), dif_neg hs]
  rw [rConv_apply, key 2 1 rfl, key 1 2 rfl, key 0 3 rfl]
  have k0 := key 3 0 rfl (by omega)
  simp only [Nat.zero_add] at k0
  rw [k0, Cert.Inproj.conv4]
  simp only [mul_comm]
  abel

theorem short_eq (p : Vec Ideal S8x2048x3592 .f32) (w : Vec Ideal S1x3x512 .f32) (b : Fin 8) (s : Fin 2048) (g : Fin 8) (d : Fin 64) :
    rShort p (rPad2 p) w (ix4 b s g d)
      = p (ix3 b s (⟨512 + (g.val * 64 + d.val), by omega⟩ : Fin 3592))
        * Cert.Inproj.conv3 (fun i => w (ix3 (0 : Fin 1) i (⟨g.val * 64 + d.val, by omega⟩ : Fin 512)))
            (fun r => p (ix3 b r (⟨1024 + (g.val * 64 + d.val), by omega⟩ : Fin 3592)) * p (ix3 b r (⟨g.val * 64 + d.val, by omega⟩ : Fin 3592))) s := by
  have key : ∀ (k j : Nat) (hk : k + j = 2) (h : j + s.val < 2050), rPad2 p (ix3 b (⟨j + s.val, h⟩ : Fin 2050) (⟨g.val * 64 + d.val, by omega⟩ : Fin 512))
      = Cert.Inproj.back (fun r => p (ix3 b r (⟨1024 + (g.val * 64 + d.val), by omega⟩ : Fin 3592)) * p (ix3 b r (⟨g.val * 64 + d.val, by omega⟩ : Fin 3592))) s k := by
    intro k j hk h
    rw [rPad2_apply, Cert.Inproj.back]
    by_cases hs : k ≤ s.val
    · rw [dif_pos (show 2 ≤ j + s.val by omega), dif_pos hs]
      simp only [show j + s.val - 2 = s.val - k from by omega]
    · rw [dif_neg (show ¬ 2 ≤ j + s.val by omega), dif_neg hs]
  rw [rShort_apply, key 1 1 rfl, key 0 2 rfl]
  have k0 := key 2 0 rfl (by omega)
  simp only [Nat.zero_add] at k0
  rw [k0, Cert.Inproj.conv3]
  simp only [mul_comm]

section

variable (x : Vec Ideal S8x2048x1024 .f32) (g : Vec Ideal S1x1024 .f32) (w : Vec Ideal S1x1024x3592 .f32) (cw : Vec Ideal S1x3x512 .f32)
    (cn : Vec Ideal S1x512 .f32) (dw : Vec Ideal S1x4x1536 .f32) (al db : Vec Ideal S1x4 .f32)

theorem pr_eq (b : Fin 8) (s : Fin 2048) (c : Fin 3592) : rProj x g w (ix3 b s c) = (args x g w cw cn dw al db).pr b c s :=
  rProj_apply x g w b s c

theorem qkv_eq (b : Fin 8) (s : Fin 2048) (c : Fin 1536) :
    rSilu (rConv (rPad3 (rProj x g w)) dw) (ix3 b s c) = (args x g w cw cn dw al db).qkv b s c := by
  rw [rSilu_apply, conv4_eq]
  simp only [pr_eq x g w cw cn dw al db]
  rfl

theorem q_eq (b : Fin 8) (s : Fin 2048) (c : Fin 512) :
    rQ (rSilu (rConv (rPad3 (rProj x g w)) dw)) (ix3 b s c) = (args x g w cw cn dw al db).q b s c := by
  rw [rQ_apply]
  simp only [qkv_eq x g w cw cn dw al db]
  rfl

theorem k_eq (b : Fin 8) (s : Fin 2048) (c : Fin 512) :
    rK (rSilu (rConv (rPad3 (rProj x g w)) dw)) (ix3 b s c) = (args x g w cw cn dw al db).k b s c := by
  rw [rK_apply]
  simp only [qkv_eq x g w cw cn dw al db]
  rfl

theorem v_eq (b : Fin 8) (s : Fin 2048) (c : Fin 512) :
    rV (rSilu (rConv (rPad3 (rProj x g w)) dw)) (ix3 b s c) = (args x g w cw cn dw al db).v b s c := by
  rw [rV_apply]
  simp only [qkv_eq x g w cw cn dw al db]
  rfl

theorem zg_eq (b : Fin 8) (s : Fin 2048) (c : Fin 512) : rZg (rProj x g w) (ix3 b s c) = (args x g w cw cn dw al db).zg b s c := by
  rw [rZg_apply]
  simp only [pr_eq x g w cw cn dw al db]
  rfl

theorem ya_eq (b : Fin 8) (s : Fin 2048) (c : Fin 512) :
    rYa (rShort (rProj x g w) (rPad2 (rProj x g w)) cw) cn (ix3 b s c) = (args x g w cw cn dw al db).ya b s c := by
  rw [rYa_apply]
  simp only [short_eq, pr_eq x g w cw cn dw al db]
  rfl

theorem gates_eq (b : Fin 8) (n : Fin 32) (r : Fin 8) (i : Fin 64) :
    rGates (rProj x g w) (rDec (rPre (rProj x g w) db) al) (ix4 b n r i) = (args x g w cw cn dw al db).gates b n r i := by
  rw [rGates_apply]
  simp only [rDec_apply, rPre_apply, pr_eq x g w cw cn dw al db]
  rfl

end

/-! ## The run -/

/-- The arguments as they are in memory at the launch. -/
def argsOf (m : (ℓ : Loc nD τ sig) → Buf (Elt Ideal) ℓ) (c : Dev nD) : Cert.Inproj.Args :=
  args (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141) = (fun i : S8x2048x512.Idx => (argsOf m c).ya (i 0) (i 1) (i 2))
      ∧ r.2.mem ((c.tc : Thread nD τ).loc main_v142) = (fun i : S8x2048x512.Idx => (argsOf m c).q (i 0) (i 1) (i 2))
      ∧ r.2.mem ((c.tc : Thread nD τ).loc main_v143) = (fun i : S8x2048x512.Idx => (argsOf m c).k (i 0) (i 1) (i 2))
      ∧ r.2.mem ((c.tc : Thread nD τ).loc main_v99) = (fun i : S8x2048x512.Idx => (argsOf m c).v (i 0) (i 1) (i 2))
      ∧ r.2.mem ((c.tc : Thread nD τ).loc main_v144) = (fun i : S8x2048x512.Idx => (argsOf m c).zg (i 0) (i 1) (i 2))
      ∧ r.2.mem ((c.tc : Thread nD τ).loc main_v146) = (fun i : S8x32x8x64.Idx => (argsOf m c).gates (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.Reference2Ideal.Value.run (F := Ideal) m ρ)
  obtain ⟨h1, h2, h3, h4, h5, h6, kept⟩ := h c
  refine ⟨h1.trans (funext fun i => ?_), h2.trans (funext fun i => ?_), h3.trans (funext fun i => ?_), h4.trans (funext fun i => ?_), h5.trans (funext fun i => ?_), h6.trans (funext fun i => ?_), kept⟩
  · idx_vars i
    exact ya_eq _ _ _ _ _ _ _ _ _ _ _
  · idx_vars i
    exact q_eq _ _ _ _ _ _ _ _ _ _ _
  · idx_vars i
    exact k_eq _ _ _ _ _ _ _ _ _ _ _
  · idx_vars i
    exact v_eq _ _ _ _ _ _ _ _ _ _ _
  · idx_vars i
    exact zg_eq _ _ _ _ _ _ _ _ _ _ _
  · idx_vars i
    exact gates_eq _ _ _ _ _ _ _ _ _ _ _ _

end Cert.Reference2Ideal.Inproj

end
-- ==== Proof.Inproj.Finite.lean ====
/- What the precondition says of the inputs: every element of the six it reads is a real number. -/
module

public import proofs.«01_k».proof.Pre_all_finite
public import proofs.«01_k».proof.Proof.Inproj.Math
import Idealize.ShloMosaic.Lib.ReduceAll

@[expose] public section

set_option maxRecDepth 16384
set_option maxHeartbeats 1000000

noncomputable section

namespace Cert.Inproj

open Cert.Pre_all_finite Idealize.ShloMosaic

/-- An extended real whose magnitude is below the top is a real number. -/
theorem isReal_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hc
    have : Ideal.cmp .olt (max x (-x)) ⊤ = 0#1 := by
      show BitVec.ofBool (decide (max x (-x) < ⊤)) = 0#1
      rw [decide_eq_false hc]
      rfl
    rw [this] at h
    exact absurd h (by decide)
  refine IsReal.of_ne (fun e => ?_) (fun e => ?_)
  · rw [e] at hlt
    exact absurd hlt (by simp)
  · rw [e] at hlt
    exact absurd hlt (by simp)

/-- One array's part of the precondition, read back at an element. -/
theorem isReal_of_all {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : IsReal (x i) := by
  haveI : Subsingleton S_.Idx := ⟨fun a b => funext fun k => k.elim0⟩
  exact isReal_of_lt (Host.reduce_andi_all _ _ hr hu j h i)

variable [Facts]

theorem finite_of_pre (x : FVec Ideal S8x2048x1024 .f32) (g : FVec Ideal S1x1024 .f32) (w : FVec Ideal S1x1024x3592 .f32) (cw : FVec Ideal S1x3x512 .f32)
    (cn : FVec Ideal S1x512 .f32) (dw : FVec Ideal S1x4x1536 .f32) (al db : FVec Ideal S1x4 .f32)
    (h : fn (F := Ideal) x g w cw cn dw al db = fun _ => 1#1) :
    (∀ i, IsReal (x i)) ∧ (∀ i, IsReal (g i)) ∧ (∀ i, IsReal (w i)) ∧ (∀ i, IsReal (cw i)) ∧ (∀ i, IsReal (al i)) ∧ ∀ i, IsReal (db i) := by
  have j : S_.Idx := fun k => k.elim0
  have h0 := congrFun h j
  obtain ⟨h1, hdb⟩ := IntOp.andi_eq_one.1 h0
  obtain ⟨h2, hal⟩ := IntOp.andi_eq_one.1 h1
  obtain ⟨h3, hcw⟩ := IntOp.andi_eq_one.1 h2
  obtain ⟨h4, hw⟩ := IntOp.andi_eq_one.1 h3
  obtain ⟨hx, hg⟩ := IntOp.andi_eq_one.1 h4
  exact ⟨isReal_of_all x Facts.bcast_S_S8x2048x1024 Facts.reducesTo_S8x2048x1024_S_d0_1_2 Facts.h_S_ j hx,
    isReal_of_all g Facts.bcast_S_S1x1024 Facts.reducesTo_S1x1024_S_d0_1 Facts.h_S_ j hg,
    isReal_of_all w Facts.bcast_S_S1x1024x3592 Facts.reducesTo_S1x1024x3592_S_d0_1_2 Facts.h_S_ j hw,
    isReal_of_all cw Facts.bcast_S_S1x3x512 Facts.reducesTo_S1x3x512_S_d0_1_2 Facts.h_S_ j hcw,
    isReal_of_all al Facts.bcast_S_S1x4 Facts.reducesTo_S1x4_S_d0_1 Facts.h_S_ j hal,
    isReal_of_all db Facts.bcast_S_S1x4 Facts.reducesTo_S1x4_S_d0_1 Facts.h_S_ j hdb⟩

namespace Args

variable (A : Args) (hx : ∀ b s j, IsReal (A.x b s j)) (hg : ∀ j, IsReal (A.g j)) (hw : ∀ j c, IsReal (A.w j c))
include hx hg hw

theorem isReal_pr (b : Fin 8) (c : Fin 3592) (s : Fin 2048) : IsReal (A.pr b c s) := IsReal.proj (hx b s) hg fun j => hw j c

theorem isReal_short (hc : ∀ i c, IsReal (A.cw i c)) (b : Fin 8) (s : Fin 2048) (c : Fin 512) : IsReal (A.short b s c) :=
  (isReal_pr A hx hg hw _ _ _).mul (IsReal.conv3 (fun i => hc i c) (fun s => (isReal_pr A hx hg hw _ _ _).mul (isReal_pr A hx hg hw _ _ _)) s)

theorem isReal_dec (ha : ∀ h, IsReal (A.al h)) (hd : ∀ h, IsReal (A.db h)) (b : Fin 8) (h : Fin 4) (s : Fin 2048) : IsReal (A.dec b h s) :=
  IsReal.decay (ha h) ((isReal_pr A hx hg hw _ _ _).add (hd h))

end Args

end Cert.Inproj

end
-- ==== Proof.Outproj.Runs.lean ====
/- What the two runs of the output projection's body share: the body's branch condition over the points, and
   the staging and scratch memrefs. -/
module

public import proofs.«01_k».proof.Proof.Gen.Kernel3Ideal.Frame
public import proofs.«01_k».proof.Proof.Gen.Kernel3Ideal.Skeleton

@[expose] public section

-- membership in a rectangle of large extents recurses once per coordinate of the long axes
set_option maxRecDepth 16384

noncomputable section

namespace Cert.Kernel3Ideal.Outproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S1024x1024 .f32 := (Memref.whole cc0_stg6_0 : Memref sig .tc .vmem S1024x1024 .f32).view
/-- One staging buffer of output window 7, through which its contents are stated (`View.read_writes_of_cover`: the
    choice does not matter). -/
abbrev VO0_7 : View sig .tc .vmem S8192x128 .f32 := (Memref.whole cc0_stg7_0 : Memref sig .tc .vmem S8192x128 .f32).view
/-- One staging buffer of output window 8, through which its contents are stated (`View.read_writes_of_cover`: the
    choice does not matter). -/
abbrev VO0_8 : View sig .tc .vmem S1024x128 .i32 := (Memref.whole cc0_stg8_0 : Memref sig .tc .vmem S1024x128 .i32).view
/-- One staging buffer of output window 9, through which its contents are stated (`View.read_writes_of_cover`: the
    choice does not matter). -/
abbrev VO0_9 : View sig .tc .vmem S1024x128 .f32 := (Memref.whole cc0_stg9_0 : Memref sig .tc .vmem S1024x128 .f32).view
/-- One staging buffer of output window 10, through which its contents are stated (`View.read_writes_of_cover`: the
    choice does not matter). -/
abbrev VO0_10 : View sig .tc .vmem S1x128 .f32 := (Memref.whole cc0_stg10_0 : Memref sig .tc .vmem S1x128 .f32).view
/-- Each window's current staging memref at point `t`, spelled as the pipeline passes it (`bodyAt0`), and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8192x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1x128 .f32 := Memref.whole cc0_scratch0
/-- The scratch `arg12` the kernel carries between points, as a view: what it holds is stated through it. -/
abbrev VS0_0 : View sig .tc .vmem S1x128 .f32 := scM0_0.view

/-- The frame kit's invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Outproj

end
-- ==== Proof.Outproj.RunA.lean ====
/- The output projection's body run in case A of its one condition: the pieces each buffer ends with are the witness. -/
module

public import proofs.«01_k».proof.Proof.Outproj.Runs

@[expose] public section

-- membership in a rectangle of large extents recurses once per coordinate of the long axes
set_option maxRecDepth 16384

noncomputable section

namespace Cert.Kernel3Ideal.Outproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2132000 in
/-- What the body's stores leave in each output's staging memref, as pieces (last first), in case A (`scf.if` 0 taken: the first point), with the
    proof that the body runs on whole staging memrefs: it starts from the inputs' at their contents, the outputs' at anything and
    the carried scratch at its own (`xs·`) or at anything, and ends with the inputs' as they were and each output's buffer, and the
    scratch, with its pieces written. The pieces are found by the run. -/
noncomputable def kernelRun0_A (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) :
    Σ' (L6 : List (View.Piece (Elt F) S1024x1024 .f32)), Σ' (L7 : List (View.Piece (Elt F) S8192x128 .f32)), Σ' (L8 : List (View.Piece (Elt F) S1024x128 .i32)), Σ' (L9 : List (View.Piece (Elt F) S1024x128 .f32)), Σ' (L10 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_outproj_eq_skeleton]; unfold cc0_outproj_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact HS0

end Cert.Kernel3Ideal.Outproj

end
-- ==== Proof.Outproj.RunB.lean ====
/- The output projection's body run in case B of its one condition: the pieces each buffer ends with are the witness. -/
module

public import proofs.«01_k».proof.Proof.Outproj.RunA

@[expose] public section

-- membership in a rectangle of large extents recurses once per coordinate of the long axes
set_option maxRecDepth 16384

noncomputable section

namespace Cert.Kernel3Ideal.Outproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2120000 in
/-- What the body's stores leave in each output's staging memref, as pieces (last first), in case B (`scf.if` 0 not taken: the other fifteen points), with the
    proof that the body runs on whole staging memrefs: it starts from the inputs' at their contents, the outputs' at anything and
    the carried scratch at its own (`xs·`) or at anything, and ends with the inputs' as they were and each output's buffer, and the
    scratch, with its pieces written. The pieces are found by the run. -/
noncomputable def kernelRun0_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) :
    Σ' (L6 : List (View.Piece (Elt F) S1024x1024 .f32)), Σ' (L7 : List (View.Piece (Elt F) S8192x128 .f32)), Σ' (L8 : List (View.Piece (Elt F) S1024x128 .i32)), Σ' (L9 : List (View.Piece (Elt F) S1024x128 .f32)), Σ' (L10 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_outproj_eq_skeleton]; unfold cc0_outproj_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact HS0

end Cert.Kernel3Ideal.Outproj

end
-- ==== Proof.Outproj.Cover.lean ====
/- The strided row sets the output projection stores its second result through cover that result's block. -/
module

public import proofs.«01_k».proof.Proof.Outproj.Runs

@[expose] public section

-- membership in a rectangle of large extents recurses once per coordinate of the long axes
set_option maxRecDepth 16384

noncomputable section

namespace Cert.Kernel3Ideal.Outproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight row sets of stride 8, over each of the eight sub-views of 1024 rows, cover the block. -/
theorem strided_cover (L : List (View.Piece (Elt F) S8192x128 .f32))
    (h : L.map (fun pc => [pc.1.off 0, pc.1.off 1, pc.1.size 0, pc.1.size 1, pc.1.stride 0, pc.1.stride 1])
      = (List.range 64).reverse.map (fun k => [1024 * (k / 8) + k % 8, 0, 128, 128, 8, 1]))
    (y : S8192x128.Idx) : ∃ pc ∈ L, y ∈ pc.1.set := by
  have h0 : (y 0).val < 8192 := (y 0).isLt
  have h1 : (y 1).val < 128 := (y 1).isLt
  have hk : [1024 * ((8 * ((y 0).val / 1024) + (y 0).val % 8) / 8) + (8 * ((y 0).val / 1024) + (y 0).val % 8) % 8, 0, 128, 128, 8, 1]
      ∈ L.map (fun pc => [pc.1.off 0, pc.1.off 1, pc.1.size 0, pc.1.size 1, pc.1.stride 0, pc.1.stride 1]) := by
    rw [h]
    exact List.mem_map_of_mem (f := fun k => [1024 * (k / 8) + k % 8, 0, 128, 128, 8, 1])
      (List.mem_reverse.mpr (List.mem_range.mpr (by omega)))
  obtain ⟨pc, hm, he⟩ := List.mem_map.mp hk
  simp only [List.cons.injEq, and_true] at he
  obtain ⟨e0, e1, e2, e3, e4, e5⟩ := he
  refine ⟨pc, hm, pc.1.mem_set.mpr (Fin.forall_fin_two.mpr ⟨⟨(y 0).val % 1024 / 8, ?_, ?_⟩, ⟨(y 1).val, ?_, ?_⟩⟩)⟩
  · erw [e2]; omega
  · erw [e0, e4]; omega
  · erw [e3]; omega
  · erw [e1, e5]; omega

end Cert.Kernel3Ideal.Outproj

end
-- ==== Proof.Outproj.Frame.lean ====
/- What the output projection's outputs hold per case and point by point, the proof data, the body obligation, the run and the frame. -/
module

public import proofs.«01_k».proof.Proof.Outproj.RunB
public import proofs.«01_k».proof.Proof.Outproj.Cover
public import Idealize.ShloMosaic.Lib.Claim

@[expose] public section

-- membership in a rectangle of large extents recurses once per coordinate of the long axes
set_option maxRecDepth 16384

noncomputable section

namespace Cert.Kernel3Ideal.Outproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S128x1024`), so they cover it. -/
theorem cover0_A_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1 S128x1024.size (by sl_kernel_rfl) y

/-- What case A leaves in output 6's staging buffer: its pieces read back over junk. -/
def out0_A_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S1024x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1)

/-- Case A's 64 strided pieces for output 7 cover its block. -/
theorem cover0_A_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S8192x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  strided_cover (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1 (by sl_kernel_rfl) y

/-- What case A leaves in output 7's staging buffer: its pieces read back over junk. -/
def out0_A_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S8192x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1)

/-- Case A's pieces for output 8 tile its block (8 stores of `S128x128`), so they cover it. -/
theorem cover0_A_8 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1 S128x128.size (by sl_kernel_rfl) y

/-- What case A leaves in output 8's staging buffer: its pieces read back over junk. -/
def out0_A_8 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S1024x128 .i32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1)

/-- Case A's pieces for output 9 tile its block (8 stores of `S128x128`), so they cover it. -/
theorem cover0_A_9 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1 S128x128.size (by sl_kernel_rfl) y

/-- What case A leaves in output 9's staging buffer: its pieces read back over junk. -/
def out0_A_9 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S1024x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1)

/-- Case A's pieces for output 10 tile its block (1 store of `S1x128`), so they cover it. -/
theorem cover0_A_10 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1 S1x128.size (by sl_kernel_rfl) y

/-- What case A leaves in output 10's staging buffer: its pieces read back over junk. -/
def out0_A_10 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S1x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1)

/-- Case A's pieces for scratch `arg12`, which the kernel carries between points, cover it: 9 pieces of `S1x128` tiling it. -/
theorem scover0_A_0 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.2.1 S1x128.size (by sl_kernel_rfl) y

/-- What case A leaves in scratch `arg12`: its pieces read back over junk. -/
def sout0_A_0 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.2.1)

/-- Case B's pieces for output 6 tile its block (8 stores of `S128x1024`), so they cover it. -/
theorem cover0_B_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1 S128x1024.size (by sl_kernel_rfl) y

/-- What case B leaves in output 6's staging buffer: its pieces read back over junk. -/
def out0_B_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S1024x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1)

/-- Case B's 64 strided pieces for output 7 cover its block. -/
theorem cover0_B_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S8192x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.1, y ∈ pc.1.set :=
  strided_cover (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.1 (by sl_kernel_rfl) y

/-- What case B leaves in output 7's staging buffer: its pieces read back over junk. -/
def out0_B_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S8192x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.1)

/-- Case B's pieces for output 8 tile its block (8 stores of `S128x128`), so they cover it. -/
theorem cover0_B_8 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S1024x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.1 S128x128.size (by sl_kernel_rfl) y

/-- What case B leaves in output 8's staging buffer: its pieces read back over junk. -/
def out0_B_8 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S1024x128 .i32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.1)

/-- Case B's pieces for output 9 tile its block (8 stores of `S128x128`), so they cover it. -/
theorem cover0_B_9 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S1024x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.1 S128x128.size (by sl_kernel_rfl) y

/-- What case B leaves in output 9's staging buffer: its pieces read back over junk. -/
def out0_B_9 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S1024x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.1)

/-- Case B's pieces for output 10 tile its block (1 store of `S1x128`), so they cover it. -/
theorem cover0_B_10 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.1 S1x128.size (by sl_kernel_rfl) y

/-- What case B leaves in output 10's staging buffer: its pieces read back over junk. -/
def out0_B_10 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S1x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.1)

/-- Case B's pieces for scratch `arg12`, which the kernel carries between points, cover it: 8 pieces of `S1x128` tiling it. -/
theorem scover0_B_0 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.2.1 S1x128.size (by sl_kernel_rfl) y

/-- What case B leaves in scratch `arg12`: its pieces read back over junk. -/
def sout0_B_0 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.2.2.2.2.1)

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). -/
def outsAt0 (c : Dev nD) : (n : ℕ) → n < cfg0.N → Vec F S1024x1024 .f32 × Vec F S8192x128 .f32 × Vec F S1024x128 .i32 × Vec F S1024x128 .f32 × Vec F S1x128 .f32 × Vec F S1x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel carries between points: before the first point
    `ΦA` (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    `PhiS` (`ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V`, a fold over the lines before the call, is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_6 out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, ⟨%e6, H6⟩, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_6 out0_B_7 out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, ⟨%e6, H6⟩, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what follows from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, for any values: the run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Outproj

end
-- ==== Proof.Outproj.Same.lean ====
/- The output projection as printed for machine words has the text of the one read over the extended reals: its frame is that one's. -/
module

public import proofs.«01_k».proof.Proof.Outproj.Frame
public import proofs.«01_k».proof.Proof.Gen.Kernel3

public section

set_option maxRecDepth 16384

noncomputable section

namespace Cert.Kernel3.Outproj

open Idealize.ShloMosaic Idealize.ShloMosaic.TcCoe Idealize.SL.Sem

variable {F : FTy → Type} [FloatOps F]

set_option smartUnfolding false in
/-- Every run leaves the argument arrays as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Cert.Kernel3Ideal.Outproj.frame (F := F) m ρ

end Cert.Kernel3.Outproj

end
-- ==== Proof.Outproj.Pieces.lean ====
/- The pieces the output projection's body stores its first two results in, and the one function each result's pieces agree with. -/
module

public import proofs.«01_k».proof.Proof.Outproj.Frame
import Idealize.ShloMosaic.Lib.Pipeline.ValueKit
public import Idealize.ShloMosaic.Lib.Pointwise

@[expose] public section

set_option maxRecDepth 16384
set_option maxHeartbeats 1000000

noncomputable section

namespace Cert.Kernel3Ideal.Outproj

open Cert.Kernel3Ideal Cert.Kernel3Ideal.Gen
open Idealize.ShloMosaic Idealize.ShloMosaic.TcCoe Idealize.ShloMosaic.Tactic Idealize.SL.Sem

variable {F : FTy → Type} [FloatOps F]

theorem rows512 (s : Fin 8) : ∀ a, (![128 * s.val, 0] : Fin 2 → Nat) a + S128x512.size a ≤ S1024x512.size a := by
  revert s; decide
theorem rows1024 (s : Fin 8) : ∀ a, (![128 * s.val, 0] : Fin 2 → Nat) a + S128x1024.size a ≤ S1024x1024.size a := by
  revert s; decide
theorem rows128 (s : Fin 8) : ∀ a, (![1024 * s.val, 0] : Fin 2 → Nat) a + S1024x128.size a ≤ S8192x128.size a := by
  revert s; decide
theorem strided (j : Fin 8) : ∀ a, S128x128.size a = 0 ∨ (![j.val, 0] : Fin 2 → Nat) a + (![8, 1] : Fin 2 → Nat) a * (S128x128.size a - 1) < S1024x128.size a := by
  revert j; decide
theorem lanes128 (j : Fin 8) : S128x1024.Slices ![0, 128 * j.val] S128x128 := by
  revert j; decide

/-! ## One segment of 128 rows -/

/-- The sum of a segment's rows and their projection. -/
def segX (x0 x1 : Vec F S128x512 .bf16) (x2 : Vec F S128x1024 .f32) (x3 : Vec F S1024x1024 .bf16) : Vec F S128x1024 .f32 :=
  k0_pay15 (k0_pay5 x0 x1 x3) x2

/-- Those rows normalised. -/
def segH (x0 x1 : Vec F S128x512 .bf16) (x2 : Vec F S128x1024 .f32) (x3 : Vec F S1024x1024 .bf16) (x4 : Vec F S1x1024 .f32) : Vec F S128x1024 .f32 :=
  k0_pay16 (k0_pay5 x0 x1 x3) x2 x4

/-- The segments' sums as pieces of the first result, the last stored first. -/
def listX (X : Fin 8 → Vec F S128x1024 .f32) : List (View.Piece (Elt F) S1024x1024 .f32) :=
  ([7, 6, 5, 4, 3, 2, 1, 0] : List (Fin 8)).map fun s => ⟨Rect.unit (s := S1024x1024) ![128 * s.val, 0] S128x1024.size (rows1024 s), X s⟩

/-- The segments' normalised rows as pieces of the second result, eight lane groups to a segment, the last stored first. -/
def listH (H : Fin 8 → Vec F S128x1024 .f32) : List (View.Piece (Elt F) S8192x128 .f32) :=
  ([7, 6, 5, 4, 3, 2, 1, 0] : List (Fin 8)).flatMap fun s => ([7, 6, 5, 4, 3, 2, 1, 0] : List (Fin 8)).map fun j =>
    ⟨(Rect.unit (s := S8192x128) ![1024 * s.val, 0] S1024x128.size (rows128 s)).within
      ⟨(⟨![j.val, 0], S128x128.size, ![8, 1], strided j⟩ : LoadRect S1024x128), spos_8_1⟩ (fun _ => rfl),
      extractStridedSlice S128x128 ![0, 128 * j.val] (H s) (lanes128 j)⟩

/-- The first result's block: row `r` is row `r % 128` of segment `r / 128`. -/
def blkX (X : Fin 8 → Vec F S128x1024 .f32) : Vec F S1024x1024 .f32 := fun y =>
  X ⟨(y 0).val / 128, by have : (y 0).val < 1024 := (y 0).isLt; omega⟩ (ix2 (⟨(y 0).val % 128, by omega⟩ : Fin 128) (⟨(y 1).val, (y 1).isLt⟩ : Fin 1024))

/-- The second result's block: row `q` holds lane group `q % 8` of row `q / 8`. -/
def blkH (H : Fin 8 → Vec F S128x1024 .f32) : Vec F S8192x128 .f32 := fun y =>
  H ⟨(y 0).val / 1024, by have : (y 0).val < 8192 := (y 0).isLt; omega⟩
    (ix2 (⟨(y 0).val / 8 % 128, by omega⟩ : Fin 128) (⟨128 * ((y 0).val % 8) + (y 1).val, by have : (y 1).val < 128 := (y 1).isLt; omega⟩ : Fin 1024))

theorem listX_agrees (X : Fin 8 → Vec F S128x1024 .f32) : ∀ p ∈ listX X, ∀ x : p.1.shape.Idx, p.2 x = blkX X (p.1.emb x) := by
  intro p hp
  obtain ⟨s, -, rfl⟩ := List.mem_map.mp hp
  intro x
  have h0 : (x 0).val < 128 := (x 0).isLt
  unfold blkX
  refine congr (congrArg X (Fin.ext ?_)) (funext fun a => Fin.ext ?_)
  · show s.val = (128 * s.val + 1 * (x 0).val) / 128
    omega
  · fin_cases a
    · show (x 0).val = (128 * s.val + 1 * (x 0).val) % 128
      omega
    · show (x 1).val = 0 + 1 * (x 1).val
      omega

theorem listH_agrees (H : Fin 8 → Vec F S128x1024 .f32) : ∀ p ∈ listH H, ∀ x : p.1.shape.Idx, p.2 x = blkH H (p.1.emb x) := by
  intro p hp
  obtain ⟨s, -, hp⟩ := List.mem_flatMap.mp hp
  obtain ⟨j, -, rfl⟩ := List.mem_map.mp hp
  intro x
  have h0 : (x 0).val < 128 := (x 0).isLt
  have h1 : (x 1).val < 128 := (x 1).isLt
  unfold blkH
  refine congr (congrArg H (Fin.ext ?_)) (funext fun a => Fin.ext ?_)
  · show s.val = (1024 * s.val + j.val + 8 * (x 0).val) / 1024
    omega
  · fin_cases a
    · show 0 + (x 0).val = (1024 * s.val + j.val + 8 * (x 0).val) / 8 % 128
      omega
    · show 128 * j.val + (x 1).val = 128 * ((1024 * s.val + j.val + 8 * (x 0).val) % 8) + (0 + 0 + 1 * (x 1).val)
      omega

/-! ## The body's pieces -/

/-- Segment `s` of a block of 512 columns, of 1024. -/
def at512 (x : Vec F S1024x512 .bf16) (s : Fin 8) : Vec F S128x512 .bf16 := View.ld x (Rect.unit (s := S1024x512) ![128 * s.val, 0] S128x512.size (rows512 s))
def at1024 (x : Vec F S1024x1024 .f32) (s : Fin 8) : Vec F S128x1024 .f32 := View.ld x (Rect.unit (s := S1024x1024) ![128 * s.val, 0] S128x1024.size (rows1024 s))
def allW (x : Vec F S1024x1024 .bf16) : Vec F S1024x1024 .bf16 := View.ld x (Rect.unit (s := S1024x1024) ![0, 0] S1024x1024.size inb_S1024x1024_S1024x1024_0_0)
def allG (x : Vec F S1x1024 .f32) : Vec F S1x1024 .f32 := View.ld x (Rect.unit (s := S1x1024) ![0, 0] S1x1024.size inb_S1x1024_S1x1024_0_0)

theorem pieces0_A_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1 = listX (fun s => segX (View.readAt (Elt F) arg1.view (Rect.unit (s := S1024x512) ![128 * s.val, 0] S128x512.size (rows512 s)).toLoadRect (harg1.unread x0)) (View.readAt (Elt F) arg2.view (Rect.unit (s := S1024x512) ![128 * s.val, 0] S128x512.size (rows512 s)).toLoadRect (harg2.unread x1)) (View.readAt (Elt F) arg3.view (Rect.unit (s := S1024x1024) ![128 * s.val, 0] S128x1024.size (rows1024 s)).toLoadRect (harg3.unread x2)) (View.readAt (Elt F) arg4.view (Rect.unit (s := S1024x1024) ![0, 0] S1024x1024.size inb_S1024x1024_S1024x1024_0_0).toLoadRect (harg4.unread x3))) := by
  sl_kernel_rfl

theorem out0_A_6_eq (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = blkX (fun s => segX (at512 x0 s) (at512 x1 s) (at1024 x2 s) (allW x3)) := by
  unfold out0_A_6
  funext y
  refine View.read_writes_apply_of_pieces _ _ _ _ ?_ y (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 y)
  rw [pieces0_A_6]
  simp only [View.readAt_eq_ld, Memref.IsWhole.read_unread]
  exact listX_agrees _

theorem pieces0_A_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1 = listH (fun s => segH (View.readAt (Elt F) arg1.view (Rect.unit (s := S1024x512) ![128 * s.val, 0] S128x512.size (rows512 s)).toLoadRect (harg1.unread x0)) (View.readAt (Elt F) arg2.view (Rect.unit (s := S1024x512) ![128 * s.val, 0] S128x512.size (rows512 s)).toLoadRect (harg2.unread x1)) (View.readAt (Elt F) arg3.view (Rect.unit (s := S1024x1024) ![128 * s.val, 0] S128x1024.size (rows1024 s)).toLoadRect (harg3.unread x2)) (View.readAt (Elt F) arg4.view (Rect.unit (s := S1024x1024) ![0, 0] S1024x1024.size inb_S1024x1024_S1024x1024_0_0).toLoadRect (harg4.unread x3)) (View.readAt (Elt F) arg5.view (Rect.unit (s := S1x1024) ![0, 0] S1x1024.size inb_S1x1024_S1x1024_0_0).toLoadRect (harg5.unread x4))) := by
  sl_kernel_rfl

theorem out0_A_7_eq (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = blkH (fun s => segH (at512 x0 s) (at512 x1 s) (at1024 x2 s) (allW x3) (allG x4)) := by
  unfold out0_A_7
  funext y
  refine View.read_writes_apply_of_pieces _ _ _ _ ?_ y (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 y)
  rw [pieces0_A_7]
  simp only [View.readAt_eq_ld, Memref.IsWhole.read_unread]
  exact listH_agrees _

theorem pieces0_B_6 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1 = listX (fun s => segX (View.readAt (Elt F) arg1.view (Rect.unit (s := S1024x512) ![128 * s.val, 0] S128x512.size (rows512 s)).toLoadRect (harg1.unread x0)) (View.readAt (Elt F) arg2.view (Rect.unit (s := S1024x512) ![128 * s.val, 0] S128x512.size (rows512 s)).toLoadRect (harg2.unread x1)) (View.readAt (Elt F) arg3.view (Rect.unit (s := S1024x1024) ![128 * s.val, 0] S128x1024.size (rows1024 s)).toLoadRect (harg3.unread x2)) (View.readAt (Elt F) arg4.view (Rect.unit (s := S1024x1024) ![0, 0] S1024x1024.size inb_S1024x1024_S1024x1024_0_0).toLoadRect (harg4.unread x3))) := by
  sl_kernel_rfl

theorem out0_B_6_eq (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 = blkX (fun s => segX (at512 x0 s) (at512 x1 s) (at1024 x2 s) (allW x3)) := by
  unfold out0_B_6
  funext y
  refine View.read_writes_apply_of_pieces _ _ _ _ ?_ y (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 y)
  rw [pieces0_B_6]
  simp only [View.readAt_eq_ld, Memref.IsWhole.read_unread]
  exact listX_agrees _

theorem pieces0_B_7 (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).2.1 = listH (fun s => segH (View.readAt (Elt F) arg1.view (Rect.unit (s := S1024x512) ![128 * s.val, 0] S128x512.size (rows512 s)).toLoadRect (harg1.unread x0)) (View.readAt (Elt F) arg2.view (Rect.unit (s := S1024x512) ![128 * s.val, 0] S128x512.size (rows512 s)).toLoadRect (harg2.unread x1)) (View.readAt (Elt F) arg3.view (Rect.unit (s := S1024x1024) ![128 * s.val, 0] S128x1024.size (rows1024 s)).toLoadRect (harg3.unread x2)) (View.readAt (Elt F) arg4.view (Rect.unit (s := S1024x1024) ![0, 0] S1024x1024.size inb_S1024x1024_S1024x1024_0_0).toLoadRect (harg4.unread x3)) (View.readAt (Elt F) arg5.view (Rect.unit (s := S1x1024) ![0, 0] S1x1024.size inb_S1x1024_S1x1024_0_0).toLoadRect (harg5.unread x4))) := by
  sl_kernel_rfl

theorem out0_B_7_eq (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x1024 .f32) (harg7 : arg7.IsWhole) (arg8 : Memref sig .tc .vmem S8192x128 .f32) (harg8 : arg8.IsWhole) (arg9 : Memref sig .tc .vmem S1024x128 .i32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S1024x512 .bf16) (x1 : Vec F S1024x512 .bf16) (x2 : Vec F S1024x1024 .f32) (x3 : Vec F S1024x1024 .bf16) (x4 : Vec F S1x1024 .f32) (x5 : Vec F S1024x256 .bf16) (xs0 : Vec F S1x128 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 = blkH (fun s => segH (at512 x0 s) (at512 x1 s) (at1024 x2 s) (allW x3) (allG x4)) := by
  unfold out0_B_7
  funext y
  refine View.read_writes_apply_of_pieces _ _ _ _ ?_ y (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 y)
  rw [pieces0_B_7]
  simp only [View.readAt_eq_ld, Memref.IsWhole.read_unread]
  exact listH_agrees _

end Cert.Kernel3Ideal.Outproj

end
-- ==== Proof.Outproj.Math.lean ====
/- The output projection as plain functions of the arguments over the extended reals. -/
module

public import proofs.«01_k».proof.Proof.Inproj.Math

@[expose] public section

noncomputable section

namespace Cert.Outproj

open Idealize.ShloMosaic

/-- Two half rows side by side. -/
def beside (ya yb : Fin 512 → EReal) (j : Fin 1024) : EReal :=
  if h : j.val < 512 then ya ⟨j.val, h⟩ else yb ⟨j.val - 512, by omega⟩

/-- A value plus the projection of two half rows on one column of the weights. -/
def plus (ya yb : Fin 512 → EReal) (x : EReal) (w : Fin 1024 → EReal) : EReal := x + ∑ j : Fin 1024, beside ya yb j * w j

/-- The arguments: the two half rows, the rows they are added to, the weights, and the scale of the normalisation. -/
structure Args where
  ya : Fin 8 → Fin 2048 → Fin 512 → EReal
  yb : Fin 8 → Fin 2048 → Fin 512 → EReal
  x : Fin 8 → Fin 2048 → Fin 1024 → EReal
  w : Fin 1024 → Fin 1024 → EReal
  g : Fin 1024 → EReal

/-- The rows after the projection is added. -/
def Args.x1 (a : Args) (b : Fin 8) (s : Fin 2048) (n : Fin 1024) : EReal := plus (a.ya b s) (a.yb b s) (a.x b s n) fun j => a.w j n

/-- Those rows normalised. -/
def Args.h (a : Args) (b : Fin 8) (s : Fin 2048) (n : Fin 1024) : EReal := Cert.Inproj.norm (a.x1 b s) a.g n

/-- The sequence of a row of the flat results, and its place there. -/
abbrev seq (R : Fin 16384) : Fin 8 := ⟨R.val / 2048, by omega⟩
abbrev pos (R : Fin 16384) : Fin 2048 := ⟨R.val % 2048, by omega⟩

/-- The first result, row by row. -/
def Args.flatX (a : Args) (R : Fin 16384) (n : Fin 1024) : EReal := a.x1 (seq R) (pos R) n

/-- The normalised rows, each in eight rows of 128 values. -/
def Args.flatH (a : Args) (Q : Fin 131072) (l : Fin 128) : EReal :=
  a.h (seq ⟨Q.val / 8, by omega⟩) (pos ⟨Q.val / 8, by omega⟩) ⟨128 * (Q.val % 8) + l.val, by omega⟩

end Cert.Outproj

end
-- ==== Proof.Outproj.Tile.lean ====
/- What one segment of the output projection's tile holds, element by element. -/
module

public import proofs.«01_k».proof.Proof.Outproj.Pieces
public import proofs.«01_k».proof.Proof.Outproj.Math
import Idealize.ShloMosaic.Lib.Pointwise

@[expose] public section

set_option maxRecDepth 16384
set_option maxHeartbeats 1000000

noncomputable section

namespace Cert.Kernel3Ideal.Outproj

open Cert.Kernel3Ideal Cert.Kernel3Ideal.Gen Idealize.ShloMosaic Idealize.ShloMosaic.TcCoe Idealize.SL.Sem

variable (x0 x1 : Vec Ideal S128x512 .bf16) (x2 : Vec Ideal S128x1024 .f32) (x3 : Vec Ideal S1024x1024 .bf16) (x4 : Vec Ideal S1x1024 .f32)

theorem segX_apply (r : Fin 128) (n : Fin 1024) :
    segX (F := Ideal) x0 x1 x2 x3 (ix2 r n) = Cert.Outproj.plus (fun j => x0 (ix2 r j)) (fun j => x1 (ix2 r j)) (x2 (ix2 r n)) fun j => x3 (ix2 j n) := by
  pointwise [segX, k0_pay15, k0_pay5, Cert.Outproj.plus, Cert.Outproj.beside]

theorem segH_apply (r : Fin 128) (n : Fin 1024) :
    segH (F := Ideal) x0 x1 x2 x3 x4 (ix2 r n) = Cert.Inproj.norm (fun j => segX (F := Ideal) x0 x1 x2 x3 (ix2 r j)) (fun j => x4 (ix2 (0 : Fin 1) j)) n := by
  show k0_pay16 (k0_pay5 x0 x1 x3) x2 x4 (ix2 r n) = Cert.Inproj.norm (fun j => k0_pay15 (F := Ideal) (k0_pay5 x0 x1 x3) x2 (ix2 r j)) _ n
  generalize k0_pay5 (F := Ideal) x0 x1 x3 = p
  pointwise [k0_pay16, Cert.Inproj.norm, Cert.Inproj.width, Cert.Inproj.eps]

end Cert.Kernel3Ideal.Outproj

end
-- ==== Proof.Outproj.Entry.lean ====
/- The blocks one grid point of the output projection reads, as parts of the argument arrays. -/
module

public import proofs.«01_k».proof.Proof.Gen.Kernel3Ideal.Frame
public import proofs.«01_k».proof.Proof.Outproj.Math
import Idealize.ShloMosaic.Lib.Pipeline.ValueKit
import Idealize.ShloMosaic.Lib.Pointwise
import Idealize.ShloMosaic.Lib.Claim
import Idealize.ShloMosaic.Lib.StableHlo.RunRead

@[expose] public section

set_option maxRecDepth 16384
set_option maxHeartbeats 1000000

noncomputable section

namespace Cert.Kernel3Ideal.Outproj

open Cert.Kernel3Ideal Cert.Kernel3Ideal.Gen Idealize.ShloMosaic Idealize.ShloMosaic.TcCoe Idealize.SL.Sem
open Cert.Outproj (seq pos)

variable (m : (ℓ : Loc nD τ sig) → Buf (Elt Ideal) ℓ) (c : Dev nD)

abbrev a0 : Vec Ideal S8x2048x512 .bf16 := m ((c : Thread nD τ).loc main_arg0)
abbrev a1 : Vec Ideal S8x2048x512 .bf16 := m ((c : Thread nD τ).loc main_arg1)
abbrev a2 : Vec Ideal S8x2048x1024 .f32 := m ((c : Thread nD τ).loc main_arg2)
abbrev a3 : Vec Ideal S1x1024x1024 .f32 := m ((c : Thread nD τ).loc main_arg3)
abbrev a4 : Vec Ideal S1x1024 .f32 := m ((c : Thread nD τ).loc main_arg4)

/-- The call's arguments. -/
def argsOf : Cert.Outproj.Args where
  ya := fun b s j => a0 m c (ix3 b s j)
  yb := fun b s j => a1 m c (ix3 b s j)
  x := fun b s j => a2 m c (ix3 b s j)
  w := fun j k => a3 m c (ix3 (0 : Fin 1) j k)
  g := fun j => a4 m c (ix2 (0 : Fin 1) j)

/-! ## The arrays the launch's host operations make -/

theorem entry0 (R : Fin 16384) (j : Fin 512) : (V m c main_v9 : Vec Ideal S16384x512 .bf16) (ix2 R j) = (argsOf m c).ya (seq R) (pos R) j := by
  simp only [V, hostOps0, hostOps0_1, hostOps0_2, List.flatten_cons, List.flatten_nil, List.append_nil, List.cons_append, List.nil_append]
  after_reads_simp
  pointwise [argsOf]

theorem entry1 (R : Fin 16384) (j : Fin 512) : (V m c main_v10 : Vec Ideal S16384x512 .bf16) (ix2 R j) = (argsOf m c).yb (seq R) (pos R) j := by
  simp only [V, hostOps0, hostOps0_1, hostOps0_2, List.flatten_cons, List.flatten_nil, List.append_nil, List.cons_append, List.nil_append]
  after_reads_simp
  pointwise [argsOf]

theorem entry2 (R : Fin 16384) (j : Fin 1024) : (V m c main_v11 : Vec Ideal S16384x1024 .f32) (ix2 R j) = (argsOf m c).x (seq R) (pos R) j := by
  simp only [V, hostOps0, hostOps0_1, hostOps0_2, List.flatten_cons, List.flatten_nil, List.append_nil, List.cons_append, List.nil_append]
  after_reads_simp
  pointwise [argsOf]

theorem entry3 (j k : Fin 1024) : (V m c main_v13 : Vec Ideal S1024x1024 .bf16) (ix2 j k) = (argsOf m c).w j k := by
  simp only [V, hostOps0, hostOps0_1, hostOps0_2, List.flatten_cons, List.flatten_nil, List.append_nil, List.cons_append, List.nil_append]
  after_reads_simp
  pointwise [argsOf]

theorem entry4 (j : Fin 1024) : (V m c main_v15 : Vec Ideal S1x1024 .f32) (ix2 (0 : Fin 1) j) = (argsOf m c).g j := by
  simp only [V, hostOps0, hostOps0_1, hostOps0_2, List.flatten_cons, List.flatten_nil, List.append_nil, List.cons_append, List.nil_append]
  after_reads_simp
  pointwise [argsOf]

/-! ## The blocks -/

variable (t : Fin cfg0.N)

theorem index_facts : ∀ t : Fin cfg0.N,
    win0_0.index t = ![t.val, 0] ∧ win0_1.index t = ![t.val, 0] ∧ win0_2.index t = ![t.val, 0] ∧ win0_3.index t = ![0, 0] ∧ win0_4.index t = ![0, 0]
    ∧ win0_6.index t = ![t.val, 0] ∧ win0_7.index t = ![t.val, 0] :=
  (by decide +kernel : ∀ t : Fin grid0.N, _)

theorem bound : ∀ t : Fin cfg0.N, t.val < 16 := (by decide +kernel : ∀ t : Fin grid0.N, t.val < 16)

/-- Row `r` of a grid point's tile. -/
abbrev row (r : Fin 1024) : Fin 16384 := ⟨1024 * t.val + r.val, by have := bound t; have := r.isLt; omega⟩

theorem place {n k n' : ℕ} {f : Fin 2 → ℕ} (e : f = ![t.val, 0]) (r : Fin n) (j : Fin k) (R : Fin n') (hR : R.val = n * t.val + r.val) (a : Fin 2) :
    f a * (⟨2, ![n, k]⟩ : Shape).size a + 1 * ((ix2 r j : (⟨2, ![n, k]⟩ : Shape).Idx) a).val = ((ix2 R j : (⟨2, ![n', k]⟩ : Shape).Idx) a).val := by
  subst e
  fin_cases a
  · show t.val * n + 1 * r.val = R.val; rw [hR, Nat.mul_comm, Nat.one_mul]
  · show 0 * k + 1 * j.val = j.val; omega

theorem blk0 (r : Fin 1024) (j : Fin 512) : (iblk m c 0 t : Vec Ideal S1024x512 .bf16) (ix2 r j) = (argsOf m c).ya (seq (row t r)) (pos (row t r)) j :=
  (congrArg (V m c main_v9 : Vec Ideal S16384x512 .bf16) (funext fun a => Fin.ext (place t (index_facts t).1 r j (row t r) rfl a))).trans (entry0 m c _ j)

theorem blk1 (r : Fin 1024) (j : Fin 512) : (iblk m c 1 t : Vec Ideal S1024x512 .bf16) (ix2 r j) = (argsOf m c).yb (seq (row t r)) (pos (row t r)) j :=
  (congrArg (V m c main_v10 : Vec Ideal S16384x512 .bf16) (funext fun a => Fin.ext (place t (index_facts t).2.1 r j (row t r) rfl a))).trans (entry1 m c _ j)

theorem blk2 (r j : Fin 1024) : (iblk m c 2 t : Vec Ideal S1024x1024 .f32) (ix2 r j) = (argsOf m c).x (seq (row t r)) (pos (row t r)) j :=
  (congrArg (V m c main_v11 : Vec Ideal S16384x1024 .f32) (funext fun a => Fin.ext (place t (index_facts t).2.2.1 r j (row t r) rfl a))).trans (entry2 m c _ j)

theorem whole2 {n k : ℕ} {f : Fin 2 → ℕ} (e : f = ![0, 0]) (y : (⟨2, ![n, k]⟩ : Shape).Idx) (a : Fin 2) : f a * (⟨2, ![n, k]⟩ : Shape).size a + 1 * (y a).val = (y a).val := by
  subst e
  fin_cases a
  · show 0 * n + 1 * (y 0).val = (y 0).val; omega
  · show 0 * k + 1 * (y 1).val = (y 1).val; omega

theorem blk3 (j k : Fin 1024) : (iblk m c 3 t : Vec Ideal S1024x1024 .bf16) (ix2 j k) = (argsOf m c).w j k :=
  (congrArg (V m c main_v13 : Vec Ideal S1024x1024 .bf16) (funext fun a => Fin.ext (whole2 (index_facts t).2.2.2.1 _ a))).trans (entry3 m c j k)

theorem blk4 (j : Fin 1024) : (iblk m c 4 t : Vec Ideal S1x1024 .f32) (ix2 (0 : Fin 1) j) = (argsOf m c).g j :=
  (congrArg (V m c main_v15 : Vec Ideal S1x1024 .f32) (funext fun a => Fin.ext (whole2 (index_facts t).2.2.2.2.1 _ a))).trans (entry4 m c j)

end Cert.Kernel3Ideal.Outproj

end
-- ==== Proof.Outproj.Result.lean ====
/- The output projection's results as functions of its arguments. -/
module

public import proofs.«01_k».proof.Proof.Outproj.Tile
public import proofs.«01_k».proof.Proof.Outproj.Entry
import Idealize.ShloMosaic.Lib.Pipeline.ValueKit
import Idealize.ShloMosaic.Lib.Pointwise

@[expose] public section

set_option maxRecDepth 16384
set_option maxHeartbeats 1000000

noncomputable section

namespace Cert.Kernel3Ideal.Outproj

open Cert.Kernel3Ideal Cert.Kernel3Ideal.Gen Idealize.ShloMosaic Idealize.ShloMosaic.TcCoe Idealize.SL.Sem
open Cert.Outproj (seq pos)

variable (m : (ℓ : Loc nD τ sig) → Buf (Elt Ideal) ℓ) (ρ : Dev nD → PrngReg) (c : Dev nD)

theorem ld2 {n k a o n' k' : ℕ} {e : EltTy} (X : Vec Ideal (⟨2, ![n, k]⟩ : Shape) e) (i) (j : Fin n') (l : Fin k') (j' : Fin n) (l' : Fin k) (hj : j'.val = a + j.val) (hl : l'.val = o + l.val) :
    View.ld X (Rect.unit (s := (⟨2, ![n, k]⟩ : Shape)) ![a, o] ![n', k'] i) (ix2 j l) = X (ix2 j' l') := by
  refine congrArg X (funext fun q => Fin.ext ?_)
  fin_cases q
  · show a + 1 * j.val = j'.val; omega
  · show o + 1 * l.val = l'.val; omega

section

variable (t : Fin cfg0.N)

/-- The segments of a grid point's tile. -/
abbrev ptX (s : Fin 8) : Vec Ideal S128x1024 .f32 := segX (F := Ideal) (at512 (iblk m c 0 t) s) (at512 (iblk m c 1 t) s) (at1024 (iblk m c 2 t) s) (allW (iblk m c 3 t))
abbrev ptH (s : Fin 8) : Vec Ideal S128x1024 .f32 := segH (F := Ideal) (at512 (iblk m c 0 t) s) (at512 (iblk m c 1 t) s) (at1024 (iblk m c 2 t) s) (allW (iblk m c 3 t)) (allG (iblk m c 4 t))

/-- Row `r` of segment `s`. -/
abbrev inTile (s : Fin 8) (r : Fin 128) : Fin 1024 := ⟨128 * s.val + r.val, by omega⟩

theorem ptX_apply (s : Fin 8) (r : Fin 128) (n : Fin 1024) :
    ptX m c t s (ix2 r n) = (argsOf m c).x1 (seq (row t (inTile s r))) (pos (row t (inTile s r))) n := by
  refine (segX_apply _ _ _ _ r n).trans ?_
  unfold Cert.Outproj.Args.x1
  have e0 : (fun j : Fin 512 => (at512 (F := Ideal) (iblk m c 0 t) s (ix2 r j) : EReal)) = (argsOf m c).ya (seq (row t (inTile s r))) (pos (row t (inTile s r))) :=
    funext fun j => (ld2 (iblk m c 0 t : Vec Ideal S1024x512 .bf16) (rows512 s) r j (inTile s r) j rfl (Nat.zero_add _).symm).trans (blk0 m c t _ j)
  have e1 : (fun j : Fin 512 => (at512 (F := Ideal) (iblk m c 1 t) s (ix2 r j) : EReal)) = (argsOf m c).yb (seq (row t (inTile s r))) (pos (row t (inTile s r))) :=
    funext fun j => (ld2 (iblk m c 1 t : Vec Ideal S1024x512 .bf16) (rows512 s) r j (inTile s r) j rfl (Nat.zero_add _).symm).trans (blk1 m c t _ j)
  have e2 : (at1024 (F := Ideal) (iblk m c 2 t) s (ix2 r n) : EReal) = (argsOf m c).x (seq (row t (inTile s r))) (pos (row t (inTile s r))) n :=
    (ld2 (iblk m c 2 t : Vec Ideal S1024x1024 .f32) (rows1024 s) r n (inTile s r) n rfl (Nat.zero_add _).symm).trans (blk2 m c t _ n)
  have e3 : (fun j : Fin 1024 => (allW (F := Ideal) (iblk m c 3 t) (ix2 j n) : EReal)) = fun j => (argsOf m c).w j n :=
    funext fun j => (ld2 (iblk m c 3 t : Vec Ideal S1024x1024 .bf16) inb_S1024x1024_S1024x1024_0_0 j n j n (Nat.zero_add _).symm (Nat.zero_add _).symm).trans (blk3 m c t j n)
  rw [e0, e1, e2, e3]

theorem ptH_apply (s : Fin 8) (r : Fin 128) (n : Fin 1024) :
    ptH m c t s (ix2 r n) = (argsOf m c).h (seq (row t (inTile s r))) (pos (row t (inTile s r))) n := by
  refine (segH_apply _ _ _ _ _ r n).trans ?_
  unfold Cert.Outproj.Args.h
  have e0 : (fun j : Fin 1024 => (ptX m c t s (ix2 r j) : EReal)) = (argsOf m c).x1 (seq (row t (inTile s r))) (pos (row t (inTile s r))) :=
    funext fun j => ptX_apply m c t s r j
  have e1 : (fun j : Fin 1024 => (allG (F := Ideal) (iblk m c 4 t) (ix2 (0 : Fin 1) j) : EReal)) = (argsOf m c).g :=
    funext fun j => (ld2 (iblk m c 4 t : Vec Ideal S1x1024 .f32) inb_S1x1024_S1x1024_0_0 (0 : Fin 1) j (0 : Fin 1) j rfl (Nat.zero_add _).symm).trans (blk4 m c t j)
  rw [← e0, ← e1]

theorem outX : (outsAt0 m c t.val t.isLt).1 = blkX (F := Ideal) (ptX m c t) := by
  by_cases h0 : t.val % 16 = 0
  · rw [outsAt0_A m c t h0]
    dsimp only
    exact out0_A_6_eq (F := Ideal) ..
  · rw [outsAt0_B m c t h0]
    dsimp only
    exact out0_B_6_eq (F := Ideal) ..

theorem outH : (outsAt0 m c t.val t.isLt).2.1 = blkH (F := Ideal) (ptH m c t) := by
  by_cases h0 : t.val % 16 = 0
  · rw [outsAt0_A m c t h0]
    dsimp only
    exact out0_A_7_eq (F := Ideal) ..
  · rw [outsAt0_B m c t h0]
    dsimp only
    exact out0_B_7_eq (F := Ideal) ..

end

/-- The first result. -/
def G6 : Vec Ideal S16384x1024 .f32 := fun i => (argsOf m c).flatX (i 0) (i 1)

/-- The second result. -/
def G7 : Vec Ideal S131072x128 .f32 := fun i => (argsOf m c).flatH (i 0) (i 1)

theorem final6 : (dats m 0 c).arrAt 6 cfg0.N = G6 m c := by
  refine (dats m 0 c).arrAt_eq_of_covers 6 _ (by decide +kernel) fun t hf y => ?_
  blk_simp
  rw [after0_6, outX]
  obtain ⟨r, n, rfl⟩ : ∃ (r n : Fin 1024), y = ix2 r n := ⟨y 0, y 1, eq_ix2 y⟩
  refine (ptX_apply m c t _ _ _).trans ?_
  unfold G6 Cert.Outproj.Args.flatX
  have e := (index_facts t).2.2.2.2.2.1
  have b0 : (((win0_6.blk t).view.emb (ix2 r n : S1024x1024.Idx)) 0).val = win0_6.index t 0 * 1024 + 1 * r.val := rfl
  have b1 : (((win0_6.blk t).view.emb (ix2 r n : S1024x1024.Idx)) 1).val = win0_6.index t 1 * 1024 + 1 * n.val := rfl
  rw [e] at b0 b1
  have f0 : row t (inTile ⟨r.val / 128, by omega⟩ ⟨r.val % 128, by omega⟩) = ((win0_6.blk t).view.emb (ix2 r n : S1024x1024.Idx)) 0 :=
    Fin.ext (by refine Eq.trans ?_ b0.symm; show 1024 * t.val + (128 * (r.val / 128) + r.val % 128) = t.val * 1024 + 1 * r.val; omega)
  have f1 : n = ((win0_6.blk t).view.emb (ix2 r n : S1024x1024.Idx)) 1 :=
    Fin.ext (by refine Eq.trans ?_ b1.symm; show n.val = 0 * 1024 + 1 * n.val; omega)
  exact congr (congrArg (fun R => (argsOf m c).x1 (seq R) (pos R)) f0) f1

theorem final7 : (dats m 0 c).arrAt 7 cfg0.N = G7 m c := by
  refine (dats m 0 c).arrAt_eq_of_covers 7 _ (by decide +kernel) fun t hf y => ?_
  blk_simp
  rw [after0_7, outH]
  obtain ⟨q, l, rfl⟩ : ∃ (q : Fin 8192) (l : Fin 128), y = ix2 q l := ⟨y 0, y 1, eq_ix2 y⟩
  refine (ptH_apply m c t _ _ _).trans ?_
  unfold G7 Cert.Outproj.Args.flatH
  have ht := bound t
  have e := (index_facts t).2.2.2.2.2.2
  have b0 : (((win0_7.blk t).view.emb (ix2 q l : S8192x128.Idx)) 0).val = win0_7.index t 0 * 8192 + 1 * q.val := rfl
  have b1 : (((win0_7.blk t).view.emb (ix2 q l : S8192x128.Idx)) 1).val = win0_7.index t 1 * 128 + 1 * l.val := rfl
  rw [e] at b0 b1
  generalize ((win0_7.blk t).view.emb (ix2 q l : S8192x128.Idx)) 0 = Q at b0 ⊢
  generalize ((win0_7.blk t).view.emb (ix2 q l : S8192x128.Idx)) 1 = L at b1 ⊢
  have b0 : Q.val = t.val * 8192 + 1 * q.val := b0
  have b1 : L.val = 0 * 128 + 1 * l.val := b1
  have f0 : row t (inTile ⟨q.val / 1024, by omega⟩ ⟨q.val / 8 % 128, by omega⟩) = (⟨Q.val / 8, by omega⟩ : Fin 16384) :=
    Fin.ext (by show 1024 * t.val + (128 * (q.val / 1024) + q.val / 8 % 128) = Q.val / 8; omega)
  have f1 : (⟨128 * (q.val % 8) + l.val, by omega⟩ : Fin 1024) = ⟨128 * (Q.val % 8) + L.val, by omega⟩ :=
    Fin.ext (by show 128 * (q.val % 8) + l.val = 128 * (Q.val % 8) + L.val; omega)
  exact congr (congrArg (fun R => (argsOf m c).h (seq R) (pos R)) f0) f1

/-- The run's two results, and its arguments as they were. -/
theorem run : θ_run defs (onTc (τ := τ) (main (F := Ideal))) ⟨m, fun _ => 0, ρ⟩ fun r => ∀ c : Dev nD,
      r.2.mem ((c.tc : Thread nD τ).loc main_v16_0) = G6 m c
      ∧ r.2.mem ((c.tc : Thread nD τ).loc main_v16_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 6).trans (final6 m c), ((h.1 c).1 7).trans (final7 m c), h.2 c⟩)
    (θ_run_and (run_main m ρ) (unchanged m ρ))

end Cert.Kernel3Ideal.Outproj

end
-- ==== Proof.Outproj.Reference.lean ====
/- The third reference's results over the extended reals, as the functions of `Math.lean` of its argument arrays. -/
module

public import proofs.«01_k».proof.Proof.Gen.Reference3Ideal.Run
public import proofs.«01_k».proof.Proof.Outproj.Math
import Idealize.ShloMosaic.Lib.Pointwise

@[expose] public section

set_option maxRecDepth 16384

noncomputable section

namespace Cert.Reference3Ideal.Outproj

open Cert.Reference3Ideal Cert.Reference3Ideal.Gen Cert.Reference3Ideal.Value Idealize.ShloMosaic Idealize.ShloMosaic.TcCoe Idealize.SL.Sem
open Idealize.ShloMosaic.StableHlo

/-- The rows after the projection is added. -/
def rX (ya yb : Vec Ideal S8x2048x512 .bf16) (x : Vec Ideal S8x2048x1024 .f32) (w : Vec Ideal S1x1024x1024 .f32) : Vec Ideal S8x2048x1024 .f32 :=
  addf (F := Ideal) (φ := .f32) x (Host.dotGeneral (φ₁ := .f32) (φ₂ := .f32) dot_S8x2048x1024_S1024x1024_S8x2048x1024_2_0_01_1_n_n none (concatenate S8x2048x1024 2 [⟨S8x2048x512, (extf (F := Ideal) (φ := .bf16) .f32 ya bitsLt_bf16_f32)⟩, ⟨S8x2048x512, (extf (F := Ideal) (φ := .bf16) .f32 yb bitsLt_bf16_f32)⟩] concatenates_S8x2048x512_S8x2048x512_S8x2048x1024_d2) (shapeCast _ w shapeCasts_S1x1024x1024_S1024x1024))

/-- Those rows normalised. -/
def rH (x : Vec Ideal S8x2048x1024 .f32) (g : Vec Ideal S1x1024 .f32) : Vec Ideal S8x2048x1024 .f32 :=
  mulf (F := Ideal) (φ := .f32) (mulf (F := Ideal) (φ := .f32) x (broadcastInDim S8x2048x1024 ![0, 1, 2] bcast_S8x2048x1_S8x2048x1024_0_1_2 (Host.rsqrt (addf (F := Ideal) (φ := .f32) (Host.divf (broadcastInDim S8x2048x1 ![0, 1] bcast_S8x2048_S8x2048x1_0_1 (Host.reduceAdd (mulf (F := Ideal) (φ := .f32) x x) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))

/-- The arguments as functions of their indices. -/
def args (ya yb : Vec Ideal S8x2048x512 .bf16) (x : Vec Ideal S8x2048x1024 .f32) (w : Vec Ideal S1x1024x1024 .f32) (g : Vec Ideal S1x1024 .f32) : Cert.Outproj.Args where
  ya b s j := ya (ix3 b s j)
  yb b s j := yb (ix3 b s j)
  x b s j := x (ix3 b s j)
  w j n := w (ix3 (0 : Fin 1) j n)
  g j := g (ix2 (0 : Fin 1) j)

section

variable (ya yb : Vec Ideal S8x2048x512 .bf16) (x : Vec Ideal S8x2048x1024 .f32) (w : Vec Ideal S1x1024x1024 .f32) (g : Vec Ideal S1x1024 .f32)

theorem rX_apply (b : Fin 8) (s : Fin 2048) (n : Fin 1024) : rX ya yb x w (ix3 b s n) = (args ya yb x w g).x1 b s n := by
  pointwise [rX, args, Cert.Outproj.Args.x1, Cert.Outproj.plus, Cert.Outproj.beside]

theorem rH_apply (b : Fin 8) (s : Fin 2048) (n : Fin 1024) : rH x g (ix3 b s n) = Cert.Inproj.norm (fun j => x (ix3 b s j)) (fun j => g (ix2 (0 : Fin 1) j)) n := by
  pointwise [rH, Cert.Inproj.norm, Cert.Inproj.width, Cert.Inproj.eps]

theorem h_eq (b : Fin 8) (s : Fin 2048) (n : Fin 1024) : rH (rX ya yb x w) g (ix3 b s n) = (args ya yb x w g).h b s n := by
  rw [rH_apply]
  simp only [rX_apply ya yb x w g]
  rfl

theorem flatX_eq (R : Fin 16384) (n : Fin 1024) :
    (shapeCast S16384x1024 (rX ya yb x w) shapeCasts_S8x2048x1024_S16384x1024 : Vec Ideal S16384x1024 .f32) (ix2 R n) = (args ya yb x w g).flatX R n := by
  pointwise
  exact rX_apply ya yb x w g _ _ _

theorem flatH_eq (Q : Fin 131072) (l : Fin 128) :
    (shapeCast S131072x128 (shapeCast S16384x1024 (rH (rX ya yb x w) g) shapeCasts_S8x2048x1024_S16384x1024) shapeCasts_S16384x1024_S131072x128 : Vec Ideal S131072x128 .f32) (ix2 Q l)
      = (args ya yb x w g).flatH Q l := by
  generalize hy : rH (rX ya yb x w) g = y
  pointwise
  subst hy
  rw [h_eq]
  unfold Cert.Outproj.Args.flatH
  have hq : Q.val < 131072 := Q.isLt
  have hl : l.val < 128 := l.isLt
  congr 1 <;> exact Fin.ext (by dsimp only; omega)

end

/-! ## The run -/

/-- The arguments as they are in memory at the launch. -/
def argsOf (m : (ℓ : Loc nD τ sig) → Buf (Elt Ideal) ℓ) (c : Dev nD) : Cert.Outproj.Args :=
  args (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun i : S16384x1024.Idx => (argsOf m c).flatX (i 0) (i 1))
      ∧ r.2.mem ((c.tc : Thread nD τ).loc main_v22) = (fun i : S131072x128.Idx => (argsOf m c).flatH (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference3Ideal.Value.run (F := Ideal) m ρ)
  obtain ⟨h1, h2, kept⟩ := h c
  refine ⟨h1.trans (funext fun i => ?_), h2.trans (funext fun i => ?_), kept⟩
  · idx_vars i
    exact flatX_eq _ _ _ _ _ _ _
  · idx_vars i
    exact flatH_eq _ _ _ _ _ _ _

end Cert.Reference3Ideal.Outproj

end
-- ==== Proof.lean ====
module

public import proofs.«01_k».proof.Defs
public import proofs.«01_k».proof.Proof.Scan.Same
public import proofs.«01_k».proof.Proof.Scan.Value
public import proofs.«01_k».proof.Proof.Scan.Reference
public import proofs.«01_k».proof.Proof.Inproj.Result
public import proofs.«01_k».proof.Proof.Inproj.Reference
public import proofs.«01_k».proof.Proof.Inproj.Finite
public import proofs.«01_k».proof.Proof.Gen.Kernel2Ideal.Value
public import proofs.«01_k».proof.Proof.Gen.Kernel2Ideal.Frame
public import proofs.«01_k».proof.Proof.Gen.Pre_all_finite
public import proofs.«01_k».proof.Proof.Gen.Kernel2.Frame
public import proofs.«01_k».proof.Proof.Gen.Reference2Ideal.Run
public import proofs.«01_k».proof.Proof.Outproj.Same
public import proofs.«01_k».proof.Proof.Outproj.Result
public import proofs.«01_k».proof.Proof.Outproj.Reference
public import proofs.«01_k».proof.Proof.Gen.Kernel3Ideal.Frame
public import proofs.«01_k».proof.Proof.Gen.Kernel3Ideal.Skeleton
public import proofs.«01_k».proof.Proof.Gen.Kernel3.Frame
public import proofs.«01_k».proof.Proof.Gen.Reference3Ideal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference's run, its counters at zero because it has none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Scan.run m ρ)

/-- Both programs end with `Cert.Recurrence.result` of the arguments. -/
theorem algebraic_KernelIdeal_ReferenceIdeal : algebraic_KernelIdeal_ReferenceIdeal := by
  intro m ρ m' ρ' _ hagree
  refine ⟨_, Cert.KernelIdeal.Scan.run m ρ, ?_⟩
  refine (θ_run Cert.ReferenceIdeal.defs _ _).mono (fun _ h c => ⟨(h c).1.trans ?_, (h c).2⟩) (Cert.ReferenceIdeal.Scan.run m' ρ')
  obtain ⟨h0, h1, h2, h3, h4, h5, h6, h7⟩ := hagree c
  unfold Cert.ReferenceIdeal.Scan.arr0 Cert.ReferenceIdeal.Scan.arr1 Cert.ReferenceIdeal.Scan.arr2 Cert.ReferenceIdeal.Scan.arr3
    Cert.ReferenceIdeal.Scan.arr4 Cert.ReferenceIdeal.Scan.arr5 Cert.ReferenceIdeal.Scan.arr6 Cert.ReferenceIdeal.Scan.arr7
  rw [h0, h1, h2, h3, h4, h5, h6, h7]

/-- The second reference's run, its counters at zero because it has none. -/
theorem quiescent_Reference2Ideal : quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Inproj.run m ρ)

/-- The arguments of the second pair are the same where the memories agree. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    Cert.Reference2Ideal.Inproj.argsOf m' c = Cert.Kernel2Ideal.Inproj.argsOf m c := by
  unfold Cert.Reference2Ideal.Inproj.argsOf
  rw [h0, h1, h2, h3, h4, h5, h6, h7]
  rfl

/-- Both programs of the second pair end with the same functions of the arguments, where the values they subtract and
    add back are real numbers. -/
theorem algebraic_Kernel2Ideal_Reference2Ideal_pre_all_finite : algebraic_Kernel2Ideal_Reference2Ideal_pre_all_finite := by
  intro m ρ m' ρ' hpre hagree
  refine ⟨Cert.Kernel2Ideal.Value.G9 m, Cert.Kernel2Ideal.Value.G10 m, Cert.Kernel2Ideal.Value.G11 m, Cert.Kernel2Ideal.Value.G12 m, Cert.Kernel2Ideal.Value.G13 m,
    Cert.Kernel2Ideal.Value.G15 m, (θ_run Cert.Kernel2Ideal.defs _ _).mono (fun _ h c => ?_) (Cert.Kernel2Ideal.Value.run (F := Ideal) m ρ),
    (θ_run Cert.Reference2Ideal.defs _ _).mono (fun _ h c => ?_) (Cert.Reference2Ideal.Inproj.run m' ρ')⟩
  · obtain ⟨e0, e1, e2, e3, e4, -, e6, kept⟩ := h c
    exact ⟨e0, e1, e2, e3, e4, e6, kept⟩
  · obtain ⟨e0, e1, e2, e3, e4, e5, kept⟩ := h c
    obtain ⟨h0, h1, h2, h3, h4, h5, h6, h7⟩ := hagree c
    have e := args_eq m m' c h0 h1 h2 h3 h4 h5 h6 h7
    rw [e] at e0 e1 e2 e3 e4 e5
    obtain ⟨hx, hg, hw, hc, ha, hd⟩ := Cert.Inproj.finite_of_pre _ _ _ _ _ _ _ _ (hpre c)
    have hS := Cert.Inproj.Args.isReal_short (Cert.Kernel2Ideal.Inproj.argsOf m c) (fun _ _ _ => hx _) (fun _ => hg _) (fun _ _ => hw _) (fun _ _ => hc _)
    have hD := Cert.Inproj.Args.isReal_dec (Cert.Kernel2Ideal.Inproj.argsOf m c) (fun _ _ _ => hx _) (fun _ => hg _) (fun _ _ => hw _) (fun _ => ha _) (fun _ => hd _)
    exact ⟨e0.trans (Cert.Kernel2Ideal.Inproj.G9_eq m c hS).symm, e1.trans (Cert.Kernel2Ideal.Inproj.G10_eq m c).symm, e2.trans (Cert.Kernel2Ideal.Inproj.G11_eq m c).symm,
      e3.trans (Cert.Kernel2Ideal.Inproj.G12_eq m c).symm, e4.trans (Cert.Kernel2Ideal.Inproj.G13_eq m c).symm, e5.trans (Cert.Kernel2Ideal.Inproj.G15_eq m c hD).symm, kept⟩

/-- The third reference's run, its counters at zero because it has none. -/
theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Outproj.run m ρ)

/-- Both programs of the third pair end with the same functions of the arguments. -/
theorem algebraic_Kernel3Ideal_Reference3Ideal : algebraic_Kernel3Ideal_Reference3Ideal := by
  intro m ρ m' ρ' _ hagree
  refine ⟨Cert.Kernel3Ideal.Outproj.G6 m, Cert.Kernel3Ideal.Outproj.G7 m, Cert.Kernel3Ideal.Outproj.run m ρ,
    (θ_run Cert.Reference3Ideal.defs _ _).mono (fun _ h c => ?_) (Cert.Reference3Ideal.Outproj.run m' ρ')⟩
  obtain ⟨e0, e1, kept⟩ := h c
  obtain ⟨h0, h1, h2, h3, h4, h5, h6⟩ := hagree c
  have e : Cert.Reference3Ideal.Outproj.argsOf m' c = Cert.Kernel3Ideal.Outproj.argsOf m c := by
    unfold Cert.Reference3Ideal.Outproj.argsOf
    rw [h0, h1, h2, h3, h4]
    rfl
  rw [e] at e0 e1
  exact ⟨e0, e1, kept⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_all_finite.Gen.facts,
  fun m ρ _ => Cert.Kernel.Scan.kept m ρ, fun m ρ _ => Cert.KernelIdeal.Scan.kept m ρ, quiescent_ReferenceIdeal,
  fun m ρ _ => Cert.Kernel2.Gen.frame m ρ, fun m ρ _ => Cert.Kernel2Ideal.Gen.frame m ρ, fun m ρ _ => Cert.Kernel2Ideal.Gen.frame m ρ,
  quiescent_Reference2Ideal, fun m ρ _ => quiescent_Reference2Ideal m ρ trivial,
  fun m ρ _ => Cert.Kernel3.Outproj.frame m ρ, fun m ρ _ => Cert.Kernel3Ideal.Outproj.frame m ρ, quiescent_Reference3Ideal,
  (trivial : preserves_Kernel_KernelIdeal), algebraic_KernelIdeal_ReferenceIdeal,
  (trivial : preserves_Kernel2_Kernel2Ideal), algebraic_Kernel2Ideal_Reference2Ideal_pre_all_finite,
  (trivial : preserves_Kernel3_Kernel3Ideal), algebraic_Kernel3Ideal_Reference3Ideal⟩

end Cert.Proof

end
